-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Memattn (m : (ℓ : Loc Cert.Memattn.nD Cert.Memattn.τ Cert.Memattn.sig) → Buf (Elt Bits) ℓ) : Prop :=
  True

def Pre_MemattnIdeal (m : (ℓ : Loc Cert.MemattnIdeal.nD Cert.MemattnIdeal.τ Cert.MemattnIdeal.sig) → Buf (Elt Ideal) ℓ) : Prop :=
  True

def Pre_MemattnIdeal_finite_memory_scores [hPre_finite_memory_scores : Cert.Pre_finite_memory_scores.Facts] (m : (ℓ : Loc Cert.MemattnIdeal.nD Cert.MemattnIdeal.τ Cert.MemattnIdeal.sig) → Buf (Elt Ideal) ℓ) : Prop :=
  ∀ c : Dev Cert.MemattnIdeal.nD,
    (Cert.Pre_finite_memory_scores.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1)) (m ((c.tc : Thread Cert.MemattnIdeal.nD Cert.MemattnIdeal.τ).loc Cert.MemattnIdeal.main_arg2)) (m ((c.tc : Thread Cert.MemattnIdeal.nD Cert.MemattnIdeal.τ).loc Cert.MemattnIdeal.main_arg3)) (m ((c.tc : Thread Cert.MemattnIdeal.nD Cert.MemattnIdeal.τ).loc Cert.MemattnIdeal.main_arg4)) (m ((c.tc : Thread Cert.MemattnIdeal.nD Cert.MemattnIdeal.τ).loc Cert.MemattnIdeal.main_arg5)) (m ((c.tc : Thread Cert.MemattnIdeal.nD Cert.MemattnIdeal.τ).loc Cert.MemattnIdeal.main_arg6))) = (fun _ => 1#1)

def Pre_MemattnRefIdeal (m : (ℓ : Loc Cert.MemattnRefIdeal.nD Cert.MemattnRefIdeal.τ Cert.MemattnRefIdeal.sig) → Buf (Elt Ideal) ℓ) : Prop :=
  True

def Pre_MemattnRefIdeal_finite_memory_scores [hPre_finite_memory_scores : Cert.Pre_finite_memory_scores.Facts] (m : (ℓ : Loc Cert.MemattnRefIdeal.nD Cert.MemattnRefIdeal.τ Cert.MemattnRefIdeal.sig) → Buf (Elt Ideal) ℓ) : Prop :=
  ∀ c : Dev Cert.MemattnRefIdeal.nD,
    (Cert.Pre_finite_memory_scores.fn (F := Ideal) (m ((c.tc : Thread Cert.MemattnRefIdeal.nD Cert.MemattnRefIdeal.τ).loc Cert.MemattnRefIdeal.main_arg0)) (m ((c.tc : Thread Cert.MemattnRefIdeal.nD Cert.MemattnRefIdeal.τ).loc Cert.MemattnRefIdeal.main_arg1)) (m ((c.tc : Thread Cert.MemattnRefIdeal.nD Cert.MemattnRefIdeal.τ).loc Cert.MemattnRefIdeal.main_arg2)) (m ((c.tc : Thread Cert.MemattnRefIdeal.nD Cert.MemattnRefIdeal.τ).loc Cert.MemattnRefIdeal.main_arg3)) (m ((c.tc : Thread Cert.MemattnRefIdeal.nD Cert.MemattnRefIdeal.τ).loc Cert.MemattnRefIdeal.main_arg4)) (m ((c.tc : Thread Cert.MemattnRefIdeal.nD Cert.MemattnRefIdeal.τ).loc Cert.MemattnRefIdeal.main_arg5)) (m ((c.tc : Thread Cert.MemattnRefIdeal.nD Cert.MemattnRefIdeal.τ).loc Cert.MemattnRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3)
      ∧ r.2.mem ((c.tc : Thread Cert.Memkv.nD Cert.Memkv.τ).loc Cert.Memkv.main_arg4) = m ((c.tc : Thread Cert.Memkv.nD Cert.Memkv.τ).loc Cert.Memkv.main_arg4))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
      ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3)
      ∧ r.2.mem ((c.tc : Thread Cert.MemkvRefIdeal.nD Cert.MemkvRefIdeal.τ).loc Cert.MemkvRefIdeal.main_arg4) = m ((c.tc : Thread Cert.MemkvRefIdeal.nD Cert.MemkvRefIdeal.τ).loc Cert.MemkvRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Memattn [hMemattn : Cert.Memattn.Facts] : Prop :=
  ∀ (m : (ℓ : Loc Cert.Memattn.nD Cert.Memattn.τ Cert.Memattn.sig) → Buf (Elt Bits) ℓ) (g : Dev Cert.Memattn.nD → PrngReg), Pre_Memattn m →
    θ_run (Cert.Memattn.defs (F := Bits)) (onTc (τ := Cert.Memattn.τ) (Cert.Memattn.main (F := Bits))) ⟨m, fun _ => 0, g⟩ (fun r => (∀ c : Dev Cert.Memattn.nD,
      r.2.mem ((c.tc : Thread Cert.Memattn.nD Cert.Memattn.τ).loc Cert.Memattn.main_arg0) = m ((c.tc : Thread Cert.Memattn.nD Cert.Memattn.τ).loc Cert.Memattn.main_arg0)
      ∧ r.2.mem ((c.tc : Thread Cert.Memattn.nD Cert.Memattn.τ).loc Cert.Memattn.main_arg1) = m ((c.tc : Thread Cert.Memattn.nD Cert.Memattn.τ).loc Cert.Memattn.main_arg1)
      ∧ r.2.mem ((c.tc : Thread Cert.Memattn.nD Cert.Memattn.τ).loc Cert.Memattn.main_arg2) = m ((c.tc : Thread Cert.Memattn.nD Cert.Memattn.τ).loc Cert.Memattn.main_arg2)
      ∧ r.2.mem ((c.tc : Thread Cert.Memattn.nD Cert.Memattn.τ).loc Cert.Memattn.main_arg3) = m ((c.tc : Thread Cert.Memattn.nD Cert.Memattn.τ).loc Cert.Memattn.main_arg3)
      ∧ r.2.mem ((c.tc : Thread Cert.Memattn.nD Cert.Memattn.τ).loc Cert.Memattn.main_arg4) = m ((c.tc : Thread Cert.Memattn.nD Cert.Memattn.τ).loc Cert.Memattn.main_arg4)
      ∧ r.2.mem ((c.tc : Thread Cert.Memattn.nD Cert.Memattn.τ).loc Cert.Memattn.main_arg5) = m ((c.tc : Thread Cert.Memattn.nD Cert.Memattn.τ).loc Cert.Memattn.main_arg5)
      ∧ r.2.mem ((c.tc : Thread Cert.Memattn.nD Cert.Memattn.τ).loc Cert.Memattn.main_arg6) = m ((c.tc : Thread Cert.Memattn.nD Cert.Memattn.τ).loc Cert.Memattn.main_arg6))
      ∧ r.2.sem = fun _ => 0)

def quiescent_MemattnIdeal [hMemattnIdeal : Cert.MemattnIdeal.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
      ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
      ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
      ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5)
      ∧ r.2.mem ((c.tc : Thread Cert.MemattnIdeal.nD Cert.MemattnIdeal.τ).loc Cert.MemattnIdeal.main_arg6) = m ((c.tc : Thread Cert.MemattnIdeal.nD Cert.MemattnIdeal.τ).loc Cert.MemattnIdeal.main_arg6))
      ∧ r.2.sem = fun _ => 0)

def quiescent_MemattnIdeal_pre_finite_memory_scores [hMemattnIdeal : Cert.MemattnIdeal.Facts] [hPre_finite_memory_scores : Cert.Pre_finite_memory_scores.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal_finite_memory_scores m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
      ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
      ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
      ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5)
      ∧ r.2.mem ((c.tc : Thread Cert.MemattnIdeal.nD Cert.MemattnIdeal.τ).loc Cert.MemattnIdeal.main_arg6) = m ((c.tc : Thread Cert.MemattnIdeal.nD Cert.MemattnIdeal.τ).loc Cert.MemattnIdeal.main_arg6))
      ∧ r.2.sem = fun _ => 0)

def quiescent_MemattnRefIdeal [hMemattnRefIdeal : Cert.MemattnRefIdeal.Facts] : Prop :=
  ∀ (m : (ℓ : Loc Cert.MemattnRefIdeal.nD Cert.MemattnRefIdeal.τ Cert.MemattnRefIdeal.sig) → Buf (Elt Ideal) ℓ) (g : Dev Cert.MemattnRefIdeal.nD → PrngReg), Pre_MemattnRefIdeal m →
    θ_run (Cert.MemattnRefIdeal.defs (F := Ideal)) (onTc (τ := Cert.MemattnRefIdeal.τ) (Cert.MemattnRefIdeal.main (F := Ideal))) ⟨m, fun _ => 0, g⟩ (fun r => (∀ c : Dev Cert.MemattnRefIdeal.nD,
      r.2.mem ((c.tc : Thread Cert.MemattnRefIdeal.nD Cert.MemattnRefIdeal.τ).loc Cert.MemattnRefIdeal.main_arg0) = m ((c.tc : Thread Cert.MemattnRefIdeal.nD Cert.MemattnRefIdeal.τ).loc Cert.MemattnRefIdeal.main_arg0)
      ∧ r.2.mem ((c.tc : Thread Cert.MemattnRefIdeal.nD Cert.MemattnRefIdeal.τ).loc Cert.MemattnRefIdeal.main_arg1) = m ((c.tc : Thread Cert.MemattnRefIdeal.nD Cert.MemattnRefIdeal.τ).loc Cert.MemattnRefIdeal.main_arg1)
      ∧ r.2.mem ((c.tc : Thread Cert.MemattnRefIdeal.nD Cert.MemattnRefIdeal.τ).loc Cert.MemattnRefIdeal.main_arg2) = m ((c.tc : Thread Cert.MemattnRefIdeal.nD Cert.MemattnRefIdeal.τ).loc Cert.MemattnRefIdeal.main_arg2)
      ∧ r.2.mem ((c.tc : Thread Cert.MemattnRefIdeal.nD Cert.MemattnRefIdeal.τ).loc Cert.MemattnRefIdeal.main_arg3) = m ((c.tc : Thread Cert.MemattnRefIdeal.nD Cert.MemattnRefIdeal.τ).loc Cert.MemattnRefIdeal.main_arg3)
      ∧ r.2.mem ((c.tc : Thread Cert.MemattnRefIdeal.nD Cert.MemattnRefIdeal.τ).loc Cert.MemattnRefIdeal.main_arg4) = m ((c.tc : Thread Cert.MemattnRefIdeal.nD Cert.MemattnRefIdeal.τ).loc Cert.MemattnRefIdeal.main_arg4)
      ∧ r.2.mem ((c.tc : Thread Cert.MemattnRefIdeal.nD Cert.MemattnRefIdeal.τ).loc Cert.MemattnRefIdeal.main_arg5) = m ((c.tc : Thread Cert.MemattnRefIdeal.nD Cert.MemattnRefIdeal.τ).loc Cert.MemattnRefIdeal.main_arg5)
      ∧ r.2.mem ((c.tc : Thread Cert.MemattnRefIdeal.nD Cert.MemattnRefIdeal.τ).loc Cert.MemattnRefIdeal.main_arg6) = m ((c.tc : Thread Cert.MemattnRefIdeal.nD Cert.MemattnRefIdeal.τ).loc Cert.MemattnRefIdeal.main_arg6))
      ∧ r.2.sem = fun _ => 0)

def quiescent_MemattnRefIdeal_pre_finite_memory_scores [hMemattnRefIdeal : Cert.MemattnRefIdeal.Facts] [hPre_finite_memory_scores : Cert.Pre_finite_memory_scores.Facts] : Prop :=
  ∀ (m : (ℓ : Loc Cert.MemattnRefIdeal.nD Cert.MemattnRefIdeal.τ Cert.MemattnRefIdeal.sig) → Buf (Elt Ideal) ℓ) (g : Dev Cert.MemattnRefIdeal.nD → PrngReg), Pre_MemattnRefIdeal_finite_memory_scores m →
    θ_run (Cert.MemattnRefIdeal.defs (F := Ideal)) (onTc (τ := Cert.MemattnRefIdeal.τ) (Cert.MemattnRefIdeal.main (F := Ideal))) ⟨m, fun _ => 0, g⟩ (fun r => (∀ c : Dev Cert.MemattnRefIdeal.nD,
      r.2.mem ((c.tc : Thread Cert.MemattnRefIdeal.nD Cert.MemattnRefIdeal.τ).loc Cert.MemattnRefIdeal.main_arg0) = m ((c.tc : Thread Cert.MemattnRefIdeal.nD Cert.MemattnRefIdeal.τ).loc Cert.MemattnRefIdeal.main_arg0)
      ∧ r.2.mem ((c.tc : Thread Cert.MemattnRefIdeal.nD Cert.MemattnRefIdeal.τ).loc Cert.MemattnRefIdeal.main_arg1) = m ((c.tc : Thread Cert.MemattnRefIdeal.nD Cert.MemattnRefIdeal.τ).loc Cert.MemattnRefIdeal.main_arg1)
      ∧ r.2.mem ((c.tc : Thread Cert.MemattnRefIdeal.nD Cert.MemattnRefIdeal.τ).loc Cert.MemattnRefIdeal.main_arg2) = m ((c.tc : Thread Cert.MemattnRefIdeal.nD Cert.MemattnRefIdeal.τ).loc Cert.MemattnRefIdeal.main_arg2)
      ∧ r.2.mem ((c.tc : Thread Cert.MemattnRefIdeal.nD Cert.MemattnRefIdeal.τ).loc Cert.MemattnRefIdeal.main_arg3) = m ((c.tc : Thread Cert.MemattnRefIdeal.nD Cert.MemattnRefIdeal.τ).loc Cert.MemattnRefIdeal.main_arg3)
      ∧ r.2.mem ((c.tc : Thread Cert.MemattnRefIdeal.nD Cert.MemattnRefIdeal.τ).loc Cert.MemattnRefIdeal.main_arg4) = m ((c.tc : Thread Cert.MemattnRefIdeal.nD Cert.MemattnRefIdeal.τ).loc Cert.MemattnRefIdeal.main_arg4)
      ∧ r.2.mem ((c.tc : Thread Cert.MemattnRefIdeal.nD Cert.MemattnRefIdeal.τ).loc Cert.MemattnRefIdeal.main_arg5) = m ((c.tc : Thread Cert.MemattnRefIdeal.nD Cert.MemattnRefIdeal.τ).loc Cert.MemattnRefIdeal.main_arg5)
      ∧ r.2.mem ((c.tc : Thread Cert.MemattnRefIdeal.nD Cert.MemattnRefIdeal.τ).loc Cert.MemattnRefIdeal.main_arg6) = m ((c.tc : Thread Cert.MemattnRefIdeal.nD Cert.MemattnRefIdeal.τ).loc Cert.MemattnRefIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v6)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v6) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v20) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v7)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v7) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v33) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)
      ∧ m' ((c.tc : Thread Cert.MemkvRefIdeal.nD Cert.MemkvRefIdeal.τ).loc Cert.MemkvRefIdeal.main_arg4) = m ((c.tc : Thread Cert.MemkvIdeal.nD Cert.MemkvIdeal.τ).loc Cert.MemkvIdeal.main_arg4)) →
    ∃ (v0 : (c : Dev Cert.MemkvIdeal.nD) → Buf (Elt Ideal) ((c.tc : Thread Cert.MemkvIdeal.nD Cert.MemkvIdeal.τ).loc Cert.MemkvIdeal.main_v5_0)) (v1 : (c : Dev Cert.MemkvIdeal.nD) → Buf (Elt Ideal) ((c.tc : Thread Cert.MemkvIdeal.nD Cert.MemkvIdeal.τ).loc Cert.MemkvIdeal.main_v5_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v5_0) = v0 c
          ∧ r.2.mem ((c.tc : Thread Cert.MemkvIdeal.nD Cert.MemkvIdeal.τ).loc Cert.MemkvIdeal.main_v5_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
          ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v30) = v0 c
          ∧ r.2.mem ((c.tc : Thread Cert.MemkvRefIdeal.nD Cert.MemkvRefIdeal.τ).loc Cert.MemkvRefIdeal.main_v31) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3)
          ∧ r.2.mem ((c.tc : Thread Cert.MemkvRefIdeal.nD Cert.MemkvRefIdeal.τ).loc Cert.MemkvRefIdeal.main_arg4) = m' ((c.tc : Thread Cert.MemkvRefIdeal.nD Cert.MemkvRefIdeal.τ).loc Cert.MemkvRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)) (v2 : (c : Dev Cert.InprojIdeal.nD) → Buf (Elt Ideal) ((c.tc : Thread Cert.InprojIdeal.nD Cert.InprojIdeal.τ).loc Cert.InprojIdeal.main_v5_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_v5_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v47) = v0 c
          ∧ r.2.mem ((c.tc : Thread Cert.InprojRefIdeal.nD Cert.InprojRefIdeal.τ).loc Cert.InprojRefIdeal.main_v50) = v1 c
          ∧ r.2.mem ((c.tc : Thread Cert.InprojRefIdeal.nD Cert.InprojRefIdeal.τ).loc Cert.InprojRefIdeal.main_v52) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Memattn_MemattnIdeal : Prop :=
  True

def algebraic_MemattnIdeal_MemattnRefIdeal_pre_finite_memory_scores [hMemattnIdeal : Cert.MemattnIdeal.Facts] [hMemattnRefIdeal : Cert.MemattnRefIdeal.Facts] [hPre_finite_memory_scores : Cert.Pre_finite_memory_scores.Facts] : Prop :=
  ∀ (m : (ℓ : Loc Cert.MemattnIdeal.nD Cert.MemattnIdeal.τ Cert.MemattnIdeal.sig) → Buf (Elt Ideal) ℓ) (g : Dev Cert.MemattnIdeal.nD → PrngReg)
    (m' : (ℓ : Loc Cert.MemattnRefIdeal.nD Cert.MemattnRefIdeal.τ Cert.MemattnRefIdeal.sig) → Buf (Elt Ideal) ℓ) (g' : Dev Cert.MemattnRefIdeal.nD → PrngReg), Pre_MemattnIdeal_finite_memory_scores m →
    (∀ c : Dev Cert.MemattnIdeal.nD,
      m' ((c.tc : Thread Cert.MemattnRefIdeal.nD Cert.MemattnRefIdeal.τ).loc Cert.MemattnRefIdeal.main_arg0) = m ((c.tc : Thread Cert.MemattnIdeal.nD Cert.MemattnIdeal.τ).loc Cert.MemattnIdeal.main_arg0)
      ∧ m' ((c.tc : Thread Cert.MemattnRefIdeal.nD Cert.MemattnRefIdeal.τ).loc Cert.MemattnRefIdeal.main_arg1) = m ((c.tc : Thread Cert.MemattnIdeal.nD Cert.MemattnIdeal.τ).loc Cert.MemattnIdeal.main_arg1)
      ∧ m' ((c.tc : Thread Cert.MemattnRefIdeal.nD Cert.MemattnRefIdeal.τ).loc Cert.MemattnRefIdeal.main_arg2) = m ((c.tc : Thread Cert.MemattnIdeal.nD Cert.MemattnIdeal.τ).loc Cert.MemattnIdeal.main_arg2)
      ∧ m' ((c.tc : Thread Cert.MemattnRefIdeal.nD Cert.MemattnRefIdeal.τ).loc Cert.MemattnRefIdeal.main_arg3) = m ((c.tc : Thread Cert.MemattnIdeal.nD Cert.MemattnIdeal.τ).loc Cert.MemattnIdeal.main_arg3)
      ∧ m' ((c.tc : Thread Cert.MemattnRefIdeal.nD Cert.MemattnRefIdeal.τ).loc Cert.MemattnRefIdeal.main_arg4) = m ((c.tc : Thread Cert.MemattnIdeal.nD Cert.MemattnIdeal.τ).loc Cert.MemattnIdeal.main_arg4)
      ∧ m' ((c.tc : Thread Cert.MemattnRefIdeal.nD Cert.MemattnRefIdeal.τ).loc Cert.MemattnRefIdeal.main_arg5) = m ((c.tc : Thread Cert.MemattnIdeal.nD Cert.MemattnIdeal.τ).loc Cert.MemattnIdeal.main_arg5)
      ∧ m' ((c.tc : Thread Cert.MemattnRefIdeal.nD Cert.MemattnRefIdeal.τ).loc Cert.MemattnRefIdeal.main_arg6) = m ((c.tc : Thread Cert.MemattnIdeal.nD Cert.MemattnIdeal.τ).loc Cert.MemattnIdeal.main_arg6)) →
    ∃ (v0 : (c : Dev Cert.MemattnIdeal.nD) → Buf (Elt Ideal) ((c.tc : Thread Cert.MemattnIdeal.nD Cert.MemattnIdeal.τ).loc Cert.MemattnIdeal.main_v7)),
      θ_run (Cert.MemattnIdeal.defs (F := Ideal)) (onTc (τ := Cert.MemattnIdeal.τ) (Cert.MemattnIdeal.main (F := Ideal))) ⟨m, fun _ => 0, g⟩ (fun r => ∀ c : Dev Cert.MemattnIdeal.nD,
          r.2.mem ((c.tc : Thread Cert.MemattnIdeal.nD Cert.MemattnIdeal.τ).loc Cert.MemattnIdeal.main_v7) = v0 c
          ∧ r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
          ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
          ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
          ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
          ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
          ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5)
          ∧ r.2.mem ((c.tc : Thread Cert.MemattnIdeal.nD Cert.MemattnIdeal.τ).loc Cert.MemattnIdeal.main_arg6) = m ((c.tc : Thread Cert.MemattnIdeal.nD Cert.MemattnIdeal.τ).loc Cert.MemattnIdeal.main_arg6))
      ∧ θ_run (Cert.MemattnRefIdeal.defs (F := Ideal)) (onTc (τ := Cert.MemattnRefIdeal.τ) (Cert.MemattnRefIdeal.main (F := Ideal))) ⟨m', fun _ => 0, g'⟩ (fun r => ∀ c : Dev Cert.MemattnRefIdeal.nD,
          r.2.mem ((c.tc : Thread Cert.MemattnRefIdeal.nD Cert.MemattnRefIdeal.τ).loc Cert.MemattnRefIdeal.main_v47) = v0 c
          ∧ r.2.mem ((c.tc : Thread Cert.MemattnRefIdeal.nD Cert.MemattnRefIdeal.τ).loc Cert.MemattnRefIdeal.main_arg0) = m' ((c.tc : Thread Cert.MemattnRefIdeal.nD Cert.MemattnRefIdeal.τ).loc Cert.MemattnRefIdeal.main_arg0)
          ∧ r.2.mem ((c.tc : Thread Cert.MemattnRefIdeal.nD Cert.MemattnRefIdeal.τ).loc Cert.MemattnRefIdeal.main_arg1) = m' ((c.tc : Thread Cert.MemattnRefIdeal.nD Cert.MemattnRefIdeal.τ).loc Cert.MemattnRefIdeal.main_arg1)
          ∧ r.2.mem ((c.tc : Thread Cert.MemattnRefIdeal.nD Cert.MemattnRefIdeal.τ).loc Cert.MemattnRefIdeal.main_arg2) = m' ((c.tc : Thread Cert.MemattnRefIdeal.nD Cert.MemattnRefIdeal.τ).loc Cert.MemattnRefIdeal.main_arg2)
          ∧ r.2.mem ((c.tc : Thread Cert.MemattnRefIdeal.nD Cert.MemattnRefIdeal.τ).loc Cert.MemattnRefIdeal.main_arg3) = m' ((c.tc : Thread Cert.MemattnRefIdeal.nD Cert.MemattnRefIdeal.τ).loc Cert.MemattnRefIdeal.main_arg3)
          ∧ r.2.mem ((c.tc : Thread Cert.MemattnRefIdeal.nD Cert.MemattnRefIdeal.τ).loc Cert.MemattnRefIdeal.main_arg4) = m' ((c.tc : Thread Cert.MemattnRefIdeal.nD Cert.MemattnRefIdeal.τ).loc Cert.MemattnRefIdeal.main_arg4)
          ∧ r.2.mem ((c.tc : Thread Cert.MemattnRefIdeal.nD Cert.MemattnRefIdeal.τ).loc Cert.MemattnRefIdeal.main_arg5) = m' ((c.tc : Thread Cert.MemattnRefIdeal.nD Cert.MemattnRefIdeal.τ).loc Cert.MemattnRefIdeal.main_arg5)
          ∧ r.2.mem ((c.tc : Thread Cert.MemattnRefIdeal.nD Cert.MemattnRefIdeal.τ).loc Cert.MemattnRefIdeal.main_arg6) = m' ((c.tc : Thread Cert.MemattnRefIdeal.nD Cert.MemattnRefIdeal.τ).loc Cert.MemattnRefIdeal.main_arg6))

def Claim : Prop :=
  ∃ (hKernel : Cert.Kernel.Facts) (hKernelIdeal : Cert.KernelIdeal.Facts) (hReferenceIdeal : Cert.ReferenceIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hMemkv : Cert.Memkv.Facts) (hMemkvIdeal : Cert.MemkvIdeal.Facts) (hMemkvRefIdeal : Cert.MemkvRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hMemattn : Cert.Memattn.Facts) (hMemattnIdeal : Cert.MemattnIdeal.Facts) (hMemattnRefIdeal : Cert.MemattnRefIdeal.Facts) (hPre_finite_scores : Cert.Pre_finite_scores.Facts) (hPre_finite_memory_scores : Cert.Pre_finite_memory_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Memattn (hMemattn := hMemattn)
    ∧ quiescent_MemattnIdeal (hMemattnIdeal := hMemattnIdeal)
    ∧ quiescent_MemattnIdeal_pre_finite_memory_scores (hMemattnIdeal := hMemattnIdeal) (hPre_finite_memory_scores := hPre_finite_memory_scores)
    ∧ quiescent_MemattnRefIdeal (hMemattnRefIdeal := hMemattnRefIdeal)
    ∧ quiescent_MemattnRefIdeal_pre_finite_memory_scores (hMemattnRefIdeal := hMemattnRefIdeal) (hPre_finite_memory_scores := hPre_finite_memory_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Memkv_MemkvIdeal
    ∧ algebraic_MemkvIdeal_MemkvRefIdeal (hMemkvIdeal := hMemkvIdeal) (hMemkvRefIdeal := hMemkvRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Memattn_MemattnIdeal
    ∧ algebraic_MemattnIdeal_MemattnRefIdeal_pre_finite_memory_scores (hMemattnIdeal := hMemattnIdeal) (hMemattnRefIdeal := hMemattnRefIdeal) (hPre_finite_memory_scores := hPre_finite_memory_scores)
-- ==== Pre_finite_memory_scores.lean ====
abbrev S8x4096x2048 : Shape := ⟨3, ![8, 4096, 2048]⟩
abbrev S2048 : Shape := ⟨1, ![2048]⟩
abbrev S2048x512 : Shape := ⟨2, ![2048, 512]⟩
abbrev S128 : Shape := ⟨1, ![128]⟩
abbrev S8x256x4x128 : Shape := ⟨4, ![8, 256, 4, 128]⟩
abbrev S512x2048 : Shape := ⟨2, ![512, 2048]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S8x256x4x128 : S_.BroadcastsInDim S8x256x4x128 (![] : Fin 0 → Fin S8x256x4x128.rank)
  reducesTo_S8x256x4x128_S_d0_1_2_3 : S8x256x4x128.ReducesTo [0, 1, 2, 3] S_

variable [Facts]

def fn {F : FTy → Type} [FloatOps F] (main_arg0 : FVec F S8x4096x2048 .f32) (main_arg1 : FVec F S2048 .f32) (main_arg2 : FVec F S2048x512 .f32) (main_arg3 : FVec F S128 .f32) (main_arg4 : FVec F S8x256x4x128 .f32) (main_arg5 : FVec F S8x256x4x128 .f32) (main_arg6 : FVec F S512x2048 .f32) : IVec S_ 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S8x256x4x128 .f32 := Host.absf main_arg4
  let main_cst_0 : FVec F S_ .f32 := constant S_ .f32 0x7F800000#32
  let main_v5 : FVec F S8x256x4x128 .f32 := broadcastInDim S8x256x4x128 ![] bcast_S_S8x256x4x128 main_cst_0
  let main_v6 : IVec S8x256x4x128 1 := cmpf .olt main_v4 main_v5
  let main_c_1 : IVec S_ 1 := constantI S_ 1 1#1
  let main_v7 : IVec S_ 1 := (fun x v => Host.reduce IntOp.andi x v reducesTo_S8x256x4x128_S_d0_1_2_3 h_S_) main_v6 main_c_1
  let main_v8 : IVec S_ 1 := andi main_v3 main_v7
  main_v8
-- ==== Pre_finite_scores.lean ====
abbrev S32768x1024 : Shape := ⟨2, ![32768, 1024]⟩
abbrev S32768x4096 : Shape := ⟨2, ![32768, 4096]⟩
abbrev S8x513 : Shape := ⟨2, ![8, 513]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S32768x4096_S32768x1024_0_0 : S32768x4096.Slices ![0, 0] S32768x1024
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S32768x1024 .bf16) (main_arg1 : FVec F S32768x4096 .f32) (main_arg2 : FVec F S8x513 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extractStridedSlice S32768x1024 ![0, 0] · slices_S32768x4096_S32768x1024_0_0) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  let main_v11 : FVec F S8x513 .f32 := Host.absf main_arg2
  let main_cst_2 : FVec F S_ .f32 := constant S_ .f32 0x7F800000#32
  let main_v12 : FVec F S8x513 .f32 := broadcastInDim S8x513 ![] bcast_S_S8x513 main_cst_2
  let main_v13 : IVec S8x513 1 := cmpf .olt main_v11 main_v12
  let main_c_3 : IVec S_ 1 := constantI S_ 1 1#1
  let main_v14 : IVec S_ 1 := (fun x v => Host.reduce IntOp.andi x v reducesTo_S8x513_S_d0_1 h_S_) main_v13 main_c_3
  let main_v15 : IVec S_ 1 := andi main_v10 main_v14
  main_v15
-- ==== Kernel.lean ====
abbrev S32768x1024 : Shape := ⟨2, ![32768, 1024]⟩
abbrev S32768x4096 : Shape := ⟨2, ![32768, 4096]⟩
abbrev S8x513 : Shape := ⟨2, ![8, 513]⟩
abbrev S3x1024 : Shape := ⟨2, ![3, 1024]⟩
abbrev S_ : Shape := ⟨0, ![]⟩
abbrev S3x1024x1 : Shape := ⟨3, ![3, 1024, 1]⟩
abbrev S8x3x1024 : Shape := ⟨3, ![8, 3, 1024]⟩
abbrev S3x256x768 : Shape := ⟨3, ![3, 256, 768]⟩
abbrev S4096x128 : Shape := ⟨2, ![4096, 128]⟩
abbrev S1x3x1024 : Shape := ⟨3, ![1, 3, 1024]⟩
abbrev S1x1x1024 : Shape := ⟨3, ![1, 1, 1024]⟩
abbrev S1x1024 : Shape := ⟨2, ![1, 1024]⟩
abbrev S256x1024 : Shape := ⟨2, ![256, 1024]⟩
abbrev S1x256x768 : Shape := ⟨3, ![1, 256, 768]⟩
abbrev S256x768 : Shape := ⟨2, ![256, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 36
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x4096, .f32⟩
  | .hbm, ⟨2, _⟩ => ⟨S8x513, .f32⟩
  | .hbm, ⟨3, _⟩ => ⟨S3x1024, .i32⟩
  | .hbm, ⟨4, _⟩ => ⟨S3x1024, .i1⟩
  | .hbm, ⟨5, _⟩ => ⟨S_, .i32⟩
  | .hbm, ⟨6, _⟩ => ⟨S3x1024, .i32⟩
  | .hbm, ⟨7, _⟩ => ⟨S3x1024, .i32⟩
  | .hbm, ⟨8, _⟩ => ⟨S3x1024, .i32⟩
  | .hbm, ⟨9, _⟩ => ⟨S3x1024x1, .i32⟩
  | .hbm, ⟨10, _⟩ => ⟨S8x3x1024, .f32⟩
  | .hbm, ⟨11, _⟩ => ⟨S3x256x768, .i32⟩
  | .hbm, ⟨12, _⟩ => ⟨S_, .i32⟩
  | .hbm, ⟨13, _⟩ => ⟨S3x256x768, .i32⟩
  | .hbm, ⟨14, _⟩ => ⟨S3x256x768, .i32⟩
  | .hbm, ⟨15, _⟩ => ⟨S3x256x768, .i32⟩
  | .hbm, ⟨16, _⟩ => ⟨S3x256x768, .i32⟩
  | .hbm, ⟨17, _⟩ => ⟨S_, .i32⟩
  | .hbm, ⟨18, _⟩ => ⟨S3x256x768, .i32⟩
  | .hbm, ⟨19, _⟩ => ⟨S3x256x768, .i32⟩
  | .hbm, ⟨20, _⟩ => ⟨S3x256x768, .i32⟩
  | .hbm, ⟨21, _⟩ => ⟨S_, .i32⟩
  | .hbm, ⟨22, _⟩ => ⟨S3x256x768, .i32⟩
  | .hbm, ⟨23, _⟩ => ⟨S3x256x768, .i32⟩
  | .hbm, ⟨24, _⟩ => ⟨S3x256x768, .i1⟩
  | .hbm, ⟨25, _⟩ => ⟨S_, .i32⟩
  | .hbm, ⟨26, _⟩ => ⟨S3x256x768, .i32⟩
  | .hbm, ⟨27, _⟩ => ⟨S3x256x768, .i32⟩
  | .hbm, ⟨28, _⟩ => ⟨S3x256x768, .i1⟩
  | .hbm, ⟨29, _⟩ => ⟨S3x256x768, .i1⟩
  | .hbm, ⟨30, _⟩ => ⟨S_, .f32⟩
  | .hbm, ⟨31, _⟩ => ⟨S_, .f32⟩
  | .hbm, ⟨32, _⟩ => ⟨S3x256x768, .f32⟩
  | .hbm, ⟨33, _⟩ => ⟨S3x256x768, .f32⟩
  | .hbm, ⟨34, _⟩ => ⟨S3x256x768, .f32⟩
  | .hbm, ⟨35, _⟩ => ⟨S32768x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x3x1024, .f32⟩
  | .local _ .vmem, ⟨7, _⟩ => ⟨S1x3x1024, .f32⟩
  | .local _ .vmem, ⟨8, _⟩ => ⟨S3x256x768, .f32⟩
  | .local _ .vmem, ⟨9, _⟩ => ⟨S4096x128, .bf16⟩
  | .local _ .vmem, ⟨10, _⟩ => ⟨S4096x128, .bf16⟩
  | .local _ .vmem, ⟨11, _⟩ => ⟨S3x256x768, .f32⟩
  | .local _ .vmem, ⟨12, _⟩ => ⟨S4096x128, .bf16⟩
  | .local _ .vmem, ⟨13, _⟩ => ⟨S4096x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_8 : BitVec 32 := 0#32
  let c16_i32 : BitVec 32 := 16#32
  let v13 : BitVec 32 := Scalar.addi c0_i32_8 c16_i32
  let c1_i32 : BitVec 32 := 1#32
  ⟨c0_i32_8, v13, c1_i32⟩
def k0_mult1 (k0_t1 : Fin k0_t1_loop.trips) : BitVec 32 :=
  let c0_i32_8 : BitVec 32 := 0#32
  let c1_i32 : BitVec 32 := 1#32
  let arg11 : BitVec 32 := Scf.iv c0_i32_8 c1_i32 k0_t1
  let c256_i32 : BitVec 32 := 256#32
  let v14 : BitVec 32 := Scalar.muli arg11 c256_i32
  v14
def k0_mult2 (k0_t1 : Fin k0_t1_loop.trips) : BitVec 32 :=
  let c0_i32_8 : BitVec 32 := 0#32
  let c1_i32 : BitVec 32 := 1#32
  let arg11 : BitVec 32 := Scf.iv c0_i32_8 c1_i32 k0_t1
  let c256_i32_10 : BitVec 32 := 256#32
  let v16 : BitVec 32 := Scalar.muli arg11 c256_i32_10
  let c512_i32 : BitVec 32 := 512#32
  let v17 : BitVec 32 := Scalar.subi v16 c512_i32
  let c0_i32_11 : BitVec 32 := 0#32
  let v18 : BitVec 32 := Scalar.maxsi v17 c0_i32_11
  v18
def k0_off1 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c256_i32 : BitVec 32 := 256#32
  let v14 : BitVec 32 := Scalar.muli arg11 c256_i32
  let v15 : BitVec 32 := v14
  let v21 : Index := Scalar.indexCast v15
  let c0_12 : Index := 0#32
  ![v21.toNat, 0]
def k0_off2 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c256_i32_10 : BitVec 32 := 256#32
  let v16 : BitVec 32 := Scalar.muli arg11 c256_i32_10
  let c512_i32 : BitVec 32 := 512#32
  let v17 : BitVec 32 := Scalar.subi v16 c512_i32
  let c0_i32_11 : BitVec 32 := 0#32
  let v18 : BitVec 32 := Scalar.maxsi v17 c0_i32_11
  let v19 : BitVec 32 := v18
  let v23 : Index := Scalar.indexCast v19
  let c0_13 : Index := 0#32
  ![v23.toNat, 0]
def k0_off3 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let c2_i32 : BitVec 32 := 2#32
  let v20 : BitVec 32 := Scalar.minsi arg11 c2_i32
  let v28 : Index := Scalar.indexCast v20
  let c0_15 : Index := 0#32
  let c0_16 : Index := 0#32
  ![v28.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S32768x1024 : Shape := ⟨2, ![32768, 1024]⟩
abbrev S32768x4096 : Shape := ⟨2, ![32768, 4096]⟩
abbrev S8x513 : Shape := ⟨2, ![8, 513]⟩
abbrev S8x4096x8x128 : Shape := ⟨4, ![8, 4096, 8, 128]⟩
abbrev S4096x4096 : Shape := ⟨2, ![4096, 4096]⟩
abbrev S_ : Shape := ⟨0, ![]⟩
abbrev S4096x4096x1 : Shape := ⟨3, ![4096, 4096, 1]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x4096, .f32⟩
  | .hbm, ⟨2, _⟩ => ⟨S8x513, .f32⟩
  | .hbm, ⟨3, _⟩ => ⟨S32768x1024, .f32⟩
  | .hbm, ⟨4, _⟩ => ⟨S8x4096x8x128, .f32⟩
  | .hbm, ⟨5, _⟩ => ⟨S32768x1024, .f32⟩
  | .hbm, ⟨6, _⟩ => ⟨S8x4096x8x128, .f32⟩
  | .hbm, ⟨7, _⟩ => ⟨S32768x1024, .f32⟩
  | .hbm, ⟨8, _⟩ => ⟨S8x4096x8x128, .f32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S4096x4096x1, .i32⟩
  | .hbm, ⟨31, _⟩ => ⟨S8x4096x4096, .f32⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S4096x4096, .i1⟩
  | .hbm, ⟨44, _⟩ => ⟨S8x8x4096x4096, .f32⟩
  | .hbm, ⟨45, _⟩ => ⟨S_, .f32⟩
  | .hbm, ⟨46, _⟩ => ⟨S_, .f32⟩
  | .hbm, ⟨47, _⟩ => ⟨S8x8x4096x4096, .f32⟩
  | .hbm, ⟨48, _⟩ => ⟨S8x8x4096x4096, .f32⟩
  | .hbm, ⟨49, _⟩ => ⟨S1x8x4096x4096, .f32⟩
  | .hbm, ⟨50, _⟩ => ⟨S8x8x4096x4096, .f32⟩
  | .hbm, ⟨51, _⟩ => ⟨S8x8x4096x4096, .f32⟩
  | .hbm, ⟨52, _⟩ => ⟨S1x1x4096x4096, .i1⟩
  | .hbm, ⟨53, _⟩ => ⟨S_, .f32⟩
  | .hbm, ⟨54, _⟩ => ⟨S_, .f32⟩
  | .hbm, ⟨55, _⟩ => ⟨S8x8x4096x4096, .i1⟩
  | .hbm, ⟨56, _⟩ => ⟨S8x8x4096x4096, .f32⟩
  | .hbm, ⟨57, _⟩ => ⟨S8x8x4096x4096, .f32⟩
  | .hbm, ⟨58, _⟩ => ⟨S_, .f32⟩
  | .hbm, ⟨59, _⟩ => ⟨S8x8x4096, .f32⟩
  | .hbm, ⟨60, _⟩ => ⟨S_, .f32⟩
  | .hbm, ⟨61, _⟩ => ⟨S8x8x4096, .f32⟩
  | .hbm, ⟨62, _⟩ => ⟨S8x8x4096, .f32⟩
  | .hbm, ⟨63, _⟩ => ⟨S8x8x4096x1, .f32⟩
  | .hbm, ⟨64, _⟩ => ⟨S8x8x4096x4096, .f32⟩
  | .hbm, ⟨65, _⟩ => ⟨S8x8x4096x4096, .f32⟩
  | .hbm, ⟨66, _⟩ => ⟨S8x8x4096x4096, .f32⟩
  | .hbm, ⟨67, _⟩ => ⟨S_, .f32⟩
  | .hbm, ⟨68, _⟩ => ⟨S8x8x4096, .f32⟩
  | .hbm, ⟨69, _⟩ => ⟨S8x8x4096x1, .f32⟩
  | .hbm, ⟨70, _⟩ => ⟨S8x8x4096x4096, .f32⟩
  | .hbm, ⟨71, _⟩ => ⟨S8x8x4096x4096, .f32⟩
  | .hbm, ⟨72, _⟩ => ⟨S8x8x128x4096, .f32⟩
  | .hbm, ⟨73, _⟩ => ⟨S8x4096x8x128, .f32⟩
  | .hbm, ⟨74, _⟩ => ⟨S32768x1024, .f32⟩
  | .hbm, ⟨75, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Ffn1.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 13
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S_, .f32⟩
  | .hbm, ⟨9, _⟩ => ⟨S5632x2048, .f32⟩
  | .hbm, ⟨10, _⟩ => ⟨S5632x2048, .f32⟩
  | .hbm, ⟨11, _⟩ => ⟨S5632x2048, .bf16⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Ffn1RefIdeal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S_, .f32⟩
  | .hbm, ⟨25, _⟩ => ⟨S32768x5632, .f32⟩
  | .hbm, ⟨26, _⟩ => ⟨S32768x5632, .f32⟩
  | .hbm, ⟨27, _⟩ => ⟨S_, .f32⟩
  | .hbm, ⟨28, _⟩ => ⟨S32768x5632, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Ffn2.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S_, .f32⟩
  | .hbm, ⟨10, _⟩ => ⟨S5632x2048, .f32⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn2RefIdeal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Memkv.lean ====
abbrev S8x256x2048 : Shape := ⟨3, ![8, 256, 2048]⟩
abbrev S2048 : Shape := ⟨1, ![2048]⟩
abbrev S2048x512 : Shape := ⟨2, ![2048, 512]⟩
abbrev S128 : Shape := ⟨1, ![128]⟩
abbrev S2048x2048 : Shape := ⟨2, ![2048, 2048]⟩
abbrev S1x2048 : Shape := ⟨2, ![1, 2048]⟩
abbrev S1x128 : Shape := ⟨2, ![1, 128]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 12
  | .vmem => 10
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S128, .f32⟩
  | .hbm, ⟨5, _⟩ => ⟨S2048x2048, .f32⟩
  | .hbm, ⟨6, _⟩ => ⟨S1x2048, .f32⟩
  | .hbm, ⟨7, _⟩ => ⟨S2048x512, .bf16⟩
  | .hbm, ⟨8, _⟩ => ⟨S2048x512, .bf16⟩
  | .hbm, ⟨9, _⟩ => ⟨S1x128, .f32⟩
  | .hbm, ⟨10, _⟩ => ⟨S2048x512, .f32⟩
  | .hbm, ⟨11, _⟩ => ⟨S2048x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemkvRefIdeal.lean ====
abbrev S8x256x2048 : Shape := ⟨3, ![8, 256, 2048]⟩
abbrev S2048 : Shape := ⟨1, ![2048]⟩
abbrev S2048x512 : Shape := ⟨2, ![2048, 512]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S1x1x1x128 : Shape := ⟨4, ![1, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S128, .f32⟩
  | .hbm, ⟨5, _⟩ => ⟨S8x256x2048, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x2048, .f32⟩
  | .hbm, ⟨17, _⟩ => ⟨S8x256x2048, .f32⟩
  | .hbm, ⟨18, _⟩ => ⟨S1x1x2048, .f32⟩
  | .hbm, ⟨19, _⟩ => ⟨S8x256x2048, .f32⟩
  | .hbm, ⟨20, _⟩ => ⟨S8x256x2048, .f32⟩
  | .hbm, ⟨21, _⟩ => ⟨S8x256x512, .f32⟩
  | .hbm, ⟨22, _⟩ => ⟨S8x256x4x128, .f32⟩
  | .hbm, ⟨23, _⟩ => ⟨S8x256x4x128, .f32⟩
  | .hbm, ⟨24, _⟩ => ⟨S_, .f32⟩
  | .hbm, ⟨25, _⟩ => ⟨S8x256x4, .f32⟩
  | .hbm, ⟨26, _⟩ => ⟨S8x256x4x1, .f32⟩
  | .hbm, ⟨27, _⟩ => ⟨S_, .f32⟩
  | .hbm, ⟨28, _⟩ => ⟨S8x256x4x1, .f32⟩
  | .hbm, ⟨29, _⟩ => ⟨S8x256x4x1, .f32⟩
  | .hbm, ⟨30, _⟩ => ⟨S_, .f32⟩
  | .hbm, ⟨31, _⟩ => ⟨S8x256x4x1, .f32⟩
  | .hbm, ⟨32, _⟩ => ⟨S8x256x4x1, .f32⟩
  | .hbm, ⟨33, _⟩ => ⟨S8x256x4x1, .f32⟩
  | .hbm, ⟨34, _⟩ => ⟨S8x256x4x128, .f32⟩
  | .hbm, ⟨35, _⟩ => ⟨S8x256x4x128, .f32⟩
  | .hbm, ⟨36, _⟩ => ⟨S1x1x1x128, .f32⟩
  | .hbm, ⟨37, _⟩ => ⟨S8x256x4x128, .f32⟩
  | .hbm, ⟨38, _⟩ => ⟨S8x256x4x128, .f32⟩
  | .hbm, ⟨39, _⟩ => ⟨S8x256x512, .f32⟩
  | .hbm, ⟨40, _⟩ => ⟨S8x256x4x128, .f32⟩
  | .hbm, ⟨41, _⟩ => ⟨S2048x512, .f32⟩
  | .hbm, ⟨42, _⟩ => ⟨S2048x512, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Merge.lean ====
abbrev S8x4096x2048 : Shape := ⟨3, ![8, 4096, 2048]⟩
abbrev S8x4096x1024 : Shape := ⟨3, ![8, 4096, 1024]⟩
abbrev S2048x9216 : Shape := ⟨2, ![2048, 9216]⟩
abbrev S1024x2048 : Shape := ⟨2, ![1024, 2048]⟩
abbrev S2048x2048 : Shape := ⟨2, ![2048, 2048]⟩
abbrev S32768x2048 : Shape := ⟨2, ![32768, 2048]⟩
abbrev S32768x1024 : Shape := ⟨2, ![32768, 1024]⟩
abbrev S512x2048 : Shape := ⟨2, ![512, 2048]⟩
abbrev S512x1024 : Shape := ⟨2, ![512, 1024]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 17
  | .vmem => 20
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .bf16⟩
  | .hbm, ⟨2, _⟩ => ⟨S8x4096x1024, .bf16⟩
  | .hbm, ⟨3, _⟩ => ⟨S8x4096x1024, .bf16⟩
  | .hbm, ⟨4, _⟩ => ⟨S2048x9216, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S32768x2048, .f32⟩
  | .hbm, ⟨9, _⟩ => ⟨S32768x2048, .bf16⟩
  | .hbm, ⟨10, _⟩ => ⟨S32768x1024, .bf16⟩
  | .hbm, ⟨11, _⟩ => ⟨S32768x1024, .bf16⟩
  | .hbm, ⟨12, _⟩ => ⟨S2048x9216, .bf16⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | .local _ .vmem, ⟨19, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MergeRefIdeal.lean ====
abbrev S8x4096x2048 : Shape := ⟨3, ![8, 4096, 2048]⟩
abbrev S8x4096x1024 : Shape := ⟨3, ![8, 4096, 1024]⟩
abbrev S2048x9216 : Shape := ⟨2, ![2048, 9216]⟩
abbrev S1024x2048 : Shape := ⟨2, ![1024, 2048]⟩
abbrev S2048x2048 : Shape := ⟨2, ![2048, 2048]⟩
abbrev S_ : Shape := ⟨0, ![]⟩
abbrev S32768x2048 : Shape := ⟨2, ![32768, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .bf16⟩
  | .hbm, ⟨2, _⟩ => ⟨S8x4096x1024, .bf16⟩
  | .hbm, ⟨3, _⟩ => ⟨S8x4096x1024, .bf16⟩
  | .hbm, ⟨4, _⟩ => ⟨S2048x9216, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S8x4096x2048, .f32⟩
  | .hbm, ⟨9, _⟩ => ⟨S8x4096x1024, .f32⟩
  | .hbm, ⟨10, _⟩ => ⟨S8x4096x1024, .f32⟩
  | .hbm, ⟨11, _⟩ => ⟨S2048x2048, .f32⟩
  | .hbm, ⟨12, _⟩ => ⟨S8x4096x2048, .f32⟩
  | .hbm, ⟨13, _⟩ => ⟨S2048x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x4096x2048, .f32⟩
  | .hbm, ⟨29, _⟩ => ⟨S8x4096x2048, .f32⟩
  | .hbm, ⟨30, _⟩ => ⟨S_, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Inproj.lean ====
abbrev S8x4096x2048 : Shape := ⟨3, ![8, 4096, 2048]⟩
abbrev S2048 : Shape := ⟨1, ![2048]⟩
abbrev S2048x9216 : Shape := ⟨2, ![2048, 9216]⟩
abbrev S128 : Shape := ⟨1, ![128]⟩
abbrev S32768x2048 : Shape := ⟨2, ![32768, 2048]⟩
abbrev S1x2048 : Shape := ⟨2, ![1, 2048]⟩
abbrev S1x128 : Shape := ⟨2, ![1, 128]⟩
abbrev S32768x1024 : Shape := ⟨2, ![32768, 1024]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1024x128 : Shape := ⟨2, ![1024, 128]⟩

abbrev nBuf : Space → Nat
  | .hbm => 13
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x9216, .f32⟩
  | .hbm, ⟨3, _⟩ => ⟨S128, .f32⟩
  | .hbm, ⟨4, _⟩ => ⟨S128, .f32⟩
  | .hbm, ⟨5, _⟩ => ⟨S32768x2048, .f32⟩
  | .hbm, ⟨6, _⟩ => ⟨S1x2048, .f32⟩
  | .hbm, ⟨7, _⟩ => ⟨S2048x9216, .bf16⟩
  | .hbm, ⟨8, _⟩ => ⟨S1x128, .f32⟩
  | .hbm, ⟨9, _⟩ => ⟨S1x128, .f32⟩
  | .hbm, ⟨10, _⟩ => ⟨S32768x1024, .bf16⟩
  | .hbm, ⟨11, _⟩ => ⟨S32768x4096, .f32⟩
  | .hbm, ⟨12, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S1x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .sge arg1 c2_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InprojRefIdeal.lean ====
abbrev S8x4096x2048 : Shape := ⟨3, ![8, 4096, 2048]⟩
abbrev S2048 : Shape := ⟨1, ![2048]⟩
abbrev S2048x9216 : Shape := ⟨2, ![2048, 9216]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x5120 : Shape := ⟨2, ![2048, 5120]⟩
abbrev S8x4096x5120 : Shape := ⟨3, ![8, 4096, 5120]⟩
abbrev S8x4096x1024 : Shape := ⟨3, ![8, 4096, 1024]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x3072 : Shape := ⟨3, ![8, 4096, 3072]⟩
abbrev S32768x1024 : Shape := ⟨2, ![32768, 1024]⟩
abbrev S32768x3072 : Shape := ⟨2, ![32768, 3072]⟩
abbrev S32768x4096 : Shape := ⟨2, ![32768, 4096]⟩
abbrev S32768x2048 : Shape := ⟨2, ![32768, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x9216, .f32⟩
  | .hbm, ⟨3, _⟩ => ⟨S128, .f32⟩
  | .hbm, ⟨4, _⟩ => ⟨S128, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S2048x5120, .f32⟩
  | .hbm, ⟨22, _⟩ => ⟨S8x4096x5120, .f32⟩
  | .hbm, ⟨23, _⟩ => ⟨S8x4096x1024, .f32⟩
  | .hbm, ⟨24, _⟩ => ⟨S8x4096x8x128, .f32⟩
  | .hbm, ⟨25, _⟩ => ⟨S8x4096x8x128, .f32⟩
  | .hbm, ⟨26, _⟩ => ⟨S_, .f32⟩
  | .hbm, ⟨27, _⟩ => ⟨S8x4096x8, .f32⟩
  | .hbm, ⟨28, _⟩ => ⟨S8x4096x8x1, .f32⟩
  | .hbm, ⟨29, _⟩ => ⟨S_, .f32⟩
  | .hbm, ⟨30, _⟩ => ⟨S8x4096x8x1, .f32⟩
  | .hbm, ⟨31, _⟩ => ⟨S8x4096x8x1, .f32⟩
  | .hbm, ⟨32, _⟩ => ⟨S_, .f32⟩
  | .hbm, ⟨33, _⟩ => ⟨S8x4096x8x1, .f32⟩
  | .hbm, ⟨34, _⟩ => ⟨S8x4096x8x1, .f32⟩
  | .hbm, ⟨35, _⟩ => ⟨S8x4096x8x1, .f32⟩
  | .hbm, ⟨36, _⟩ => ⟨S8x4096x8x128, .f32⟩
  | .hbm, ⟨37, _⟩ => ⟨S8x4096x8x128, .f32⟩
  | .hbm, ⟨38, _⟩ => ⟨S1x1x1x128, .f32⟩
  | .hbm, ⟨39, _⟩ => ⟨S8x4096x8x128, .f32⟩
  | .hbm, ⟨40, _⟩ => ⟨S8x4096x8x128, .f32⟩
  | .hbm, ⟨41, _⟩ => ⟨S8x4096x1024, .f32⟩
  | .hbm, ⟨42, _⟩ => ⟨S8x4096x8x128, .f32⟩
  | .hbm, ⟨43, _⟩ => ⟨S8x4096x8x128, .f32⟩
  | .hbm, ⟨44, _⟩ => ⟨S_, .f32⟩
  | .hbm, ⟨45, _⟩ => ⟨S8x4096x8, .f32⟩
  | .hbm, ⟨46, _⟩ => ⟨S8x4096x8x1, .f32⟩
  | .hbm, ⟨47, _⟩ => ⟨S_, .f32⟩
  | .hbm, ⟨48, _⟩ => ⟨S8x4096x8x1, .f32⟩
  | .hbm, ⟨49, _⟩ => ⟨S8x4096x8x1, .f32⟩
  | .hbm, ⟨50, _⟩ => ⟨S_, .f32⟩
  | .hbm, ⟨51, _⟩ => ⟨S8x4096x8x1, .f32⟩
  | .hbm, ⟨52, _⟩ => ⟨S8x4096x8x1, .f32⟩
  | .hbm, ⟨53, _⟩ => ⟨S8x4096x8x1, .f32⟩
  | .hbm, ⟨54, _⟩ => ⟨S8x4096x8x128, .f32⟩
  | .hbm, ⟨55, _⟩ => ⟨S8x4096x8x128, .f32⟩
  | .hbm, ⟨56, _⟩ => ⟨S1x1x1x128, .f32⟩
  | .hbm, ⟨57, _⟩ => ⟨S8x4096x8x128, .f32⟩
  | .hbm, ⟨58, _⟩ => ⟨S8x4096x8x128, .f32⟩
  | .hbm, ⟨59, _⟩ => ⟨S8x4096x3072, .f32⟩
  | .hbm, ⟨60, _⟩ => ⟨S32768x1024, .f32⟩
  | .hbm, ⟨61, _⟩ => ⟨S32768x1024, .bf16⟩
  | .hbm, ⟨62, _⟩ => ⟨S32768x1024, .f32⟩
  | .hbm, ⟨63, _⟩ => ⟨S32768x3072, .f32⟩
  | .hbm, ⟨64, _⟩ => ⟨S32768x4096, .f32⟩
  | .hbm, ⟨65, _⟩ => ⟨S32768x2048, .f32⟩
  | .hbm, ⟨66, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Memattn.lean ====
abbrev S8x4096x2048 : Shape := ⟨3, ![8, 4096, 2048]⟩
abbrev S2048 : Shape := ⟨1, ![2048]⟩
abbrev S2048x512 : Shape := ⟨2, ![2048, 512]⟩
abbrev S128 : Shape := ⟨1, ![128]⟩
abbrev S8x256x4x128 : Shape := ⟨4, ![8, 256, 4, 128]⟩
abbrev S512x2048 : Shape := ⟨2, ![512, 2048]⟩
abbrev S32768x2048 : Shape := ⟨2, ![32768, 2048]⟩
abbrev S1x2048 : Shape := ⟨2, ![1, 2048]⟩
abbrev S1x128 : Shape := ⟨2, ![1, 128]⟩
abbrev S8x256x512 : Shape := ⟨3, ![8, 256, 512]⟩
abbrev S1024x2048 : Shape := ⟨2, ![1024, 2048]⟩
abbrev S1x256x512 : Shape := ⟨3, ![1, 256, 512]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩

abbrev nBuf : Space → Nat
  | .hbm => 15
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x512, .f32⟩
  | .hbm, ⟨3, _⟩ => ⟨S128, .f32⟩
  | .hbm, ⟨4, _⟩ => ⟨S8x256x4x128, .f32⟩
  | .hbm, ⟨5, _⟩ => ⟨S8x256x4x128, .f32⟩
  | .hbm, ⟨6, _⟩ => ⟨S512x2048, .f32⟩
  | .hbm, ⟨7, _⟩ => ⟨S32768x2048, .f32⟩
  | .hbm, ⟨8, _⟩ => ⟨S1x2048, .f32⟩
  | .hbm, ⟨9, _⟩ => ⟨S2048x512, .bf16⟩
  | .hbm, ⟨10, _⟩ => ⟨S1x128, .f32⟩
  | .hbm, ⟨11, _⟩ => ⟨S8x256x512, .f32⟩
  | .hbm, ⟨12, _⟩ => ⟨S8x256x512, .f32⟩
  | .hbm, ⟨13, _⟩ => ⟨S512x2048, .bf16⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S1x128, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | .local _ .vmem, ⟨12, _⟩ => ⟨S1024x512, .bf16⟩
  | .local _ .vmem, ⟨13, _⟩ => ⟨S1024x512, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MemattnRefIdeal.lean ====
abbrev S8x4096x2048 : Shape := ⟨3, ![8, 4096, 2048]⟩
abbrev S2048 : Shape := ⟨1, ![2048]⟩
abbrev S2048x512 : Shape := ⟨2, ![2048, 512]⟩
abbrev S128 : Shape := ⟨1, ![128]⟩
abbrev S8x256x4x128 : Shape := ⟨4, ![8, 256, 4, 128]⟩
abbrev S512x2048 : Shape := ⟨2, ![512, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x512 : Shape := ⟨3, ![8, 4096, 512]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S32768x2048 : Shape := ⟨2, ![32768, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x512, .f32⟩
  | .hbm, ⟨3, _⟩ => ⟨S128, .f32⟩
  | .hbm, ⟨4, _⟩ => ⟨S8x256x4x128, .f32⟩
  | .hbm, ⟨5, _⟩ => ⟨S8x256x4x128, .f32⟩
  | .hbm, ⟨6, _⟩ => ⟨S512x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x512, .f32⟩
  | .hbm, ⟨24, _⟩ => ⟨S8x4096x4x128, .f32⟩
  | .hbm, ⟨25, _⟩ => ⟨S8x4096x4x128, .f32⟩
  | .hbm, ⟨26, _⟩ => ⟨S_, .f32⟩
  | .hbm, ⟨27, _⟩ => ⟨S8x4096x4, .f32⟩
  | .hbm, ⟨28, _⟩ => ⟨S8x4096x4x1, .f32⟩
  | .hbm, ⟨29, _⟩ => ⟨S_, .f32⟩
  | .hbm, ⟨30, _⟩ => ⟨S8x4096x4x1, .f32⟩
  | .hbm, ⟨31, _⟩ => ⟨S8x4096x4x1, .f32⟩
  | .hbm, ⟨32, _⟩ => ⟨S_, .f32⟩
  | .hbm, ⟨33, _⟩ => ⟨S8x4096x4x1, .f32⟩
  | .hbm, ⟨34, _⟩ => ⟨S8x4096x4x1, .f32⟩
  | .hbm, ⟨35, _⟩ => ⟨S8x4096x4x1, .f32⟩
  | .hbm, ⟨36, _⟩ => ⟨S8x4096x4x128, .f32⟩
  | .hbm, ⟨37, _⟩ => ⟨S8x4096x4x128, .f32⟩
  | .hbm, ⟨38, _⟩ => ⟨S1x1x1x128, .f32⟩
  | .hbm, ⟨39, _⟩ => ⟨S8x4096x4x128, .f32⟩
  | .hbm, ⟨40, _⟩ => ⟨S8x4096x4x128, .f32⟩
  | .hbm, ⟨41, _⟩ => ⟨S8x4x4096x256, .f32⟩
  | .hbm, ⟨42, _⟩ => ⟨S_, .f32⟩
  | .hbm, ⟨43, _⟩ => ⟨S8x4x4096x256, .f32⟩
  | .hbm, ⟨44, _⟩ => ⟨S8x4x4096x256, .f32⟩
  | .hbm, ⟨45, _⟩ => ⟨S_, .f32⟩
  | .hbm, ⟨46, _⟩ => ⟨S8x4x4096, .f32⟩
  | .hbm, ⟨47, _⟩ => ⟨S_, .f32⟩
  | .hbm, ⟨48, _⟩ => ⟨S8x4x4096, .f32⟩
  | .hbm, ⟨49, _⟩ => ⟨S8x4x4096, .f32⟩
  | .hbm, ⟨50, _⟩ => ⟨S8x4x4096x1, .f32⟩
  | .hbm, ⟨51, _⟩ => ⟨S8x4x4096x256, .f32⟩
  | .hbm, ⟨52, _⟩ => ⟨S8x4x4096x256, .f32⟩
  | .hbm, ⟨53, _⟩ => ⟨S8x4x4096x256, .f32⟩
  | .hbm, ⟨54, _⟩ => ⟨S_, .f32⟩
  | .hbm, ⟨55, _⟩ => ⟨S8x4x4096, .f32⟩
  | .hbm, ⟨56, _⟩ => ⟨S8x4x4096x1, .f32⟩
  | .hbm, ⟨57, _⟩ => ⟨S8x4x4096x256, .f32⟩
  | .hbm, ⟨58, _⟩ => ⟨S8x4x4096x256, .f32⟩
  | .hbm, ⟨59, _⟩ => ⟨S8x4x128x4096, .f32⟩
  | .hbm, ⟨60, _⟩ => ⟨S8x4096x4x128, .f32⟩
  | .hbm, ⟨61, _⟩ => ⟨S8x4096x512, .f32⟩
  | .hbm, ⟨62, _⟩ => ⟨S8x4096x2048, .f32⟩
  | .hbm, ⟨63, _⟩ => ⟨S8x4096x2048, .f32⟩
  | .hbm, ⟨64, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Proof.AttnMath.lean ====
/-
  The arithmetic of one query's masked softmax over the extended reals, apart from any program.

  A query's scores over all keys are `S`; outside a window of keys (the image of an injection `e`) every score is
  `⊥`, as a masked score is. Then the maximum, the sum of the exponentials and the weighted sum of the values may each
  be taken over the window alone; and, where every score is below `⊤` and some score is a real number, the sum of
  exponentials is a positive real number, so the division may be done once after the weighted sum.
-/
module

public import Idealize.ShloMosaic.PureOps.Ideal.Laws
public import Idealize.ShloMosaic.Lib.ValueIdx

@[expose] public section

noncomputable section

open scoped BigOperators

namespace Cert.Attn

open Idealize.ShloMosaic

variable {ι κ : Type} [Fintype ι] [Fintype κ]

/-- The greatest score, from `⊥`. -/
def top (S : ι → EReal) : EReal := Finset.univ.fold max ⊥ S

/-- The softmax numerators: the exponential of each score less the greatest. -/
def num (S : ι → EReal) (k : ι) : EReal := Ideal.exp (S k - top S)

/-- Attention with the division last: the weighted sum of the values over the sum of the weights. -/
def lastDiv (S v : ι → EReal) : EReal := Ideal.div (∑ k, num S k * v k) (∑ k, num S k)

/-- Attention with the weights divided first, as a softmax is written. -/
def firstDiv (S v : ι → EReal) : EReal := ∑ k, v k * Ideal.div (num S k) (∑ k, num S k)

theorem top_eq_sup (S : ι → EReal) : top S = Finset.univ.sup S := by
  unfold top Finset.sup; rfl

theorem le_top' (S : ι → EReal) (k : ι) : S k ≤ top S := by
  rw [top_eq_sup]; exact Finset.le_sup (Finset.mem_univ k)

theorem top_lt (S : ι → EReal) (h : ∀ k, S k < ⊤) : top S < ⊤ := by
  rw [top_eq_sup, Finset.sup_lt_iff bot_lt_top]; exact fun k _ => h k

theorem exp_bot : Ideal.exp ⊥ = 0 := rfl

theorem exp_coe (r : ℝ) : Ideal.exp (r : EReal) = (Real.exp r : EReal) := rfl

/-- With a real greatest score, a score's numerator is a nonnegative real number. -/
theorem num_real (S : ι → EReal) (h : ∀ k, S k < ⊤) (k₀ : ι) (h₀ : S k₀ ≠ ⊥) (k : ι) :
    ∃ r : ℝ, 0 ≤ r ∧ num S k = (r : EReal) ∧ (S k ≠ ⊥ → 0 < r) ∧ (S k = ⊥ → r = 0) := by
  have ht := top_lt S h
  have hb : top S ≠ ⊥ := fun e => h₀ (le_bot_iff.mp (e ▸ le_top' S k₀))
  unfold num
  lift top S to ℝ using ⟨ht.ne, hb⟩ with t
  by_cases hk : S k = ⊥
  · exact ⟨0, le_rfl, by rw [hk]; simp [exp_bot], fun h => absurd hk h, fun _ => rfl⟩
  · have hkt := (h k).ne
    lift S k to ℝ using ⟨hkt, hk⟩ with s
    refine ⟨Real.exp (s - t), (Real.exp_pos _).le, ?_, fun _ => Real.exp_pos _, fun e => absurd e hk⟩
    rw [← EReal.coe_sub, exp_coe]

/-- So the sum of the numerators is a positive real number. -/
theorem sum_num_pos (S : ι → EReal) (h : ∀ k, S k < ⊤) (k₀ : ι) (h₀ : S k₀ ≠ ⊥) :
    ∃ l : ℝ, 0 < l ∧ ∑ k, num S k = (l : EReal) := by
  choose r hr he hp hz using num_real S h k₀ h₀
  refine ⟨∑ k, r k, ?_, ?_⟩
  · exact Finset.sum_pos' (fun k _ => hr k) ⟨k₀, Finset.mem_univ _, hp k₀ h₀⟩
  · rw [Finset.sum_congr rfl fun k _ => he k]
    induction (Finset.univ : Finset ι) using Finset.cons_induction with
    | empty => simp
    | cons a s ha ih => rw [Finset.sum_cons, Finset.sum_cons, ih, EReal.coe_add]

/-- A nonnegative real number goes under a sum of extended reals. -/
theorem sum_mul_coe (f : ι → EReal) (c : ℝ) (hc : 0 ≤ c) : (∑ k, f k) * (c : EReal) = ∑ k, f k * (c : EReal) := by
  induction (Finset.univ : Finset ι) using Finset.cons_induction with
  | empty => simp
  | cons a s ha ih =>
    rw [Finset.sum_cons, Finset.sum_cons, ← ih]
    exact EReal.right_distrib_of_nonneg_of_ne_top (by exact_mod_cast hc) (EReal.coe_ne_top c) _ _

theorem div_coe (x : EReal) (l : ℝ) (hl : 0 < l) : Ideal.div x (l : EReal) = x * ((l⁻¹ : ℝ) : EReal) := by
  unfold Ideal.div
  rw [if_neg (by exact_mod_cast hl.ne'), ← EReal.coe_inv]

/-- THE TWO ORDERS AGREE: one division after the weighted sum, or each weight divided first. -/
theorem lastDiv_eq_firstDiv (S v : ι → EReal) (h : ∀ k, S k < ⊤) (k₀ : ι) (h₀ : S k₀ ≠ ⊥) :
    lastDiv S v = firstDiv S v := by
  obtain ⟨l, hl, he⟩ := sum_num_pos S h k₀ h₀
  unfold lastDiv firstDiv
  rw [he, div_coe _ l hl, sum_mul_coe _ _ (inv_nonneg.mpr hl.le)]
  refine Finset.sum_congr rfl fun k _ => ?_
  rw [div_coe _ l hl, mul_comm (num S k) (v k), mul_assoc]

/-- The greatest score is in the window. -/
theorem top_window (S : ι → EReal) (e : κ → ι) (hm : ∀ k, k ∉ Set.range e → S k = ⊥) : top (S ∘ e) = top S := by
  rw [top_eq_sup, top_eq_sup]
  refine le_antisymm (Finset.sup_le fun c _ => Finset.le_sup (f := S) (Finset.mem_univ (e c))) (Finset.sup_le fun k _ => ?_)
  by_cases hk : k ∈ Set.range e
  · obtain ⟨c, rfl⟩ := hk
    exact Finset.le_sup (f := S ∘ e) (Finset.mem_univ c)
  · rw [hm k hk]; exact bot_le

/-- THE WINDOW IS ENOUGH: attention over the window is attention over all keys, where every key outside it is masked. -/
theorem lastDiv_window (S v : ι → EReal) (h : ∀ k, S k < ⊤) (k₀ : ι) (h₀ : S k₀ ≠ ⊥) (e : κ → ι)
    (he : Function.Injective e) (hm : ∀ k, k ∉ Set.range e → S k = ⊥) : lastDiv (S ∘ e) (v ∘ e) = lastDiv S v := by
  have hn : ∀ c, num (S ∘ e) c = num S (e c) := fun c => by unfold num; rw [top_window S e hm]; rfl
  have hz : ∀ k, k ∉ Set.range e → num S k = 0 := fun k hk => by
    obtain ⟨r, -, hr, -, hz⟩ := num_real S h k₀ h₀ k
    rw [hr, hz (hm k hk)]; rfl
  unfold lastDiv
  rw [Fintype.sum_of_injective e he (fun c => num (S ∘ e) c) (num S) hz hn,
    Fintype.sum_of_injective e he (fun c => num (S ∘ e) c * (v ∘ e) c) (fun k => num S k * v k)
      (fun k hk => by simp only [hz k hk, zero_mul]) (fun c => by rw [hn]; rfl)]

/-- A sum of products of real numbers is a real number. -/
theorem dot_real (f g : ι → EReal) (hf : ∀ k, f k ≠ ⊥ ∧ f k ≠ ⊤) (hg : ∀ k, g k ≠ ⊥ ∧ g k ≠ ⊤) :
    ∃ r : ℝ, ∑ k, f k * g k = (r : EReal) := by
  choose a ha using fun k => (⟨(f k).toReal, EReal.coe_toReal (hf k).2 (hf k).1⟩ : ∃ r : ℝ, (r : EReal) = f k)
  choose b hb using fun k => (⟨(g k).toReal, EReal.coe_toReal (hg k).2 (hg k).1⟩ : ∃ r : ℝ, (r : EReal) = g k)
  refine ⟨∑ k, a k * b k, ?_⟩
  induction (Finset.univ : Finset ι) using Finset.cons_induction with
  | empty => simp
  | cons i s hi ih => rw [Finset.sum_cons, Finset.sum_cons, ih, EReal.coe_add, EReal.coe_mul, ha, hb]

end Cert.Attn

end
-- ==== Proof.Dots.lean ====
/-
  Products of matrices read at one index over the extended reals: rows by columns (`nn`) and rows by rows (`nt`), for
  any sizes, whatever the name of the dimension numbers.
-/
module

public import Idealize.ShloMosaic.PureOps.Ideal.Laws
public import Idealize.ShloMosaic.Lib.ValueIdx

@[expose] public section

noncomputable section

open scoped BigOperators

namespace Cert.Dots

open Idealize.ShloMosaic Idealize.ShloMosaic.ValueIdx

variable {M K N : Nat} {φ₁ φ₂ : FTy}

/-- The sum over the contracted coordinates, re-indexed by the one coordinate. -/
theorem sum_contr {sl sr so : Shape} (d : DotDims sl sr so) (n : Nat) (hr : d.contr.rank = 1)
    (hs : d.contr.size ⟨0, by omega⟩ = n) (f : sl.Idx → EReal) (g : sr.Idx → EReal) (j : so.Idx)
    (p : Fin n → sl.Idx) (q : Fin n → sr.Idx)
    (hp : ∀ k, d.lhsIdx j ((contrEquiv1 d n hr hs).symm k) = p k)
    (hq : ∀ k, d.rhsIdx j ((contrEquiv1 d n hr hs).symm k) = q k) :
    ∑ k : d.contr.Idx, f (d.lhsIdx j k) * g (d.rhsIdx j k) = ∑ k : Fin n, f (p k) * g (q k) := by
  rw [← Equiv.sum_comp (contrEquiv1 d n hr hs).symm]
  exact Finset.sum_congr rfl fun k _ => by rw [hp, hq]

/-- Rows by columns. -/
theorem sum_nn (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (f : (⟨2, ![M, K]⟩ : Shape).Idx → EReal) (g : (⟨2, ![K, N]⟩ : Shape).Idx → EReal) (r : Fin M) (c : Fin N) :
    ∑ k : d.contr.Idx, f (d.lhsIdx (ix2 r c) k) * g (d.rhsIdx (ix2 r c) k)
      = ∑ k : Fin K, f (ix2 r k) * g (ix2 k c) := by
  rcases d with ⟨lc, rc, ln, rn, lb, rb, wf⟩
  simp only at h1 h2 h3 h4 h5 h6
  subst h1 h2 h3 h4 h5 h6
  refine sum_contr _ K rfl rfl f g _ _ _ (fun k => ?_) fun k => ?_
  · funext a
    apply Fin.ext
    match a with
    | ⟨0, _⟩ => rfl
    | ⟨1, _⟩ => exact (DotDims.lhsIdx_val_of_single _ rfl _ _).trans (contrEquiv1_symm_val _ K rfl rfl k)
  · funext a
    apply Fin.ext
    match a with
    | ⟨0, _⟩ => exact (DotDims.rhsIdx_val_of_single _ rfl _ _).trans (contrEquiv1_symm_val _ K rfl rfl k)
    | ⟨1, _⟩ => rfl

/-- Rows by rows. -/
theorem sum_nt (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (f : (⟨2, ![M, K]⟩ : Shape).Idx → EReal) (g : (⟨2, ![N, K]⟩ : Shape).Idx → EReal) (r : Fin M) (c : Fin N) :
    ∑ k : d.contr.Idx, f (d.lhsIdx (ix2 r c) k) * g (d.rhsIdx (ix2 r c) k)
      = ∑ k : Fin K, f (ix2 r k) * g (ix2 c k) := by
  rcases d with ⟨lc, rc, ln, rn, lb, rb, wf⟩
  simp only at h1 h2 h3 h4 h5 h6
  subst h1 h2 h3 h4 h5 h6
  refine sum_contr _ K rfl rfl f g _ _ _ (fun k => ?_) fun k => ?_
  · funext a
    apply Fin.ext
    match a with
    | ⟨0, _⟩ => rfl
    | ⟨1, _⟩ => exact (DotDims.lhsIdx_val_of_single _ rfl _ _).trans (contrEquiv1_symm_val _ K rfl rfl k)
  · funext a
    apply Fin.ext
    match a with
    | ⟨0, _⟩ => rfl
    | ⟨1, _⟩ => exact (DotDims.rhsIdx_val_of_single _ rfl _ _).trans (contrEquiv1_symm_val _ K rfl rfl k)

/-- A product of rows by columns from a zero accumulator. -/
theorem matmul_nn (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) :=
  (Ideal.matmul_constant_zero_apply d prec lhs rhs _).trans (sum_nn d h1 h2 h3 h4 h5 h6 lhs rhs r c)

/-- A product of rows by rows from a zero accumulator. -/
theorem matmul_nt (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) (prec : Option ContractPrecision)
    (lhs : FVec Ideal ⟨2, ![M, K]⟩ φ₁) (rhs : FVec Ideal ⟨2, ![N, K]⟩ φ₂) (r : Fin M) (c : Fin N) :
    matmul d prec lhs rhs (constant ⟨2, ![M, N]⟩ .f32 0x00000000#32) (ix2 r c)
      = ∑ k : Fin K, lhs (ix2 r k) * rhs (ix2 c k) :=
  (Ideal.matmul_constant_zero_apply d prec lhs rhs _).trans (sum_nt d h1 h2 h3 h4 h5 h6 lhs rhs r c)

end Cert.Dots

end
-- ==== Proof.AttnPay.lean ====
/-
  What the attention kernel computes from the blocks it reads, at one index: a tile of queries against a window of
  keys (`pay4_apply`) and a slab of the bias table (`bias_apply`).
-/
module

public import proofs.«01_k».proof.Proof.Gen.KernelIdeal.Skeleton
public import proofs.«01_k».proof.Proof.AttnMath
public import proofs.«01_k».proof.Proof.Dots
public import Idealize.ShloMosaic.Lib.Pipeline.Value

@[expose] public section

set_option maxRecDepth 16384

noncomputable section

open scoped BigOperators

namespace Cert.Attn

open Cert.KernelIdeal Cert.KernelIdeal.Gen Idealize.ShloMosaic Idealize.ShloMosaic.ValueIdx Idealize.ShloMosaic.TcCoe

/-- The scale of the scores, `1/√128`. -/
def scale : EReal := (((Real.sqrt 128)⁻¹ : ℝ) : EReal)

theorem named_scale : (Named.named (F := Ideal) κ "scale" (φ := .f32) 0x3DB504F3#32 : EReal) = scale :=
  (IdealRules.named_const.statement Cert.KernelIdeal.κ "scale" .f32 0x3DB504F3#32 _ rfl).2.2

theorem named_mask : (Named.named (F := Ideal) κ "mask" (φ := .f32) 0xF149F2CA#32 : EReal) = ⊥ :=
  (IdealRules.named_const.statement Cert.KernelIdeal.κ "mask" .f32 0xF149F2CA#32 _ rfl).2.2

/-- A column of `n` numbers spread over a second axis, read back. -/
theorem spread_apply {α : Type} {n p : Nat} (h1 : 1 < n) (x : (⟨1, ![n]⟩ : Shape).Idx → α)
    (hs : (⟨1, ![n]⟩ : Shape).ShapeCasts ⟨2, ![n, 1]⟩)
    (hb : (⟨2, ![n, 1]⟩ : Shape).Broadcasts ⟨2, ![n, p]⟩) (r : Fin n) (c : Fin p) :
    broadcastTo ⟨2, ![n, p]⟩ (shapeCast ⟨2, ![n, 1]⟩ x hs) hb (ix2 r c) = x (ix1 r) := by
  refine (broadcastTo_apply _ hb _ (ix2 r (0 : Fin 1)) (fun a => ?_)).trans (shapeCast_apply _ hs _ (ix1 r) ?_)
  · match a with
    | ⟨0, _⟩ =>
      show r.val = if n = 1 then 0 else r.val
      rw [if_neg (by omega)]
    | ⟨1, _⟩ => rfl
  · rw [Shape.rowMajor_val_two, Shape.rowMajor_val_one]
    show r.val = r.val * 1 + 0
    omega

/-- Adding a leading axis of size one, or dropping it, keeps every entry. -/
theorem drop_lead_apply {α : Type} {n p : Nat} (x : (⟨3, ![1, n, p]⟩ : Shape).Idx → α)
    (hs : (⟨3, ![1, n, p]⟩ : Shape).ShapeCasts ⟨2, ![n, p]⟩) (r : Fin n) (c : Fin p) :
    shapeCast ⟨2, ![n, p]⟩ x hs (ix2 r c) = x (ix3 (0 : Fin 1) r c) := by
  refine shapeCast_apply _ hs _ _ ?_
  rw [Shape.rowMajor_val_two, Shape.rowMajor_val_three]
  show (0 * n + r.val) * p + c.val = r.val * p + c.val
  rw [Nat.zero_mul, Nat.zero_add]

theorem add_lead_apply {α : Type} {n p : Nat} (x : (⟨2, ![n, p]⟩ : Shape).Idx → α)
    (hs : (⟨2, ![n, p]⟩ : Shape).ShapeCasts ⟨3, ![1, n, p]⟩) (z : Fin 1) (r : Fin n) (c : Fin p) :
    shapeCast ⟨3, ![1, n, p]⟩ x hs (ix3 z r c) = x (ix2 r c) := by
  refine shapeCast_apply _ hs _ _ ?_
  rw [Shape.rowMajor_val_two, Shape.rowMajor_val_three]
  show r.val * p + c.val = (z.val * n + r.val) * p + c.val
  rw [show z.val = 0 by omega, Nat.zero_mul, Nat.zero_add]

/-- The score of row `r` of a tile against key `k` of its window. -/
def score (q : S256x128.Idx → EReal) (kk : S768x128.Idx → EReal) (b : S1x256x768.Idx → EReal) (r : Fin 256)
    (k : Fin 768) : EReal :=
  (∑ d : Fin 128, q (ix2 r d) * kk (ix2 k d)) * scale + b (ix3 (0 : Fin 1) r k)

theorem ofBits_ninf : (FloatOps.ofBits (F := Ideal) .f32 0xFF800000#32 : EReal) = ⊥ := by
  show Ideal.ofBits .f32 0xFF800000#32 = ⊥
  simp [Ideal.ofBits, Ideal.ieee]

/-- A tile's output: the window's values weighted by the exponentials of the scores, over the weights' sum. -/
theorem pay4_apply (q : Vec Ideal S256x128 .bf16) (kk : Vec Ideal S768x128 .bf16) (b : Vec Ideal S1x256x768 .f32)
    (v : Vec Ideal S768x128 .bf16) (r : Fin 256) (c : Fin 128) :
    k0_pay4 (F := Ideal) q kk b v (ix2 r c) = lastDiv (score q kk b r) (fun k => v (ix2 k c)) := by
  unfold k0_pay4
  generalize h31 : addf (mulf (matmul (F := Ideal) dot_S256x128_S768x128_S256x768_1_1_0_0_n_n none q kk
    (constant S256x768 FTy.f32 0x00000000#32)) (broadcast S256x768 (Named.named κ "scale" 0x3DB504F3#32)))
    (shapeCast S256x768 b shapeCasts_S1x256x768_S256x768) = v31
  have e31 : ∀ k, v31 (ix2 r k) = score q kk b r k := by
    intro k
    rw [← h31]
    refine (congrArg₂ (· + ·) (congrArg₂ (· * ·) (Dots.matmul_nt (φ₁ := .bf16) (φ₂ := .bf16) _ rfl rfl rfl rfl rfl rfl none q kk r k) named_scale)
      (drop_lead_apply b _ r k)).trans rfl
  have e32 : ∀ h₁ h₂, multiReduction (F := Ideal) FKind.maximumf [1] S256 v31 0xFF800000#32 reduces_S256x768_S256 h₁ h₂ (ix1 r)
      = top (score q kk b r) := by
    intro h₁ h₂
    rw [Ideal.multiReduction_maximumf_single, ofBits_ninf]
    exact congrArg (Finset.fold max ⊥ · Finset.univ) (funext fun k => (congrArg v31 (by
      funext a; apply Fin.ext; match a with | ⟨0, _⟩ => rfl | ⟨1, _⟩ => rfl)).trans (e31 k))
  generalize h36 : exp (subf v31 _) = v36
  have e36 : ∀ k, v36 (ix2 r k) = num (score q kk b r) k := by
    intro k
    rw [← h36]
    exact congrArg Ideal.exp (congrArg₂ (· - ·) (e31 k) ((spread_apply (by decide) _ _ _ r k).trans (e32 _ _)))
  have e37 : ∀ h₁ h₂, multiReduction (F := Ideal) FKind.add [1] S256 v36 0x00000000#32 reduces_S256x768_S256 h₁ h₂ (ix1 r)
      = ∑ k, num (score q kk b r) k := by
    intro h₁ h₂
    rw [Ideal.multiReduction_add_single]
    exact Finset.sum_congr rfl fun k _ => (congrArg v36 (by
      funext a; apply Fin.ext; match a with | ⟨0, _⟩ => rfl | ⟨1, _⟩ => rfl)).trans (e36 k)
  refine (congrArg₂ Ideal.div (Dots.matmul_nn (φ₁ := .bf16) (φ₂ := .bf16) _ rfl rfl rfl rfl rfl rfl none (truncf .bf16 v36 bitsLt_bf16_f32) v r c)
    ((spread_apply (by decide) _ _ _ r c).trans (e37 _ _))).trans ?_
  exact congrArg (Ideal.div · _) (Finset.sum_congr rfl fun k _ => congrArg (· * _) (e36 k))

theorem pay2_eq (x : Vec Ideal S4096x128 .f32) : k0_pay2 (F := Ideal) x = x := shapeCast_self _ _
theorem pay3_eq (x : Vec Ideal S4096x128 .f32) : k0_pay3 (F := Ideal) x = x := shapeCast_self _ _

theorem pay5_eq (g : Vec Ideal S1x1x1024 .f32) (w : Vec Ideal S1x256x768 .f32) : k0_pay5 g w = k0_pay1 g w := rfl
theorem pay6_eq (g : Vec Ideal S1x1x1024 .f32) (w : Vec Ideal S1x256x768 .f32) : k0_pay6 g w = k0_pay1 g w := rfl

/-- A slab of the bias: row `r` is the table's row turned `r` places to the right, and `⊥` where not visible. -/
theorem bias_apply (g : Vec Ideal S1x1x1024 .f32) (w : Vec Ideal S1x256x768 .f32) (z : Fin 1) (r : Fin 256) (c : Fin 768) :
    k0_pay1 (F := Ideal) g w (ix3 z r c)
      = if FloatOps.ofBits (F := Ideal) .f32 0x3F000000#32 < w (ix3 (0 : Fin 1) r c)
        then g (ix3 (0 : Fin 1) (0 : Fin 1) (⟨(c.val + 1024 - r.val) % 1024, Nat.mod_lt _ (by decide)⟩ : Fin 1024)) else ⊥ := by
  unfold k0_pay1
  refine (add_lead_apply _ _ z r c).trans ?_
  generalize h47 : broadcastTo S256x1024 _ _ = v47
  have e47 : ∀ d, v47 (ix2 r d) = g (ix3 (0 : Fin 1) (0 : Fin 1) d) := by
    intro d
    rw [← h47]
    refine (broadcastTo_apply _ _ _ (ix2 (0 : Fin 1) d) (fun a => ?_)).trans ?_
    · match a with
      | ⟨0, _⟩ => rfl
      | ⟨1, _⟩ => rfl
    · rw [shapeCast_self]
      exact drop_lead_apply g _ _ _
  generalize h53 : extractStridedSlice (s := S256x1024) S256x768 ![0, 0] _ _ = v53
  have e53 : v53 (ix2 r c)
      = g (ix3 (0 : Fin 1) (0 : Fin 1) (⟨(c.val + 1024 - r.val) % 1024, Nat.mod_lt _ (by decide)⟩ : Fin 1024)) := by
    rw [← h53]
    refine (extractStridedSlice_apply _ _ _ _ (ix2 r (⟨c.val, by omega⟩ : Fin 1024)) (fun a => ?_)).trans ?_
    · match a with
      | ⟨0, _⟩ => exact (Nat.zero_add _).symm
      | ⟨1, _⟩ => exact (Nat.zero_add _).symm
    · rw [← e47]
      unfold dynamicRotate
      refine congrArg v47 (funext fun a => Fin.ext ?_)
      match a with
      | ⟨0, _⟩ => rfl
      | ⟨1, _⟩ =>
        show (c.val + 1024 - (0 + 1 * r.val) % 1024) % 1024 = (c.val + 1024 - r.val) % 1024
        have := r.isLt
        rw [show (0 + 1 * r.val) % 1024 = r.val by omega]
  show Scalar.select (FloatOps.cmpf (F := Ideal) .ogt (shapeCast S256x768 w _ (ix2 r c)) (FloatOps.ofBits .f32 0x3F000000#32))
    (v53 (ix2 r c)) (Named.named (F := Ideal) κ "mask" 0xF149F2CA#32) = _
  rw [e53, drop_lead_apply w _ r c, named_mask]
  by_cases h : FloatOps.ofBits (F := Ideal) .f32 0x3F000000#32 < w (ix3 (0 : Fin 1) r c)
  · rw [if_pos h, show FloatOps.cmpf (F := Ideal) .ogt (w (ix3 (0 : Fin 1) r c)) (FloatOps.ofBits .f32 0x3F000000#32) = 1#1 from
      congrArg BitVec.ofBool (decide_eq_true h)]
    rfl
  · rw [if_neg h, show FloatOps.cmpf (F := Ideal) .ogt (w (ix3 (0 : Fin 1) r c)) (FloatOps.ofBits .f32 0x3F000000#32) = 0#1 from
      congrArg BitVec.ofBool (decide_eq_false h)]
    rfl

end Cert.Attn

end
-- ==== Proof.BandWords.lean ====
/-
  The integer words of the banded attention read as natural numbers: which key a query may see, and which entry of
  the table of relative biases a pair of positions reads.  The kernel's host code and the reference compute both with
  32-bit words; here each is the plain number it stands for.
-/
module

public import proofs.«01_k».proof.Proof.AttnPay
public import Idealize.ShloMosaic.Lib.ValueIdxCore

@[expose] public section

set_option maxRecDepth 16384

noncomputable section

namespace Cert.Attn

open Idealize.ShloMosaic
open Idealize.ShloMosaic.ValueIdx

/-- Key `k` lies in the same group of 64 as query `q` or in one of the eight groups before it. -/
def Near (q k : ℕ) : Prop := k / 64 ≤ q / 64 ∧ q / 64 ≤ k / 64 + 8

instance (q k : ℕ) : Decidable (Near q k) := inferInstanceAs (Decidable (_ ∧ _))

/-- The entry of the bias table for query `q` and key `k`: the distance `q - k` held to `[-256, 256]`, plus 256. -/
def distIdx (q k : ℕ) : Fin 513 := ⟨min (q + 256 - k) 512, by omega⟩

/-- A position divided by 64, as words. -/
theorem div_word : ∀ x : Fin 4096,
    IntOp.divsi .host (BitVec.ofNat 32 x.val) 64#32 = BitVec.ofNat 32 (x.val / 64) := by
  decide +kernel

/-- Comparing two group numbers, as words. -/
theorem near_groups : ∀ a b : Fin 64,
    IntOp.andi (IntOp.cmpi .sle (BitVec.ofNat 32 b.val) (BitVec.ofNat 32 a.val))
        (IntOp.cmpi .sge (BitVec.ofNat 32 b.val) (IntOp.subi (BitVec.ofNat 32 a.val) 8#32))
      = BitVec.ofBool (decide (b.val ≤ a.val ∧ a.val ≤ b.val + 8)) := by
  decide +kernel

/-- The word that says whether query `q` sees key `k`. -/
theorem near_word (q k : ℕ) (hq : q < 4096) (hk : k < 4096) :
    IntOp.andi
        (IntOp.cmpi .sle (IntOp.divsi .host (BitVec.ofNat 32 k) 64#32)
          (IntOp.divsi .host (BitVec.ofNat 32 q) 64#32))
        (IntOp.cmpi .sge (IntOp.divsi .host (BitVec.ofNat 32 k) 64#32)
          (IntOp.subi (IntOp.divsi .host (BitVec.ofNat 32 q) 64#32) 8#32))
      = BitVec.ofBool (decide (Near q k)) := by
  rw [div_word ⟨k, hk⟩, div_word ⟨q, hq⟩]
  exact near_groups ⟨q / 64, by omega⟩ ⟨k / 64, by omega⟩

/-- Holding a difference of positions to `[-256, 256]`, adding 256 and wrapping a negative index, as a word. -/
def clipWord (d : BitVec 32) : BitVec 32 :=
  Scalar.select
    (IntOp.cmpi .slt (IntOp.addi (IntOp.minsi 256#32 (IntOp.maxsi 4294967040#32 d)) 256#32) 0#32)
    (IntOp.addi (IntOp.addi (IntOp.minsi 256#32 (IntOp.maxsi 4294967040#32 d)) 256#32) 513#32)
    (IntOp.addi (IntOp.minsi 256#32 (IntOp.maxsi 4294967040#32 d)) 256#32)

theorem clip_up : ∀ d : Fin 4096, (clipWord (BitVec.ofNat 32 d.val)).toInt.toNat = min (d.val + 256) 512 := by
  decide +kernel

theorem clip_down : ∀ d : Fin 4096, (clipWord (BitVec.ofInt 32 (-(d.val : ℤ)))).toInt.toNat = 256 - d.val := by
  decide +kernel

/-- The word of the bias entry for query `q` and key `k`. -/
theorem clip_word (q k : ℕ) (hq : q < 4096) (hk : k < 4096) :
    min (clipWord (IntOp.subi (BitVec.ofNat 32 q) (BitVec.ofNat 32 k))).toInt.toNat 512
      = (distIdx q k).val := by
  have e : IntOp.subi (BitVec.ofNat 32 q) (BitVec.ofNat 32 k) = BitVec.ofInt 32 ((q : ℤ) - k) := by
    show BitVec.ofNat 32 q - BitVec.ofNat 32 k = _
    apply BitVec.eq_of_toNat_eq
    simp only [BitVec.toNat_sub, BitVec.toNat_ofInt, BitVec.toNat_ofNat]
    omega
  rw [e]
  show _ = min (q + 256 - k) 512
  rcases Nat.lt_or_ge q k with h | h
  · have h2 : (q : ℤ) - k = -(((k - q : ℕ)) : ℤ) := by omega
    rw [h2, clip_down ⟨k - q, by omega⟩]
    show min (256 - (k - q)) 512 = _
    omega
  · have h2 : (q : ℤ) - k = ((q - k : ℕ) : ℤ) := by omega
    rw [h2, BitVec.ofInt_natCast, clip_up ⟨q - k, by omega⟩]
    show min (min (q - k + 256) 512) 512 = _
    omega

section Columns
variable {α : Type}

/-- The dimension numbers of a gather that picks, for each `(a, b)`, one column of a table `[H, N]`. -/
abbrev columnDims (H N A B : ℕ)
    (wf : GatherDims.WF ⟨2, ![H, N]⟩ ⟨3, ![A, B, 1]⟩ ⟨3, ![H, A, B]⟩ [0] [1] [] [1] [] 2 ![H, 1]) :
    GatherDims ⟨2, ![H, N]⟩ ⟨3, ![A, B, 1]⟩ ⟨3, ![H, A, B]⟩ where
  offsetDims := [0]
  collapsedSliceDims := [1]
  operandBatchingDims := []
  startIndicesBatchingDims := []
  startIndexMap := [1]
  indexVectorDim := 2
  sliceSizes := ![H, 1]
  wf := wf

/-- Entry `(h, a, b)` of such a gather is row `h` of the table at the column that the index at `(a, b)` names, read
signed and held to the table. -/
theorem gather_columns {H N A B w : ℕ} (hN : 0 < N)
    (wf : GatherDims.WF ⟨2, ![H, N]⟩ ⟨3, ![A, B, 1]⟩ ⟨3, ![H, A, B]⟩ [0] [1] [] [1] [] 2 ![H, 1])
    (x : (⟨2, ![H, N]⟩ : Shape).Idx → α) (idx : IVec ⟨3, ![A, B, 1]⟩ w) (h : Fin H) (a : Fin A) (b : Fin B) :
    Host.gather (columnDims H N A B wf) x idx (ix3 h a b)
      = x (ix2 h ⟨min (idx (ix3 a b 0)).toInt.toNat (N - 1), by omega⟩) := by
  unfold Host.gather
  congr 1
  funext c
  refine Fin.ext ?_
  show (columnDims H N A B wf).start (ix3 h a b) idx c + (columnDims H N A B wf).batchCoord (ix3 h a b) c
      + (columnDims H N A B wf).offCoord (ix3 h a b) c = _
  rw [GatherDims.batchCoord_eq_zero _ _ _ List.not_mem_nil]
  have h01 : c = 0 ∨ c = 1 := by
    match c with
    | ⟨0, _⟩ => exact Or.inl rfl
    | ⟨1, _⟩ => exact Or.inr rfl
  have hne : ¬ (0 : Fin 2) ∈ [(1 : Fin 2)] := by decide
  rcases h01 with rfl | rfl
  · unfold GatherDims.start
    rw [dif_neg (show ¬ ((0 : Fin 2) ∈ (columnDims H N A B wf).startIndexMap) from hne)]
    unfold GatherDims.offCoord
    rw [dif_pos ((GatherDims.mem_sKept _ _).mpr ⟨hne, List.not_mem_nil⟩)]
    show 0 + 0 + h.val = h.val
    omega
  · rw [GatherDims.offCoord_eq_zero _ _ _
      (fun hh => ((GatherDims.mem_sKept _ _).mp hh).1 (List.mem_singleton.mpr rfl))]
    unfold GatherDims.start
    rw [dif_pos (show (1 : Fin 2) ∈ (columnDims H N A B wf).startIndexMap from List.mem_singleton.mpr rfl)]
    have hsi : (columnDims H N A B wf).siIdx (ix3 h a b)
        ⟨List.idxOf (1 : Fin 2) (columnDims H N A B wf).startIndexMap,
          List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl

end Columns

end Cert.Attn
-- ==== Proof.AttnRun.lean ====
/-
  The attention kernel's loop over tiles of queries, read back: after it, row `r` of the output block is the softmax of
  its scores over the 768 keys of its window (`outBlk`), whatever the memory the blocks lie in.
-/
module

public import proofs.«01_k».proof.Proof.AttnPay
public import proofs.«01_k».proof.Proof.Gen.KernelIdeal.Value

@[expose] public section

set_option maxRecDepth 16384

noncomputable section

open scoped BigOperators

namespace Cert.Attn

open Cert.KernelIdeal Cert.KernelIdeal.Gen Idealize.ShloMosaic Idealize.ShloMosaic.ValueIdx Idealize.ShloMosaic.TcCoe

/-- Row `r` of a sequence of 4096 sees the 768 keys from here. -/
def winStart (r : Nat) : Nat := 256 * (r / 256) - 512

/-- Key `c` of row `r`'s window. -/
def winKey (r : Fin 4096) (c : Fin 768) : Fin 4096 := ⟨winStart r.val + c.val, by unfold winStart; omega⟩

/-- Which of the three slabs of the bias a row uses. -/
def slab (r : Fin 4096) : Fin 3 := ⟨min (r.val / 256) 2, by omega⟩

/-- A row's place in its tile. -/
def tileRow (r : Fin 4096) : Fin 256 := ⟨r.val % 256, Nat.mod_lt _ (by decide)⟩

/-- The scores of row `r` over its window. -/
def winScore (q k : S4096x128.Idx → EReal) (b : S3x256x768.Idx → EReal) (r : Fin 4096) (c : Fin 768) : EReal :=
  (∑ d : Fin 128, q (ix2 r d) * k (ix2 (winKey r c) d)) * scale + b (ix3 (slab r) (tileRow r) c)

/-- What the kernel leaves of one head of one sequence. -/
def outBlk (q k v : S4096x128.Idx → EReal) (b : S3x256x768.Idx → EReal) (y : S4096x128.Idx) : EReal :=
  lastDiv (winScore q k b (y 0)) (fun c => v (ix2 (winKey (y 0) c) (y 1)))

theorem trips_eq : k0_t1_loop.trips = 16 := by decide +kernel

theorem off1_eq : ∀ k : Fin k0_t1_loop.trips, k0_off1 k = ![256 * k.val, 0] := by decide +kernel
theorem off2_eq : ∀ k : Fin k0_t1_loop.trips, k0_off2 k = ![256 * k.val - 512, 0] := by decide +kernel
theorem off3_eq : ∀ k : Fin k0_t1_loop.trips, k0_off3 k = ![min k.val 2, 0, 0] := by decide +kernel

section
variable (𝒱 : Variants) (c : Dev nD) (bd : Option 𝒱.V) (i : grid0.Coords)
  (arg2 : Memref sig .tc .vmem S4096x128 .bf16) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S1x3x1024 .f32) (harg5 : arg5.IsWhole)
  (arg6 : Memref sig .tc .vmem S3x256x768 .f32) (harg6 : arg6.IsWhole) (arg7 : Memref sig .tc .vmem S4096x128 .bf16) (harg7 : arg7.IsWhole)
  (arg8 : Memref sig .tc .vmem S3x256x768 .f32) (harg8 : arg8.IsWhole) (arg9 : Memref sig .tc .vmem S4096x128 .bf16) (harg9 : arg9.IsWhole)
  (arg10 : Memref sig .tc .vmem S4096x128 .bf16) (harg10 : arg10.IsWhole)

section
variable (X2 : BufTy.Contents (Elt Ideal) arg2.view.ty) (X8 : BufTy.Contents (Elt Ideal) arg8.view.ty)
  (X9 : BufTy.Contents (Elt Ideal) arg9.view.ty) (X10 : BufTy.Contents (Elt Ideal) arg10.view.ty)

/-- One trip stores one piece: the tile's output. -/
theorem trip_eq (k : Fin k0_t1_loop.trips) :
    (trip_k0_t1 (F := Ideal) 𝒱 c bd i arg2 harg2 arg3 harg3 arg4 harg4 arg5 harg5 arg6 harg6 arg7 harg7 arg8 harg8 arg9 harg9 arg10 harg10 X2 X8 X9 X10 k).1
      = [⟨Rect.unit (s := S4096x128) (k0_off1 k) S256x128.size (k0_off1_inb k),
            k0_pay4 (F := Ideal) (View.readAt (Elt Ideal) arg2.view (Rect.unit (s := S4096x128) (k0_off1 k) S256x128.size (k0_off1_inb k)).toLoadRect X2)
              (View.readAt (Elt Ideal) arg9.view (Rect.unit (s := S4096x128) (k0_off2 k) S768x128.size (k0_off2_inb k)).toLoadRect X9)
              (View.readAt (Elt Ideal) arg8.view (Rect.unit (s := S3x256x768) (k0_off3 k) S1x256x768.size (k0_off3_inb k)).toLoadRect X8)
              (View.readAt (Elt Ideal) arg10.view (Rect.unit (s := S4096x128) (k0_off2 k) S768x128.size (k0_off2_inb k)).toLoadRect X10)⟩] := by
  unfold trip_k0_t1
  rfl

/-- The tile's output is the tile's part of `outBlk`. -/
theorem piece_eq (k : Fin k0_t1_loop.trips) (x : S256x128.Idx) :
    k0_pay4 (F := Ideal) (View.readAt (Elt Ideal) arg2.view (Rect.unit (s := S4096x128) (k0_off1 k) S256x128.size (k0_off1_inb k)).toLoadRect X2)
              (View.readAt (Elt Ideal) arg9.view (Rect.unit (s := S4096x128) (k0_off2 k) S768x128.size (k0_off2_inb k)).toLoadRect X9)
              (View.readAt (Elt Ideal) arg8.view (Rect.unit (s := S3x256x768) (k0_off3 k) S1x256x768.size (k0_off3_inb k)).toLoadRect X8)
              (View.readAt (Elt Ideal) arg10.view (Rect.unit (s := S4096x128) (k0_off2 k) S768x128.size (k0_off2_inb k)).toLoadRect X10) x
      = outBlk (arg2.view.read (Elt Ideal) X2) (arg9.view.read (Elt Ideal) X9) (arg10.view.read (Elt Ideal) X10)
          (arg8.view.read (Elt Ideal) X8) ((Rect.unit (s := S4096x128) (k0_off1 k) S256x128.size (k0_off1_inb k)).emb x) := by
  have hk : k.val < 16 := trips_eq ▸ k.isLt
  have o10 := congrFun (off1_eq k) 0
  have o11 := congrFun (off1_eq k) 1
  have o20 := congrFun (off2_eq k) 0
  have o21 := congrFun (off2_eq k) 1
  have o30 := congrFun (off3_eq k) 0
  have o31 := congrFun (off3_eq k) 1
  have o32 := congrFun (off3_eq k) 2
  simp only [Matrix.cons_val_zero, Matrix.cons_val_one, Matrix.cons_val] at o10 o11 o20 o21 o30 o31 o32
  obtain ⟨r, d, rfl⟩ : ∃ (r : Fin 256) (d : Fin 128), x = ix2 r d := ⟨x 0, x 1, eq_ix2 x⟩
  have hr : r.val < 256 := r.isLt
  generalize hy : (Rect.unit (s := S4096x128) (k0_off1 k) S256x128.size (k0_off1_inb k)).emb (ix2 r d) = y
  have y0 : (y 0).val = 256 * k.val + r.val := by
    rw [← hy]; show k0_off1 k 0 + 1 * r.val = _; omega
  have y1 : (y 1).val = d.val := by
    rw [← hy]; show k0_off1 k 1 + 1 * d.val = _; omega
  rw [pay4_apply]
  unfold outBlk
  have e2 : ∀ e : Fin 128, View.readAt (Elt Ideal) arg2.view (Rect.unit (s := S4096x128) (k0_off1 k) S256x128.size (k0_off1_inb k)).toLoadRect X2 (ix2 r e)
      = arg2.view.read (Elt Ideal) X2 (ix2 (y 0) e) := fun e =>
    congrArg (arg2.view.read (Elt Ideal) X2) (funext fun a => Fin.ext (by
      match a with
      | ⟨0, _⟩ => show k0_off1 k 0 + 1 * r.val = (y 0).val; omega
      | ⟨1, _⟩ => show k0_off1 k 1 + 1 * e.val = e.val; omega))
  have w : ∀ cc : Fin 768, (winKey (y 0) cc).val = 256 * k.val - 512 + cc.val := fun cc => by
    show winStart (y 0).val + cc.val = _
    unfold winStart
    rw [y0]; omega
  have e9 : ∀ (cc : Fin 768) (e : Fin 128), View.readAt (Elt Ideal) arg9.view (Rect.unit (s := S4096x128) (k0_off2 k) S768x128.size (k0_off2_inb k)).toLoadRect X9 (ix2 cc e)
      = arg9.view.read (Elt Ideal) X9 (ix2 (winKey (y 0) cc) e) := fun cc e =>
    congrArg (arg9.view.read (Elt Ideal) X9) (funext fun a => Fin.ext (by
      match a with
      | ⟨0, _⟩ => show k0_off2 k 0 + 1 * cc.val = (winKey (y 0) cc).val; rw [w]; omega
      | ⟨1, _⟩ => show k0_off2 k 1 + 1 * e.val = e.val; omega))
  have e10 : ∀ (cc : Fin 768), View.readAt (Elt Ideal) arg10.view (Rect.unit (s := S4096x128) (k0_off2 k) S768x128.size (k0_off2_inb k)).toLoadRect X10 (ix2 cc d)
      = arg10.view.read (Elt Ideal) X10 (ix2 (winKey (y 0) cc) (y 1)) := fun cc =>
    congrArg (arg10.view.read (Elt Ideal) X10) (funext fun a => Fin.ext (by
      match a with
      | ⟨0, _⟩ => show k0_off2 k 0 + 1 * cc.val = (winKey (y 0) cc).val; rw [w]; omega
      | ⟨1, _⟩ => show k0_off2 k 1 + 1 * d.val = (y 1).val; omega))
  have e8 : ∀ (cc : Fin 768), View.readAt (Elt Ideal) arg8.view (Rect.unit (s := S3x256x768) (k0_off3 k) S1x256x768.size (k0_off3_inb k)).toLoadRect X8 (ix3 (0 : Fin 1) r cc)
      = arg8.view.read (Elt Ideal) X8 (ix3 (slab (y 0)) (tileRow (y 0)) cc) := fun cc =>
    congrArg (arg8.view.read (Elt Ideal) X8) (funext fun a => Fin.ext (by
      match a with
      | ⟨0, _⟩ => show k0_off3 k 0 + 1 * 0 = min ((y 0).val / 256) 2; rw [y0]; omega
      | ⟨1, _⟩ => show k0_off3 k 1 + 1 * r.val = (y 0).val % 256; rw [y0]; omega
      | ⟨2, _⟩ => show k0_off3 k 2 + 1 * cc.val = cc.val; omega))
  congr 1
  · funext cc
    unfold score winScore
    rw [e8]
    simp only [e2, e9]
  · funext cc
    exact e10 cc

/-- After `n` trips the rows of the first `n` tiles are written. -/
theorem loop_pieces (n : Nat) (hn : n ≤ k0_t1_loop.trips) :
    (∀ p ∈ pb_k0_t1 (F := Ideal) 𝒱 c bd i arg2 harg2 arg3 harg3 arg4 harg4 arg5 harg5 arg6 harg6 arg7 harg7 arg8 harg8 arg9 harg9 arg10 harg10 X2 X8 X9 X10 n,
      ∀ x : p.1.shape.Idx, p.2 x = outBlk (arg2.view.read (Elt Ideal) X2) (arg9.view.read (Elt Ideal) X9)
        (arg10.view.read (Elt Ideal) X10) (arg8.view.read (Elt Ideal) X8) (p.1.emb x))
    ∧ ∀ y : S4096x128.Idx, (y 0).val < 256 * n →
      ∃ p ∈ pb_k0_t1 (F := Ideal) 𝒱 c bd i arg2 harg2 arg3 harg3 arg4 harg4 arg5 harg5 arg6 harg6 arg7 harg7 arg8 harg8 arg9 harg9 arg10 harg10 X2 X8 X9 X10 n,
        y ∈ p.1.set := by
  induction n with
  | zero => exact ⟨fun p hp => absurd hp List.not_mem_nil, fun y hy => absurd hy (by omega)⟩
  | succ n ih =>
    obtain ⟨ih1, ih2⟩ := ih (by omega)
    have hs := pb_k0_t1_succ (F := Ideal) 𝒱 c bd i arg2 harg2 arg3 harg3 arg4 harg4 arg5 harg5 arg6 harg6 arg7 harg7 arg8 harg8 arg9 harg9 arg10 harg10 X2 X8 X9 X10 ⟨n, hn⟩
    rw [show tripL_k0_t1 (F := Ideal) 𝒱 c bd i arg2 harg2 arg3 harg3 arg4 harg4 arg5 harg5 arg6 harg6 arg7 harg7 arg8 harg8 arg9 harg9 arg10 harg10 X2 X8 X9 X10 ⟨n, hn⟩ = _
      from trip_eq 𝒱 c bd i arg2 harg2 arg3 harg3 arg4 harg4 arg5 harg5 arg6 harg6 arg7 harg7 arg8 harg8 arg9 harg9 arg10 harg10 X2 X8 X9 X10 ⟨n, hn⟩] at hs
    rw [show pb_k0_t1 (F := Ideal) 𝒱 c bd i arg2 harg2 arg3 harg3 arg4 harg4 arg5 harg5 arg6 harg6 arg7 harg7 arg8 harg8 arg9 harg9 arg10 harg10 X2 X8 X9 X10 (n + 1) = _ from hs]
    refine ⟨fun p hp => ?_, fun y hy => ?_⟩
    · rcases List.mem_append.1 hp with h | h
      · obtain rfl := List.mem_singleton.1 h
        exact piece_eq arg2 arg8 arg9 arg10 X2 X8 X9 X10 ⟨n, hn⟩
      · exact ih1 p h
    · by_cases h : (y 0).val < 256 * n
      · obtain ⟨p, hp, hm⟩ := ih2 y h
        exact ⟨p, List.mem_append_right _ hp, hm⟩
      · refine ⟨_, List.mem_append_left _ (List.mem_singleton.2 rfl), ?_⟩
        refine (Rect.mem_set_unit (inb := k0_off1_inb ⟨n, hn⟩)).2 fun a => ?_
        have o10 := congrFun (off1_eq ⟨n, hn⟩) 0
        have o11 := congrFun (off1_eq ⟨n, hn⟩) 1
        simp only [Matrix.cons_val_zero, Matrix.cons_val_one, Matrix.cons_val] at o10 o11
        match a with
        | ⟨0, _⟩ => show k0_off1 ⟨n, hn⟩ 0 ≤ (y 0).val ∧ (y 0).val < k0_off1 ⟨n, hn⟩ 0 + 256; omega
        | ⟨1, _⟩ => show k0_off1 ⟨n, hn⟩ 1 ≤ (y 1).val ∧ (y 1).val < k0_off1 ⟨n, hn⟩ 1 + 128; have : (y 1).val < 128 := (y 1).isLt; omega

/-- After the loop the output block holds `outBlk` of what the loop read. -/
theorem loop_canon :
    View.canon (pb_k0_t1 (F := Ideal) 𝒱 c bd i arg2 harg2 arg3 harg3 arg4 harg4 arg5 harg5 arg6 harg6 arg7 harg7 arg8 harg8 arg9 harg9 arg10 harg10 X2 X8 X9 X10 k0_t1_loop.trips)
      = outBlk (arg2.view.read (Elt Ideal) X2) (arg9.view.read (Elt Ideal) X9) (arg10.view.read (Elt Ideal) X10)
          (arg8.view.read (Elt Ideal) X8) := by
  obtain ⟨h1, h2⟩ := loop_pieces 𝒱 c bd i arg2 harg2 arg3 harg3 arg4 harg4 arg5 harg5 arg6 harg6 arg7 harg7 arg8 harg8 arg9 harg9 arg10 harg10 X2 X8 X9 X10 k0_t1_loop.trips le_rfl
  funext y
  exact View.canon_apply_of_pieces _ _ h1 y (h2 y (by rw [trips_eq]; exact (y 0).isLt))

end

/-- The bias a head's first point builds: the table's row `s` turned `r` places, masked. -/
def biasBlk (g : S1x3x1024.Idx → EReal) (w : S3x256x768.Idx → EReal) (y : S3x256x768.Idx) : EReal :=
  if FloatOps.ofBits (F := Ideal) .f32 0x3F000000#32 < w y
  then g (ix3 (0 : Fin 1) (y 0) (⟨((y 2).val + 1024 - (y 1).val) % 1024, Nat.mod_lt _ (by decide)⟩ : Fin 1024)) else ⊥

/-- A slab stored is that slab of `biasBlk`. -/
theorem slab_eq (f5 : BufTy.Contents (Elt Ideal) arg5.view.ty) (f6 : BufTy.Contents (Elt Ideal) arg6.view.ty) (n : Nat)
    (hg : ∀ a, (![0, n, 0] : Fin 3 → Nat) a + S1x1x1024.size a ≤ S1x3x1024.size a)
    (hw : ∀ a, (![n, 0, 0] : Fin 3 → Nat) a + S1x256x768.size a ≤ S3x256x768.size a) (x : S1x256x768.Idx) :
    k0_pay1 (F := Ideal)
        (View.readAt (Elt Ideal) arg5.view (Rect.unit (s := S1x3x1024) ![0, n, 0] S1x1x1024.size hg).toLoadRect f5)
        (View.readAt (Elt Ideal) arg6.view (Rect.unit (s := S3x256x768) ![n, 0, 0] S1x256x768.size hw).toLoadRect f6) x
      = biasBlk (arg5.view.read (Elt Ideal) f5) (arg6.view.read (Elt Ideal) f6)
          ((Rect.unit (s := S3x256x768) ![n, 0, 0] S1x256x768.size hw).emb x) := by
  obtain ⟨z, r, d, rfl⟩ : ∃ (z : Fin 1) (r : Fin 256) (d : Fin 768), x = ix3 z r d := ⟨x 0, x 1, x 2, eq_ix3 x⟩
  have hz : z.val = 0 := by omega
  generalize hy : (Rect.unit (s := S3x256x768) ![n, 0, 0] S1x256x768.size hw).emb (ix3 z r d) = y
  have y0 : (y 0).val = n := by rw [← hy]; show n + 1 * z.val = n; omega
  have y1 : (y 1).val = r.val := by rw [← hy]; show 0 + 1 * r.val = r.val; omega
  have y2 : (y 2).val = d.val := by rw [← hy]; show 0 + 1 * d.val = d.val; omega
  rw [bias_apply]
  unfold biasBlk
  have e6 : View.readAt (Elt Ideal) arg6.view (Rect.unit (s := S3x256x768) ![n, 0, 0] S1x256x768.size hw).toLoadRect f6 (ix3 (0 : Fin 1) r d)
      = arg6.view.read (Elt Ideal) f6 y :=
    congrArg (arg6.view.read (Elt Ideal) f6) (funext fun a => Fin.ext (by
      match a with
      | ⟨0, _⟩ => show n + 1 * 0 = (y 0).val; omega
      | ⟨1, _⟩ => show 0 + 1 * r.val = (y 1).val; omega
      | ⟨2, _⟩ => show 0 + 1 * d.val = (y 2).val; omega))
  have e5 : View.readAt (Elt Ideal) arg5.view (Rect.unit (s := S1x3x1024) ![0, n, 0] S1x1x1024.size hg).toLoadRect f5
        (ix3 (0 : Fin 1) (0 : Fin 1) (⟨(d.val + 1024 - r.val) % 1024, Nat.mod_lt _ (by decide)⟩ : Fin 1024))
      = arg5.view.read (Elt Ideal) f5 (ix3 (0 : Fin 1) (y 0) (⟨((y 2).val + 1024 - (y 1).val) % 1024, Nat.mod_lt _ (by decide)⟩ : Fin 1024)) :=
    congrArg (arg5.view.read (Elt Ideal) f5) (funext fun a => Fin.ext (by
      match a with
      | ⟨0, _⟩ => rfl
      | ⟨1, _⟩ => show n + 1 * 0 = (y 0).val; omega
      | ⟨2, _⟩ =>
        show 0 + 1 * ((d.val + 1024 - r.val) % 1024) = ((y 2).val + 1024 - (y 1).val) % 1024
        rw [y1, y2]; omega))
  rw [e6, e5]

section
variable (x0 : Vec Ideal S4096x128 .bf16) (x1 x2 : Vec Ideal S4096x128 .f32) (x3 : Vec Ideal S1x3x1024 .f32)
  (x4 xs0 : Vec Ideal S3x256x768 .f32)

/-- At a head's first point the three slabs stored are `biasBlk`. -/
theorem bias_canon (hc0 : cond0_0 i) :
    View.canon (kernelRun0_A (F := Ideal) c i arg2 harg2 arg3 harg3 arg4 harg4 arg5 harg5 arg6 harg6 arg7 harg7 arg8 harg8 arg9 harg9 arg10 harg10 hc0 x0 x1 x2 x3 x4).2.1
      = biasBlk x3 x4 := by
  funext y
  refine View.canon_apply_of_pieces (biasBlk x3 x4) _ ?_ y (scover0_A_0 c i arg2 harg2 arg3 harg3 arg4 harg4 arg5 harg5 arg6 harg6 arg7 harg7 arg8 harg8 arg9 harg9 arg10 harg10 hc0 x0 x1 x2 x3 x4 y)
  have r5 := harg5.read_unread (Val := Elt Ideal) x3
  have r6 := harg6.read_unread (Val := Elt Ideal) x4
  intro p hp
  replace hp : p ∈ [
    (⟨Rect.unit (s := S3x256x768) ![2, 0, 0] S1x256x768.size inb_S3x256x768_S1x256x768_2_0_0, k0_pay1 (F := Ideal)
        (View.readAt (Elt Ideal) arg5.view (Rect.unit (s := S1x3x1024) ![0, 2, 0] S1x1x1024.size inb_S1x3x1024_S1x1x1024_0_2_0).toLoadRect (harg5.unread x3))
        (View.readAt (Elt Ideal) arg6.view (Rect.unit (s := S3x256x768) ![2, 0, 0] S1x256x768.size inb_S3x256x768_S1x256x768_2_0_0).toLoadRect (harg6.unread x4))⟩ : View.Piece (Elt Ideal) S3x256x768 .f32),
    ⟨Rect.unit (s := S3x256x768) ![1, 0, 0] S1x256x768.size inb_S3x256x768_S1x256x768_1_0_0, k0_pay1 (F := Ideal)
        (View.readAt (Elt Ideal) arg5.view (Rect.unit (s := S1x3x1024) ![0, 1, 0] S1x1x1024.size inb_S1x3x1024_S1x1x1024_0_1_0).toLoadRect (harg5.unread x3))
        (View.readAt (Elt Ideal) arg6.view (Rect.unit (s := S3x256x768) ![1, 0, 0] S1x256x768.size inb_S3x256x768_S1x256x768_1_0_0).toLoadRect (harg6.unread x4))⟩,
    ⟨Rect.unit (s := S3x256x768) ![0, 0, 0] S1x256x768.size inb_S3x256x768_S1x256x768_0_0_0, k0_pay1 (F := Ideal)
        (View.readAt (Elt Ideal) arg5.view (Rect.unit (s := S1x3x1024) ![0, 0, 0] S1x1x1024.size inb_S1x3x1024_S1x1x1024_0_0_0).toLoadRect (harg5.unread x3))
        (View.readAt (Elt Ideal) arg6.view (Rect.unit (s := S3x256x768) ![0, 0, 0] S1x256x768.size inb_S3x256x768_S1x256x768_0_0_0).toLoadRect (harg6.unread x4))⟩] := hp
  simp only [List.mem_cons, List.not_mem_nil, or_false] at hp
  rcases hp with rfl | rfl | rfl <;> intro x
  · exact (slab_eq arg5 arg6 (harg5.unread x3) (harg6.unread x4) 2 _ _ x).trans (by rw [r5, r6])
  · exact (slab_eq arg5 arg6 (harg5.unread x3) (harg6.unread x4) 1 _ _ x).trans (by rw [r5, r6])
  · exact (slab_eq arg5 arg6 (harg5.unread x3) (harg6.unread x4) 0 _ _ x).trans (by rw [r5, r6])

theorem sout_A (hc0 : cond0_0 i) :
    sout0_A_0 (F := Ideal) c i arg2 harg2 arg3 harg3 arg4 harg4 arg5 harg5 arg6 harg6 arg7 harg7 arg8 harg8 arg9 harg9 arg10 harg10 hc0 x0 x1 x2 x3 x4
      = biasBlk x3 x4 :=
  (View.read_writes_eq_canon _ _ _ (scover0_A_0 c i arg2 harg2 arg3 harg3 arg4 harg4 arg5 harg5 arg6 harg6 arg7 harg7 arg8 harg8 arg9 harg9 arg10 harg10 hc0 x0 x1 x2 x3 x4)).trans
    (bias_canon c i arg2 harg2 arg3 harg3 arg4 harg4 arg5 harg5 arg6 harg6 arg7 harg7 arg8 harg8 arg9 harg9 arg10 harg10 x0 x1 x2 x3 x4 hc0)

/-- The keys and values as the loop reads them are the blocks themselves. -/
theorem read_whole {e : EltTy} (a : Memref sig .tc .vmem S4096x128 e) (f : BufTy.Contents (Elt Ideal) a.view.ty)
    (p : View.Piece (Elt Ideal) S4096x128 e) (w : S4096x128.Idx → Elt Ideal e)
    (hp : p = ⟨Rect.unit (s := S4096x128) ![0, 0] S4096x128.size inb_S4096x128_S4096x128_0_0, w⟩) :
    a.view.read (Elt Ideal) (a.view.writes (Elt Ideal) f [p]) = w := by
  subst hp
  have hz : (![0, 0] : Fin S4096x128.rank → Nat) = fun _ => 0 := by funext a; match a with | ⟨0, _⟩ => rfl | ⟨1, _⟩ => rfl
  rw [View.read_writes_eq_canon]
  · exact View.canon_unit_zero hz _ _
  · intro y
    refine ⟨_, List.mem_singleton.2 rfl, ?_⟩
    refine (Rect.mem_set_unit (inb := inb_S4096x128_S4096x128_0_0)).2 fun a => ?_
    match a with
    | ⟨0, _⟩ => exact ⟨Nat.zero_le _, by show (y 0).val < 0 + 4096; have : (y 0).val < 4096 := (y 0).isLt; omega⟩
    | ⟨1, _⟩ => exact ⟨Nat.zero_le _, by show (y 1).val < 0 + 128; have : (y 1).val < 128 := (y 1).isLt; omega⟩

theorem ld_whole {e : EltTy} (a : Memref sig .tc .vmem S4096x128 e) (ha : a.IsWhole) (x : S4096x128.Idx → Elt Ideal e) :
    View.readAt (Elt Ideal) a.view (Rect.unit (s := S4096x128) ![0, 0] S4096x128.size inb_S4096x128_S4096x128_0_0).toLoadRect (ha.unread x) = x := by
  have hz : (![0, 0] : Fin S4096x128.rank → Nat) = fun _ => 0 := by funext a; match a with | ⟨0, _⟩ => rfl | ⟨1, _⟩ => rfl
  rw [View.readAt_eq_ld, ha.read_unread, View.ld_unit_zero (S := S4096x128) hz]

theorem out_A (hc0 : cond0_0 i) :
    out0_A_5 (F := Ideal) c i arg2 harg2 arg3 harg3 arg4 harg4 arg5 harg5 arg6 harg6 arg7 harg7 arg8 harg8 arg9 harg9 arg10 harg10 hc0 x0 x1 x2 x3 x4
      = outBlk x0 x1 x2 (biasBlk x3 x4) := by
  refine (View.read_writes_eq_canon _ _ _ (cover0_A_5 c i arg2 harg2 arg3 harg3 arg4 harg4 arg5 harg5 arg6 harg6 arg7 harg7 arg8 harg8 arg9 harg9 arg10 harg10 hc0 x0 x1 x2 x3 x4)).trans ?_
  refine (loop_canon Variants.none c none i arg2 harg2 arg3 harg3 arg4 harg4 arg5 harg5 arg6 harg6 arg7 harg7 arg8 harg8 arg9 harg9 arg10 harg10
    (harg2.unread x0) (arg8.view.writes (Elt Ideal) arg8.view.junk (kernelRun0_A (F := Ideal) c i arg2 harg2 arg3 harg3 arg4 harg4 arg5 harg5 arg6 harg6 arg7 harg7 arg8 harg8 arg9 harg9 arg10 harg10 hc0 x0 x1 x2 x3 x4).2.1)
    (arg9.view.writes (Elt Ideal) arg9.view.junk [⟨Rect.unit (s := S4096x128) ![0, 0] S4096x128.size inb_S4096x128_S4096x128_0_0, k0_pay2 (F := Ideal) (View.readAt (Elt Ideal) arg3.view (Rect.unit (s := S4096x128) ![0, 0] S4096x128.size inb_S4096x128_S4096x128_0_0).toLoadRect (harg3.unread x1))⟩])
    (arg10.view.writes (Elt Ideal) arg10.view.junk [⟨Rect.unit (s := S4096x128) ![0, 0] S4096x128.size inb_S4096x128_S4096x128_0_0, k0_pay3 (F := Ideal) (View.readAt (Elt Ideal) arg4.view (Rect.unit (s := S4096x128) ![0, 0] S4096x128.size inb_S4096x128_S4096x128_0_0).toLoadRect (harg4.unread x2))⟩])).trans ?_
  rw [harg2.read_unread, read_whole _ _ _ _ rfl, read_whole _ _ _ _ rfl, pay2_eq, pay3_eq, ld_whole, ld_whole,
    View.read_writes_eq_canon _ _ _ (scover0_A_0 c i arg2 harg2 arg3 harg3 arg4 harg4 arg5 harg5 arg6 harg6 arg7 harg7 arg8 harg8 arg9 harg9 arg10 harg10 hc0 x0 x1 x2 x3 x4),
    bias_canon]

theorem out_B (hc0 : ¬ cond0_0 i) :
    out0_B_5 (F := Ideal) c i arg2 harg2 arg3 harg3 arg4 harg4 arg5 harg5 arg6 harg6 arg7 harg7 arg8 harg8 arg9 harg9 arg10 harg10 hc0 x0 x1 x2 x3 x4 xs0
      = outBlk x0 x1 x2 xs0 := by
  refine (View.read_writes_eq_canon _ _ _ (cover0_B_5 c i arg2 harg2 arg3 harg3 arg4 harg4 arg5 harg5 arg6 harg6 arg7 harg7 arg8 harg8 arg9 harg9 arg10 harg10 hc0 x0 x1 x2 x3 x4 xs0)).trans ?_
  refine (loop_canon Variants.none c none i arg2 harg2 arg3 harg3 arg4 harg4 arg5 harg5 arg6 harg6 arg7 harg7 arg8 harg8 arg9 harg9 arg10 harg10
    (harg2.unread x0) (harg8.unread xs0)
    (arg9.view.writes (Elt Ideal) arg9.view.junk [⟨Rect.unit (s := S4096x128) ![0, 0] S4096x128.size inb_S4096x128_S4096x128_0_0, k0_pay2 (F := Ideal) (View.readAt (Elt Ideal) arg3.view (Rect.unit (s := S4096x128) ![0, 0] S4096x128.size inb_S4096x128_S4096x128_0_0).toLoadRect (harg3.unread x1))⟩])
    (arg10.view.writes (Elt Ideal) arg10.view.junk [⟨Rect.unit (s := S4096x128) ![0, 0] S4096x128.size inb_S4096x128_S4096x128_0_0, k0_pay3 (F := Ideal) (View.readAt (Elt Ideal) arg4.view (Rect.unit (s := S4096x128) ![0, 0] S4096x128.size inb_S4096x128_S4096x128_0_0).toLoadRect (harg4.unread x2))⟩])).trans ?_
  rw [harg2.read_unread, read_whole _ _ _ _ rfl, read_whole _ _ _ _ rfl, pay2_eq, pay3_eq, ld_whole, ld_whole,
    harg8.read_unread]

end
end
end Cert.Attn

end
-- ==== Proof.AttnTables.lean ====
/-
  The two tables that the attention kernel's host code prepares: the bias rows (one per head and slab) and the
  visibility of the keys of a window.
-/
module

public import proofs.«01_k».proof.Proof.BandWords
public import proofs.«01_k».proof.Proof.AttnRun
public import Idealize.ShloMosaic.Lib.IdealHost

@[expose] public section

set_option maxRecDepth 16384

noncomputable section

namespace Cert.Attn

open Idealize.ShloMosaic
open Idealize.ShloMosaic.ValueIdx
open Cert.KernelIdeal Cert.KernelIdeal.Gen

/-- The host's table of bias entries: slab `s`, place `j`. -/
theorem table_entry : ∀ (s : Fin 3) (j : Fin 1024),
    min (lit0 ⟨s.val * 1024 + j.val, by omega⟩).toInt.toNat 512
      = if j.val < 768 then min (256 * s.val + 256 - j.val) 512 else min (256 * s.val + 1280 - j.val) 512 := by
  decide +kernel

variable (m : (ℓ : Loc nD τ sig) → Buf (Elt Ideal) ℓ) (c : Dev nD)

set_option maxHeartbeats 4000000 in
theorem V_v4 : (V m c main_v4 : S8x3x1024.Idx → EReal)
    = Host.gather gather_S8x513_S3x1024x1_S8x3x1024_0_1_n_n_1_2_81 (m ((c.tc : Thread nD τ).loc main_arg2))
        (broadcastInDim S3x1024x1 ![0, 1] bcast_S3x1024_S3x1024x1_0_1
          (select (constantI S3x1024 1 0#1)
            (addi (fun i => lit0 (S3x1024.rowMajor i)) (broadcastInDim S3x1024 ![] bcast_S_S3x1024 (constantI S_ 32 513#32)))
            (fun i => lit0 (S3x1024.rowMajor i)))) := by
  simp only [V, hostOps0, hostOps0_1, List.flatten_cons, List.flatten_nil, List.append_nil, List.cons_append,
    List.nil_append, StableHlo.TRef.binary, StableHlo.TRef.ternary, StableHlo.TRef.unary, StableHlo.TRef.toBuf, StableHlo.TRef.ofBuf, cast_eq]
  after_results_simp <;> rfl

set_option maxHeartbeats 4000000 in
theorem V_v20 : (V m c main_v20 : S3x256x768.Idx → EReal)
    = fun y => Scalar.select
        (IntOp.andi
          (IntOp.cmpi .sle (IntOp.divsi .host (BitVec.ofNat 32 (y 2).val) 64#32)
            (IntOp.divsi .host (IntOp.addi (IntOp.muli (BitVec.ofNat 32 (y 0).val) 256#32) (BitVec.ofNat 32 (y 1).val)) 64#32))
          (IntOp.cmpi .sge (IntOp.divsi .host (BitVec.ofNat 32 (y 2).val) 64#32)
            (IntOp.subi (IntOp.divsi .host (IntOp.addi (IntOp.muli (BitVec.ofNat 32 (y 0).val) 256#32) (BitVec.ofNat 32 (y 1).val)) 64#32) 8#32)))
        (FloatOps.ofBits (F := Ideal) .f32 0x3F800000#32) (FloatOps.ofBits (F := Ideal) .f32 0x00000000#32) := by
  simp only [V, hostOps0, hostOps0_1, List.flatten_cons, List.flatten_nil, List.append_nil, List.cons_append,
    List.nil_append, StableHlo.TRef.binary, StableHlo.TRef.ternary, StableHlo.TRef.unary, StableHlo.TRef.toBuf, StableHlo.TRef.ofBuf, cast_eq]
  after_results_simp <;> rfl

/-- A word that is one exactly when `p` holds selects as `p` does. -/
theorem select_bool {α : Type} (p : Prop) [Decidable p] (a b : α) :
    Scalar.select (BitVec.ofBool (decide p)) a b = if p then a else b := by
  by_cases h : p
  · rw [decide_eq_true h, if_pos h]; exact select_one ..
  · rw [decide_eq_false h, if_neg h]; exact select_zero ..

theorem half_lt_one : FloatOps.ofBits (F := Ideal) .f32 0x3F000000#32 < FloatOps.ofBits (F := Ideal) .f32 0x3F800000#32 := by
  rw [show FloatOps.ofBits (F := Ideal) .f32 0x3F800000#32 = 1 from Ideal.ofBits_one_f32]
  show Ideal.ofBits .f32 0x3F000000#32 < 1
  simp only [Ideal.ofBits, Ideal.ieee]
  simp
  exact_mod_cast (by norm_num : (8388608 : ℝ) * (2 ^ 24)⁻¹ < 1)

theorem not_half_lt_zero : ¬ FloatOps.ofBits (F := Ideal) .f32 0x3F000000#32 < FloatOps.ofBits (F := Ideal) .f32 0x00000000#32 := by
  rw [show FloatOps.ofBits (F := Ideal) .f32 0x00000000#32 = 0 from Ideal.ofBits_zero_f32]
  show ¬ Ideal.ofBits .f32 0x3F000000#32 < 0
  simp only [Ideal.ofBits, Ideal.ieee]
  refine not_lt.mpr ?_
  simp
  exact_mod_cast (by positivity : (0 : ℝ) ≤ 8388608 * (2 ^ 24)⁻¹)

/-- The visibility table: entry `(s, r, c)` is above one half exactly when query `256 s + r` may see key `c`. -/
theorem vis_entry (s : Fin 3) (r : Fin 256) (k : Fin 768) :
    FloatOps.ofBits (F := Ideal) .f32 0x3F000000#32 < (V m c main_v20 : S3x256x768.Idx → EReal) (ix3 s r k)
      ↔ Near (256 * s.val + r.val) k.val := by
  have e : IntOp.addi (IntOp.muli (BitVec.ofNat 32 s.val) 256#32) (BitVec.ofNat 32 r.val)
      = BitVec.ofNat 32 (256 * s.val + r.val) := by
    apply BitVec.eq_of_toNat_eq
    simp only [IntOp.addi, IntOp.muli, BitVec.toNat_add, BitVec.toNat_mul, BitVec.toNat_ofNat]
    omega
  have h := congrFun (V_v20 m c) (ix3 s r k)
  rw [h]
  show _ < Scalar.select
        (IntOp.andi
          (IntOp.cmpi .sle (IntOp.divsi .host (BitVec.ofNat 32 k.val) 64#32)
            (IntOp.divsi .host (IntOp.addi (IntOp.muli (BitVec.ofNat 32 s.val) 256#32) (BitVec.ofNat 32 r.val)) 64#32))
          (IntOp.cmpi .sge (IntOp.divsi .host (BitVec.ofNat 32 k.val) 64#32)
            (IntOp.subi (IntOp.divsi .host (IntOp.addi (IntOp.muli (BitVec.ofNat 32 s.val) 256#32) (BitVec.ofNat 32 r.val)) 64#32) 8#32)))
        (FloatOps.ofBits (F := Ideal) .f32 0x3F800000#32) (FloatOps.ofBits (F := Ideal) .f32 0x00000000#32) ↔ _
  rw [e, near_word _ _ (by omega) (by omega), select_bool]
  by_cases hn : Near (256 * s.val + r.val) k.val
  · rw [if_pos hn]; exact ⟨fun _ => hn, fun _ => half_lt_one⟩
  · rw [if_neg hn]; exact ⟨fun h => absurd h not_half_lt_zero, fun h => absurd h hn⟩

/-- The bias rows: at slab `s`, the place that the kernel reads for tile row `r` and window key `k` holds the bias for
query `256 s + r` and key `k`. -/
theorem bias_entry (h : Fin 8) (s : Fin 3) (r : Fin 256) (k : Fin 768) :
    (V m c main_v4 : S8x3x1024.Idx → EReal) (ix3 h s ⟨(k.val + 1024 - r.val) % 1024, Nat.mod_lt _ (by decide)⟩)
      = (m ((c.tc : Thread nD τ).loc main_arg2) : S8x513.Idx → EReal) (ix2 h (distIdx (256 * s.val + r.val) k.val)) := by
  rw [V_v4]
  refine (gather_columns (H := 8) (N := 513) (A := 3) (B := 1024) (by decide) _ _ _ h s _).trans ?_
  refine congrArg (fun z => (m ((c.tc : Thread nD τ).loc main_arg2) : S8x513.Idx → EReal) (ix2 h z)) (Fin.ext ?_)
  generalize hj : (⟨(k.val + 1024 - r.val) % 1024, Nat.mod_lt _ (by decide)⟩ : Fin 1024) = j
  have hjv : j.val = (k.val + 1024 - r.val) % 1024 := by rw [← hj]
  have e : broadcastInDim S3x1024x1 ![0, 1] bcast_S3x1024_S3x1024x1_0_1
          (select (constantI S3x1024 1 0#1)
            (addi (fun i => lit0 (S3x1024.rowMajor i)) (broadcastInDim S3x1024 ![] bcast_S_S3x1024 (constantI S_ 32 513#32)))
            (fun i => lit0 (S3x1024.rowMajor i))) (ix3 s j 0)
      = lit0 ⟨s.val * 1024 + j.val, by omega⟩ := by
    refine (broadcastInDim_apply _ _ _ (ix3 s j 0) (ix2 s j) ?_).trans ?_
    · intro a; match a with | ⟨0, _⟩ => rfl | ⟨1, _⟩ => rfl
    · refine (select_zero ..).trans ?_
      exact congrArg lit0 (Fin.ext (Shape.rowMajor_val_two _))
  show min (_ : BitVec 32).toInt.toNat 512 = min (256 * s.val + r.val + 256 - k.val) 512
  rw [e, table_entry s j]
  split_ifs with h1 <;> omega

end Cert.Attn
-- ==== Proof.AttnValue.lean ====
/-
  The attention kernel's result in terms of its arguments: at sequence `b`, head `h`, query `q` and feature `d` it is
  the softmax of the query's scores over the 768 keys of its window, applied to those keys' values.
-/
module

public import proofs.«01_k».proof.Proof.AttnTables

@[expose] public section

set_option maxRecDepth 16384

noncomputable section

open scoped BigOperators

namespace Cert.Attn

open Idealize.ShloMosaic
open Idealize.ShloMosaic.ValueIdx
open Idealize.ShloMosaic.TcCoe
open Cert.KernelIdeal Cert.KernelIdeal.Gen Cert.KernelIdeal.Value

/-- The queries of head `h` of sequence `b`. -/
def headQ (x : S32768x1024.Idx → EReal) (b h : Fin 8) (y : S4096x128.Idx) : EReal :=
  x (ix2 ⟨4096 * b.val + (y 0).val, by have := (y 0).isLt; change (y 0).val < 4096 at this; omega⟩
    ⟨128 * h.val + (y 1).val, by have := (y 1).isLt; change (y 1).val < 128 at this; omega⟩)

/-- Block `g` of 128 columns of sequence `b`: the keys of head `g` below eight, the values of head `g - 8` above. -/
def headKV (x : S32768x4096.Idx → EReal) (b : Fin 8) (g : Fin 16) (y : S4096x128.Idx) : EReal :=
  x (ix2 ⟨4096 * b.val + (y 0).val, by have := (y 0).isLt; change (y 0).val < 4096 at this; omega⟩
    ⟨128 * g.val + (y 1).val, by have := (y 1).isLt; change (y 1).val < 128 at this; omega⟩)

/-- The bias of head `h` laid out by slab, tile row and window key, with `⊥` where the key is not seen. -/
def headBias (x : S8x513.Idx → EReal) (h : Fin 8) (y : S3x256x768.Idx) : EReal :=
  if Near (256 * (y 0).val + (y 1).val) (y 2).val then x (ix2 h (distIdx (256 * (y 0).val + (y 1).val) (y 2).val)) else ⊥

theorem idx_in : ∀ t : Fin grid0.N,
    win0_0.index t = ![t.val % 8, t.val / 8] ∧ win0_1.index t = ![t.val % 8, t.val / 8]
      ∧ win0_2.index t = ![t.val % 8, 8 + t.val / 8] ∧ win0_3.index t = ![t.val / 8, 0, 0] ∧ win0_4.index t = ![0, 0, 0] := by
  decide +kernel

variable (m : (ℓ : Loc nD τ sig) → Buf (Elt Ideal) ℓ) (c : Dev nD)

/-- Point `t` works on sequence `t % 8` and head `t / 8`. -/
def seqOf (t : Fin cfg0.N) : Fin 8 := ⟨t.val % 8, Nat.mod_lt _ (by decide)⟩
def headOf (t : Fin cfg0.N) : Fin 8 := ⟨t.val / 8, by have := lt_of_lt_of_eq t.isLt N_0; omega⟩

theorem blk_q (t : Fin cfg0.N) :
    (iblk m c 0 t : S4096x128.Idx → EReal) = headQ (m ((c.tc : Thread nD τ).loc main_arg0)) (seqOf t) (headOf t) := by
  funext y
  show V m c main_arg0 (((cfg0.win 0).blk t).view.emb y) = _
  rw [V_main_arg0]
  have hi := (idx_in t).1
  refine congrArg (m ((c.tc : Thread nD τ).loc main_arg0) : S32768x1024.Idx → EReal) (eq_ix2 _ |>.trans ?_)
  have e0 : ((((cfg0.win 0).blk t).view.emb y) 0).val = win0_0.index t 0 * 4096 + 1 * (y 0).val := rfl
  have e1 : ((((cfg0.win 0).blk t).view.emb y) 1).val = win0_0.index t 1 * 128 + 1 * (y 1).val := rfl
  rw [hi] at e0 e1
  refine congrArg₂ ix2 (Fin.ext ?_) (Fin.ext ?_)
  · refine e0.trans ?_
    show t.val % 8 * 4096 + 1 * (y 0).val = 4096 * (t.val % 8) + (y 0).val
    omega
  · refine e1.trans ?_
    show t.val / 8 * 128 + 1 * (y 1).val = 128 * (t.val / 8) + (y 1).val
    omega

theorem blk_k (t : Fin cfg0.N) :
    (iblk m c 1 t : S4096x128.Idx → EReal)
      = headKV (m ((c.tc : Thread nD τ).loc main_arg1)) (seqOf t) ⟨(headOf t).val, by omega⟩ := by
  funext y
  show V m c main_arg1 (((cfg0.win 1).blk t).view.emb y) = _
  rw [V_main_arg1]
  have hi := (idx_in t).2.1
  refine congrArg (m ((c.tc : Thread nD τ).loc main_arg1) : S32768x4096.Idx → EReal) (eq_ix2 _ |>.trans ?_)
  have e0 : ((((cfg0.win 1).blk t).view.emb y) 0).val = win0_1.index t 0 * 4096 + 1 * (y 0).val := rfl
  have e1 : ((((cfg0.win 1).blk t).view.emb y) 1).val = win0_1.index t 1 * 128 + 1 * (y 1).val := rfl
  rw [hi] at e0 e1
  refine congrArg₂ ix2 (Fin.ext ?_) (Fin.ext ?_)
  · refine e0.trans ?_
    show t.val % 8 * 4096 + 1 * (y 0).val = 4096 * (t.val % 8) + (y 0).val
    omega
  · refine e1.trans ?_
    show t.val / 8 * 128 + 1 * (y 1).val = 128 * (t.val / 8) + (y 1).val
    omega

theorem blk_v (t : Fin cfg0.N) :
    (iblk m c 2 t : S4096x128.Idx → EReal)
      = headKV (m ((c.tc : Thread nD τ).loc main_arg1)) (seqOf t) ⟨8 + (headOf t).val, by omega⟩ := by
  funext y
  show V m c main_arg1 (((cfg0.win 2).blk t).view.emb y) = _
  rw [V_main_arg1]
  have hi := (idx_in t).2.2.1
  refine congrArg (m ((c.tc : Thread nD τ).loc main_arg1) : S32768x4096.Idx → EReal) (eq_ix2 _ |>.trans ?_)
  have e0 : ((((cfg0.win 2).blk t).view.emb y) 0).val = win0_2.index t 0 * 4096 + 1 * (y 0).val := rfl
  have e1 : ((((cfg0.win 2).blk t).view.emb y) 1).val = win0_2.index t 1 * 128 + 1 * (y 1).val := rfl
  rw [hi] at e0 e1
  refine congrArg₂ ix2 (Fin.ext ?_) (Fin.ext ?_)
  · refine e0.trans ?_
    show t.val % 8 * 4096 + 1 * (y 0).val = 4096 * (t.val % 8) + (y 0).val
    omega
  · refine e1.trans ?_
    show (8 + t.val / 8) * 128 + 1 * (y 1).val = 128 * (8 + t.val / 8) + (y 1).val
    omega

theorem blk_g (t : Fin cfg0.N) (s : Fin 3) (j : Fin 1024) :
    (iblk m c 3 t : S1x3x1024.Idx → EReal) (ix3 0 s j) = (V m c main_v4 : S8x3x1024.Idx → EReal) (ix3 (headOf t) s j) := by
  show (V m c main_v4 : S8x3x1024.Idx → EReal) (((cfg0.win 3).blk t).view.emb (ix3 0 s j)) = _
  have hi := (idx_in t).2.2.2.1
  refine congrArg (V m c main_v4 : S8x3x1024.Idx → EReal) (eq_ix3 _ |>.trans ?_)
  have e0 : ((((cfg0.win 3).blk t).view.emb (ix3 0 s j)) 0).val = win0_3.index t 0 * 1 + 1 * 0 := rfl
  have e1 : ((((cfg0.win 3).blk t).view.emb (ix3 0 s j)) 1).val = win0_3.index t 1 * 3 + 1 * s.val := rfl
  have e2 : ((((cfg0.win 3).blk t).view.emb (ix3 0 s j)) 2).val = win0_3.index t 2 * 1024 + 1 * j.val := rfl
  rw [hi] at e0 e1 e2
  have h0 : (((cfg0.win 3).blk t).view.emb (ix3 0 s j)) 0 = headOf t := Fin.ext (e0.trans (by show t.val / 8 * 1 + 1 * 0 = t.val / 8; omega))
  have h1 : (((cfg0.win 3).blk t).view.emb (ix3 0 s j)) 1 = s := Fin.ext (e1.trans (by show 0 * 3 + 1 * s.val = s.val; omega))
  have h2 : (((cfg0.win 3).blk t).view.emb (ix3 0 s j)) 2 = j := Fin.ext (e2.trans (by show 0 * 1024 + 1 * j.val = j.val; omega))
  rw [h0, h1, h2]
  rfl

theorem blk_w (t : Fin cfg0.N) : (iblk m c 4 t : S3x256x768.Idx → EReal) = (V m c main_v20 : S3x256x768.Idx → EReal) := by
  funext y
  show (V m c main_v20 : S3x256x768.Idx → EReal) (((cfg0.win 4).blk t).view.emb y) = _
  have hi := (idx_in t).2.2.2.2
  refine congrArg (V m c main_v20 : S3x256x768.Idx → EReal) (funext fun a => Fin.ext ?_)
  match a with
  | ⟨0, _⟩ =>
    have e0 : ((((cfg0.win 4).blk t).view.emb y) 0).val = win0_4.index t 0 * 3 + 1 * (y 0).val := rfl
    rw [hi] at e0
    exact e0.trans (by show 0 * 3 + 1 * (y 0).val = (y 0).val; omega)
  | ⟨1, _⟩ =>
    have e0 : ((((cfg0.win 4).blk t).view.emb y) 1).val = win0_4.index t 1 * 256 + 1 * (y 1).val := rfl
    rw [hi] at e0
    exact e0.trans (by show 0 * 256 + 1 * (y 1).val = (y 1).val; omega)
  | ⟨2, _⟩ =>
    have e0 : ((((cfg0.win 4).blk t).view.emb y) 2).val = win0_4.index t 2 * 768 + 1 * (y 2).val := rfl
    rw [hi] at e0
    exact e0.trans (by show 0 * 768 + 1 * (y 2).val = (y 2).val; omega)

/-- The bias that a head's first point stores. -/
theorem bias_blk (t : Fin cfg0.N) :
    biasBlk (iblk m c 3 t) (iblk m c 4 t) = headBias (m ((c.tc : Thread nD τ).loc main_arg2)) (headOf t) := by
  funext y
  obtain ⟨s, r, k, rfl⟩ : ∃ s r k, y = ix3 s r k := ⟨y 0, y 1, y 2, eq_ix3 y⟩
  have hw := vis_entry m c s r k
  have hb := bias_entry m c (headOf t) s r k
  unfold biasBlk headBias
  rw [blk_w m c t, blk_g m c t]
  exact if_congr hw hb rfl

/-- At a head's first point: its block of the result, and the bias stored. -/
theorem outs_first (t : Fin cfg0.N) (h0 : t.val % 8 = 0) :
    outsAt0 m c t.val t.isLt
      = (outBlk (iblk m c 0 t) (iblk m c 1 t) (iblk m c 2 t) (headBias (m ((c.tc : Thread nD τ).loc main_arg2)) (headOf t)),
        headBias (m ((c.tc : Thread nD τ).loc main_arg2)) (headOf t)) := by
  rw [outsAt0_A m c t h0, out_A, sout_A, bias_blk]

/-- At a later point of a head: its block of the result over the bias carried, and the bias carried on. -/
theorem outs_later (t : Fin cfg0.N) (h0 : ¬ t.val % 8 = 0) (B : S3x256x768.Idx → EReal)
    (hB : (outsAt0 m c (t.val - 1) (Nat.lt_of_le_of_lt (Nat.sub_le _ _) t.isLt)).2 = B) :
    outsAt0 m c t.val t.isLt = (outBlk (iblk m c 0 t) (iblk m c 1 t) (iblk m c 2 t) B, B) := by
  rw [outsAt0_B m c t h0, out_B, hB]
  rfl

/-- What the points leave: each its block of the result, and the bias of its head carried on. -/
theorem outs_eq (n : ℕ) (hn : n < cfg0.N) :
    outsAt0 m c n hn
      = (outBlk (iblk m c 0 ⟨n, hn⟩) (iblk m c 1 ⟨n, hn⟩) (iblk m c 2 ⟨n, hn⟩)
          (headBias (m ((c.tc : Thread nD τ).loc main_arg2)) (headOf ⟨n, hn⟩)),
        headBias (m ((c.tc : Thread nD τ).loc main_arg2)) (headOf ⟨n, hn⟩)) := by
  induction n with
  | zero => exact outs_first m c ⟨0, hn⟩ (Nat.zero_mod _)
  | succ n ih =>
    by_cases h0 : (n + 1) % 8 = 0
    · exact outs_first m c ⟨n + 1, hn⟩ h0
    · have hh : headOf ⟨n, Nat.lt_of_succ_lt hn⟩ = headOf ⟨n + 1, hn⟩ := Fin.ext (by
        show n / 8 = (n + 1) / 8
        omega)
      refine outs_later m c ⟨n + 1, hn⟩ h0 _ ?_
      show (outsAt0 m c n (Nat.lt_of_succ_lt hn)).2 = _
      rw [ih (Nat.lt_of_succ_lt hn), hh]

/-- The kernel's result at sequence `b`, query `q`, head `h` and feature `d`. -/
theorem result_eq (b h : Fin 8) (q : Fin 4096) (d : Fin 128) :
    (G5 m c : S32768x1024.Idx → EReal) (ix2 ⟨4096 * b.val + q.val, by omega⟩ ⟨128 * h.val + d.val, by omega⟩)
      = lastDiv (winScore (headQ (m ((c.tc : Thread nD τ).loc main_arg0)) b h)
          (headKV (m ((c.tc : Thread nD τ).loc main_arg1)) b ⟨h.val, by omega⟩)
          (headBias (m ((c.tc : Thread nD τ).loc main_arg2)) h) q)
          (fun k => headKV (m ((c.tc : Thread nD τ).loc main_arg1)) b ⟨8 + h.val, by omega⟩ (ix2 (winKey q k) d)) := by
  have hp : pt5Of (ix2 ⟨4096 * b.val + q.val, by omega⟩ ⟨128 * h.val + d.val, by omega⟩ : S32768x1024.Idx) = b.val + 8 * h.val := by
    show 1 * ((4096 * b.val + q.val) / 4096 - 0) + 8 * ((128 * h.val + d.val) / 128 - 0) = _
    omega
  have hlt : pt5Of (ix2 ⟨4096 * b.val + q.val, by omega⟩ ⟨128 * h.val + d.val, by omega⟩ : S32768x1024.Idx) < cfg0.N := by
    rw [hp]; exact lt_of_lt_of_eq (by omega) N_0.symm
  have hl : loc5Of (ix2 ⟨4096 * b.val + q.val, by omega⟩ ⟨128 * h.val + d.val, by omega⟩ : S32768x1024.Idx) = ix2 q d := by
    refine (eq_ix2 _).trans (congrArg₂ ix2 (Fin.ext ?_) (Fin.ext ?_))
    · show (4096 * b.val + q.val) % 4096 = q.val
      omega
    · show (128 * h.val + d.val) % 128 = d.val
      omega
  unfold G5
  rw [dif_pos hlt, ← outsAt0_sweep m c _ hlt, hl]
  have ho : ∀ n (hn : n < cfg0.N), n = b.val + 8 * h.val → (outsAt0 m c n hn).1 (ix2 q d) = lastDiv (winScore (headQ (m ((c.tc : Thread nD τ).loc main_arg0)) b h)
          (headKV (m ((c.tc : Thread nD τ).loc main_arg1)) b ⟨h.val, by omega⟩)
          (headBias (m ((c.tc : Thread nD τ).loc main_arg2)) h) q)
          (fun k => headKV (m ((c.tc : Thread nD τ).loc main_arg1)) b ⟨8 + h.val, by omega⟩ (ix2 (winKey q k) d)) := by
    intro n hn en
    have hs : seqOf ⟨n, hn⟩ = b := Fin.ext (by show n % 8 = b.val; omega)
    have hh : headOf ⟨n, hn⟩ = h := Fin.ext (by show n / 8 = h.val; omega)
    rw [outs_eq, blk_q, blk_k, blk_v, hs]
    subst hh
    rfl
  exact ho _ _ hp

end Cert.Attn
-- ==== Proof.AttnRef.lean ====
/-
  The attention reference in plain terms: at sequence `b`, head `h`, query `q` and feature `d` it is the softmax of the
  query's scores over all 4096 keys, those not seen at `⊥`, applied to the values.
-/
module

public import proofs.«01_k».proof.Proof.AttnValue
public import proofs.«01_k».proof.Proof.Gen.ReferenceIdeal.Read

@[expose] public section

set_option maxRecDepth 16384

noncomputable section

open scoped BigOperators

namespace Cert.Attn

open Idealize.ShloMosaic
open Idealize.ShloMosaic.ValueIdx
open Cert.ReferenceIdeal Cert.ReferenceIdeal.Gen Cert.ReferenceIdeal.Read

/-- The scores of query `q` over all keys. -/
def fullScore (x0 : S32768x1024.Idx → EReal) (x1 : S32768x4096.Idx → EReal) (x2 : S8x513.Idx → EReal)
    (b h : Fin 8) (q k : Fin 4096) : EReal :=
  if Near q.val k.val then
    (∑ d : Fin 128, headQ x0 b h (ix2 q d) * headKV x1 b ⟨h.val, by omega⟩ (ix2 k d)) * scale + x2 (ix2 h (distIdx q.val k.val))
  else ⊥

variable (x0 : (⟨S32768x1024, .bf16⟩ : BufTy).Contents (Elt Ideal)) (x1 : (⟨S32768x4096, .f32⟩ : BufTy).Contents (Elt Ideal))
  (x2 : (⟨S8x513, .f32⟩ : BufTy).Contents (Elt Ideal))

theorem ref_q (b : Fin 8) (q : Fin 4096) (h : Fin 8) (d : Fin 128) :
    val_main_v1 (F := Ideal) x0 (ix4 b q h d) = headQ x0 b h (ix2 q d) := by
  rw [val_main_v1_apply]
  show x0 (idx_main_v1 (ix4 b q h d)) = _
  refine congrArg x0 ((eq_ix2 _).trans (congrArg₂ ix2 (Fin.ext ?_) (Fin.ext ?_)))
  · show (((b.val * 4096 + q.val) * 8 + h.val) * 128 + d.val) / 1024 = 4096 * b.val + q.val
    omega
  · show (((b.val * 4096 + q.val) * 8 + h.val) * 128 + d.val) % 1024 = 128 * h.val + d.val
    omega

theorem ref_k (b : Fin 8) (q : Fin 4096) (h : Fin 8) (d : Fin 128) :
    val_main_v3 (F := Ideal) x1 (ix4 b q h d) = headKV x1 b ⟨h.val, by omega⟩ (ix2 q d) := by
  rw [val_main_v3_apply, val_main_v2_apply]
  refine congrArg x1 ((eq_ix2 _).trans (congrArg₂ ix2 (Fin.ext ?_) (Fin.ext ?_)))
  · show (((b.val * 4096 + q.val) * 8 + h.val) * 128 + d.val) / 1024 = 4096 * b.val + q.val
    omega
  · show (((b.val * 4096 + q.val) * 8 + h.val) * 128 + d.val) % 1024 = 128 * h.val + d.val
    omega

theorem ref_v (b : Fin 8) (q : Fin 4096) (h : Fin 8) (d : Fin 128) :
    val_main_v5 (F := Ideal) x1 (ix4 b q h d) = headKV x1 b ⟨8 + h.val, by omega⟩ (ix2 q d) := by
  rw [val_main_v5_apply, val_main_v4_apply]
  refine congrArg x1 ((eq_ix2 _).trans (congrArg₂ ix2 (Fin.ext ?_) (Fin.ext ?_)))
  · show (((b.val * 4096 + q.val) * 8 + h.val) * 128 + d.val) / 1024 = 4096 * b.val + q.val
    omega
  · show 1024 + (((b.val * 4096 + q.val) * 8 + h.val) * 128 + d.val) % 1024 = 128 * (8 + h.val) + d.val
    omega

/-- The reference's bias for query `q` and key `k`. -/
theorem ref_bias (h : Fin 8) (q k : Fin 4096) :
    val_main_v18 (F := Ideal) x2 (ix3 h q k) = x2 (ix2 h (distIdx q.val k.val)) := by
  unfold val_main_v18
  refine (gather_columns (H := 8) (N := 513) (A := 4096) (B := 4096) (by decide) _ _ _ h q k).trans ?_
  refine congrArg (fun z => x2 (ix2 h z)) (Fin.ext ?_)
  refine Eq.trans ?_ (clip_word q.val k.val q.isLt k.isLt)
  refine congrArg (fun w : BitVec 32 => min w.toInt.toNat 512) ?_
  rw [val_main_v17_apply, show idx_main_v17 (ix3 q k 0) = ix2 q k from (eq_ix2 _)]
  rw [val_main_v16_apply, val_main_v15_apply, val_main_v13_apply, val_main_v12_apply, val_main_v14_apply, val_main_v11_apply,
    val_main_v10_apply, val_main_v9_apply, val_main_call0_v4_apply, val_main_call0_v2_apply, val_main_call0_v1_apply,
    val_main_v8_apply, val_main_v6_apply, val_main_v7_apply]
  rfl

/-- Whether query `q` sees key `k`, in the reference. -/
theorem ref_vis (q k : Fin 4096) :
    val_main_v27 (F := Ideal) (ix2 q k) = BitVec.ofBool (decide (Near q.val k.val)) := by
  refine Eq.trans ?_ (near_word q.val k.val q.isLt k.isLt)
  rw [val_main_v27_apply, val_main_v23_apply, val_main_v26_apply, val_main_v25_apply, val_main_v22_apply, val_main_v20_apply,
    val_main_v19_apply, val_main_v21_apply, val_main_v24_apply, val_main_v6_apply, val_main_v7_apply]
  rfl

/-- Dividing by the square root of 128 is multiplying by its inverse. -/
theorem div_sqrt (s : EReal) :
    Ideal.div s (Ideal.sqrt (FloatOps.ofBits (F := Ideal) .f32 0x43000000#32)) = s * scale := by
  have e : (FloatOps.ofBits (F := Ideal) .f32 0x43000000#32) = ((128 : ℝ) : EReal) := by
    show Ideal.ofBits .f32 0x43000000#32 = _
    simp only [Ideal.ofBits, Ideal.ieee]
    simp
    norm_cast
    norm_num
  rw [e, Ideal.sqrt_coe, if_neg (by norm_num)]
  have hpos : (0 : ℝ) < Real.sqrt 128 := Real.sqrt_pos.mpr (by norm_num)
  unfold Ideal.div scale
  rw [if_neg (by exact_mod_cast hpos.ne'), EReal.coe_inv]

/-- The reference's masked scores. -/
theorem ref_score (b h : Fin 8) (q k : Fin 4096) :
    val_main_v36 (F := Ideal) x0 x1 x2 (ix4 b h q k) = fullScore x0 x1 x2 b h q k := by
  rw [val_main_v36_apply, val_main_call1_v1_apply, val_main_v35_apply,
    show idx_main_v35 (idx_main_call1_v1 (ix4 b h q k)) = ix2 q k from eq_ix2 _, ref_vis, select_bool]
  unfold fullScore
  refine if_congr Iff.rfl ?_ ?_
  · rw [val_main_v34_apply, val_main_v33_apply, val_main_v32_apply,
      show idx_main_v32 (idx_main_v33 (ix4 b h q k)) = ix3 h q k from eq_ix3 _, ref_bias, val_main_v31_apply, val_main_v30_apply,
      val_main_v29_apply]
    refine congrArg (· + x2 (ix2 h (distIdx q.val k.val))) ?_
    refine (div_sqrt _).trans (congrArg (· * scale) ?_)
    rw [val_main_v28_apply]
    refine Finset.sum_congr rfl fun d _ => ?_
    rw [show lidx_main_v28 (ix4 b h q k) d = ix4 b q h d from eq_ix4 _,
      show ridx_main_v28 (ix4 b h q k) d = ix4 b k h d from eq_ix4 _, ref_q, ref_k]
  · rw [val_main_call1_v2_apply]
    exact ofBits_ninf

/-- The reference's row maximum. -/
theorem ref_top (b h : Fin 8) (q : Fin 4096) :
    val_main_v39 (F := Ideal) x0 x1 x2 (ix3 b h q) = top (fullScore x0 x1 x2 b h q) := by
  rw [val_main_v39_apply, val_main_v38_apply]
  have hm : val_main_v37 (F := Ideal) x0 x1 x2 (ix3 b h q) = top (fullScore x0 x1 x2 b h q) := by
    unfold val_main_v37
    have hr : S8x8x4096x4096.Reduces [3] S8x8x4096 := by decide
    refine (Host.reduce_eq_fold_single (α := Ideal .f32) FloatOps.maximumf (val_main_v36 (F := Ideal) x0 x1 x2)
      (val_main_cst_8 (F := Ideal)) reducesTo_S8x8x4096x4096_S8x8x4096_d3 hr h_S_ (ix3 b h q)).trans ?_
    unfold top
    refine congrArg₂ (fun z f => Finset.fold max z f (Finset.univ : Finset (Fin 4096))) ofBits_ninf ?_
    funext k
    refine Eq.trans (congrArg (val_main_v36 (F := Ideal) x0 x1 x2) ?_) (ref_score x0 x1 x2 b h q k)
    exact funext fun a => Fin.ext (by match a with | ⟨0, _⟩ => rfl | ⟨1, _⟩ => rfl | ⟨2, _⟩ => rfl | ⟨3, _⟩ => rfl)
  rw [hm]
  show max (FloatOps.ofBits (F := Ideal) .f32 0xFF800000#32) _ = _
  rw [ofBits_ninf]
  exact max_eq_right bot_le

theorem ref_num (b h : Fin 8) (q k : Fin 4096) :
    val_main_v43 (F := Ideal) x0 x1 x2 (ix4 b h q k) = num (fullScore x0 x1 x2 b h q) k := by
  rw [val_main_v43_apply, val_main_v42_apply, val_main_v41_apply, val_main_v40_apply,
    show idx_main_v40 (idx_main_v41 (ix4 b h q k)) = ix3 b h q from eq_ix3 _, ref_top, ref_score]
  rfl

theorem ref_sum (b h : Fin 8) (q : Fin 4096) :
    val_main_v44 (F := Ideal) x0 x1 x2 (ix3 b h q) = ∑ k, num (fullScore x0 x1 x2 b h q) k := by
  rw [val_main_v44_apply]
  refine (congrArg₂ (· + ·) (Ideal.ofBits_zero_f32) (Finset.sum_congr rfl fun k _ => ?_)).trans (zero_add _)
  rw [show idx_main_v44 (ix3 b h q) k = ix4 b h q k from eq_ix4 _, ref_num]

/-- The reference's result at sequence `b`, query `q`, head `h` and feature `d`. -/
theorem ref_eq (b h : Fin 8) (q : Fin 4096) (d : Fin 128) :
    val_main_v51 (F := Ideal) x0 x1 x2 (ix2 ⟨4096 * b.val + q.val, by omega⟩ ⟨128 * h.val + d.val, by omega⟩)
      = firstDiv (fullScore x0 x1 x2 b h q) (fun k => headKV x1 b ⟨8 + h.val, by omega⟩ (ix2 k d)) := by
  rw [val_main_v51_apply]
  show val_main_v50 (F := Ideal) x0 x1 x2 _ = _
  rw [val_main_v50_apply, val_main_v49_apply]
  have e : idx_main_v49 (idx_main_v50 (ix2 ⟨4096 * b.val + q.val, by omega⟩ ⟨128 * h.val + d.val, by omega⟩)) = ix4 b h d q := by
    refine (eq_ix4 _).trans ?_
    have e0 : ((4096 * b.val + q.val) * 1024 + (128 * h.val + d.val)) / 4194304 = b.val := by omega
    have e1 : ((4096 * b.val + q.val) * 1024 + (128 * h.val + d.val)) / 1024 % 4096 = q.val := by omega
    have e2 : ((4096 * b.val + q.val) * 1024 + (128 * h.val + d.val)) / 128 % 8 = h.val := by omega
    have e3 : ((4096 * b.val + q.val) * 1024 + (128 * h.val + d.val)) % 128 = d.val := by omega
    exact (congr (congr (congr (congrArg ix4 (Fin.ext e0)) (Fin.ext e2)) (Fin.ext e3)) (Fin.ext e1))
  rw [e, val_main_v48_apply]
  unfold firstDiv
  refine Finset.sum_congr rfl fun k _ => ?_
  rw [show lidx_main_v48 (ix4 b h d q) k = ix4 b k h d from eq_ix4 _,
    show ridx_main_v48 (ix4 b h d q) k = ix4 b h q k from eq_ix4 _, ref_v, val_main_v47_apply, ref_num, val_main_v46_apply,
    val_main_v45_apply, show idx_main_v45 (idx_main_v46 (ix4 b h q k)) = ix3 b h q from eq_ix3 _, ref_sum]
  rfl

end Cert.Attn
-- ==== Proof.AttnFinite.lean ====
/-
  The attention claim's precondition read back: queries, keys and the table of biases are real numbers.  Then the
  scores are below `⊤`, a query's own score is real, and the window's softmax is the softmax over all keys.
-/
module

public import proofs.«01_k».proof.Proof.AttnRef
public import proofs.«01_k».proof.Proof.Gen.Pre_finite_scores
public import Idealize.ShloMosaic.Lib.ReduceAll
public import Idealize.ShloMosaic.Lib.Affine

@[expose] public section

set_option maxRecDepth 16384

noncomputable section

open scoped BigOperators

namespace Cert.Attn

open Idealize.ShloMosaic
open Idealize.ShloMosaic.ValueIdx
open Cert.Pre_finite_scores Cert.Pre_finite_scores.Gen

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊥ ∧ x ≠ ⊤ := by
  have e : FloatOps.ofBits (F := Ideal) .f32 0x7F800000#32 = (⊤ : EReal) := by
    show Ideal.ofBits .f32 0x7F800000#32 = _
    simp [Ideal.ofBits, Ideal.ieee]
  rw [e] at h
  have h1 : max x (-x) < ⊤ := by
    by_contra hn
    have h2 : FloatOps.cmpf (F := Ideal) (φ := .f32) .olt (FloatOps.hostAbsf (F := Ideal) (φ := .f32) x) (⊤ : EReal) = 0#1 :=
      congrArg BitVec.ofBool (decide_eq_false hn)
    rw [h2] at h
    exact absurd h (by decide)
  constructor
  · rintro rfl
    exact absurd h1 (by simp)
  · rintro rfl
    exact absurd h1 (by simp)

variable (x0 : S32768x1024.Idx → EReal) (x1 : S32768x4096.Idx → EReal) (x2 : S8x513.Idx → EReal)

/-- The precondition's three parts. -/
theorem pre_parts (hp : Cert.Pre_finite_scores.fn (F := Ideal) x0 x1 x2 = fun _ => 1#1) :
    (∀ i, x0 i ≠ ⊥ ∧ x0 i ≠ ⊤)
      ∧ (∀ (r : Fin 32768) (k : Fin 1024), x1 (ix2 r ⟨k.val, by omega⟩) ≠ ⊥ ∧ x1 (ix2 r ⟨k.val, by omega⟩) ≠ ⊤)
      ∧ (∀ i, x2 i ≠ ⊥ ∧ x2 i ≠ ⊤) := by
  have j : S_.Idx := fun a => a.elim0
  haveI : Subsingleton S_.Idx := ⟨fun a b => funext fun z => z.elim0⟩
  have h := congrFun hp j
  obtain ⟨h01, h2⟩ := IntOp.andi_eq_one.1 h
  obtain ⟨h0, h1⟩ := IntOp.andi_eq_one.1 h01
  refine ⟨fun i => ?_, fun r k => ?_, fun i => ?_⟩
  · exact real_of_abs_lt _ (Host.reduce_andi_all _ _ _ _ j h0 i)
  · have e := Host.reduce_andi_all _ _ _ _ j h1 (ix2 r k)
    have es : extractStridedSlice S32768x1024 ![0, 0] x1 slices_S32768x4096_S32768x1024_0_0 (ix2 r k) = x1 (ix2 r ⟨k.val, by omega⟩) :=
      extractStridedSlice_apply ![0, 0] x1 slices_S32768x4096_S32768x1024_0_0 (ix2 r k) (ix2 r ⟨k.val, by omega⟩) (fun a => match a with
        | ⟨0, _⟩ => by show r.val = 0 + r.val; omega
        | ⟨1, _⟩ => by show k.val = 0 + k.val; omega)
    have e2 : extractStridedSlice S32768x1024 ![0, 0] x1 slices_S32768x4096_S32768x1024_0_0 (ix2 r k) ≠ ⊥
        ∧ extractStridedSlice S32768x1024 ![0, 0] x1 slices_S32768x4096_S32768x1024_0_0 (ix2 r k) ≠ ⊤ := real_of_abs_lt _ e
    rw [es] at e2
    exact e2
  · exact real_of_abs_lt _ (Host.reduce_andi_all _ _ _ _ j h2 i)

theorem near_self (q : ℕ) : Near q q := ⟨le_rfl, by omega⟩

/-- The score of a visible key is a real number. -/
theorem score_real (hp : Cert.Pre_finite_scores.fn (F := Ideal) x0 x1 x2 = fun _ => 1#1) (b h : Fin 8) (q k : Fin 4096) :
    ∃ r : ℝ, (∑ d : Fin 128, headQ x0 b h (ix2 q d) * headKV x1 b ⟨h.val, by omega⟩ (ix2 k d)) * scale
      + x2 (ix2 h (distIdx q.val k.val)) = (r : EReal) := by
  obtain ⟨p0, p1, p2⟩ := pre_parts x0 x1 x2 hp
  obtain ⟨s, hs⟩ := dot_real (fun d : Fin 128 => headQ x0 b h (ix2 q d)) (fun d => headKV x1 b ⟨h.val, by omega⟩ (ix2 k d))
    (fun d => p0 _) (fun d => p1 ⟨4096 * b.val + k.val, by omega⟩ ⟨128 * h.val + d.val, by omega⟩)
  obtain ⟨hb, ht⟩ := p2 (ix2 h (distIdx q.val k.val))
  refine ⟨s * (Real.sqrt 128)⁻¹ + (x2 (ix2 h (distIdx q.val k.val))).toReal, ?_⟩
  rw [hs, EReal.coe_add, EReal.coe_mul, EReal.coe_toReal ht hb]
  rfl

theorem fullScore_lt (hp : Cert.Pre_finite_scores.fn (F := Ideal) x0 x1 x2 = fun _ => 1#1) (b h : Fin 8) (q k : Fin 4096) :
    fullScore x0 x1 x2 b h q k < ⊤ := by
  unfold fullScore
  split_ifs with hn
  · obtain ⟨r, hr⟩ := score_real x0 x1 x2 hp b h q k
    rw [hr]; exact EReal.coe_lt_top r
  · exact bot_lt_top

theorem fullScore_self (hp : Cert.Pre_finite_scores.fn (F := Ideal) x0 x1 x2 = fun _ => 1#1) (b h : Fin 8) (q : Fin 4096) :
    fullScore x0 x1 x2 b h q q ≠ ⊥ := by
  unfold fullScore
  rw [if_pos (near_self q.val)]
  obtain ⟨r, hr⟩ := score_real x0 x1 x2 hp b h q q
  rw [hr]; exact EReal.coe_ne_bot r

theorem winKey_injective (q : Fin 4096) : Function.Injective (winKey q) := fun a b h => by
  have e := congrArg Fin.val h
  change winStart q.val + a.val = winStart q.val + b.val at e
  exact Fin.ext (by omega)

/-- Keys outside a query's window are not seen. -/
theorem outside (q k : Fin 4096) (hk : k ∉ Set.range (winKey q)) : ¬ Near q.val k.val := by
  rintro ⟨h1, h2⟩
  apply hk
  have ha : winStart q.val ≤ k.val := by unfold winStart; omega
  have hb : k.val - winStart q.val < 768 := by unfold winStart; omega
  exact ⟨⟨k.val - winStart q.val, hb⟩, Fin.ext (by show winStart q.val + (k.val - winStart q.val) = k.val; omega)⟩

/-- The window's scores are the full scores at its keys. -/
theorem win_score (b h : Fin 8) (q : Fin 4096) :
    winScore (headQ x0 b h) (headKV x1 b ⟨h.val, by omega⟩) (headBias x2 h) q = fullScore x0 x1 x2 b h q ∘ winKey q := by
  funext c
  show (∑ d : Fin 128, headQ x0 b h (ix2 q d) * headKV x1 b ⟨h.val, by omega⟩ (ix2 (winKey q c) d)) * scale
      + (if Near (256 * min (q.val / 256) 2 + q.val % 256) c.val
          then x2 (ix2 h (distIdx (256 * min (q.val / 256) 2 + q.val % 256) c.val)) else ⊥)
    = if Near q.val (256 * (q.val / 256) - 512 + c.val) then
        (∑ d : Fin 128, headQ x0 b h (ix2 q d) * headKV x1 b ⟨h.val, by omega⟩ (ix2 (winKey q c) d)) * scale
          + x2 (ix2 h (distIdx q.val (256 * (q.val / 256) - 512 + c.val)))
      else ⊥
  have e1 : Near (256 * min (q.val / 256) 2 + q.val % 256) c.val ↔ Near q.val (256 * (q.val / 256) - 512 + c.val) := by
    unfold Near; omega
  have e2 : distIdx (256 * min (q.val / 256) 2 + q.val % 256) c.val = distIdx q.val (256 * (q.val / 256) - 512 + c.val) := by
    unfold distIdx; refine Fin.ext ?_
    show min (256 * min (q.val / 256) 2 + q.val % 256 + 256 - c.val) 512 = min (q.val + 256 - (256 * (q.val / 256) - 512 + c.val)) 512
    omega
  rw [e2]
  by_cases hn : Near q.val (256 * (q.val / 256) - 512 + c.val)
  · rw [if_pos hn, if_pos (e1.2 hn)]
  · rw [if_neg hn, if_neg (fun h => hn (e1.1 h)), EReal.add_bot]

/-- The kernel's window softmax is the reference's softmax over all keys. -/
theorem window_eq_full (hp : Cert.Pre_finite_scores.fn (F := Ideal) x0 x1 x2 = fun _ => 1#1) (b h : Fin 8) (q : Fin 4096)
    (v : Fin 4096 → EReal) :
    lastDiv (winScore (headQ x0 b h) (headKV x1 b ⟨h.val, by omega⟩) (headBias x2 h) q) (fun c => v (winKey q c))
      = firstDiv (fullScore x0 x1 x2 b h q) v := by
  rw [win_score]
  refine (lastDiv_window (fullScore x0 x1 x2 b h q) v (fullScore_lt x0 x1 x2 hp b h q) q (fullScore_self x0 x1 x2 hp b h q)
    (winKey q) (winKey_injective q) ?_).trans
    (lastDiv_eq_firstDiv _ v (fullScore_lt x0 x1 x2 hp b h q) q (fullScore_self x0 x1 x2 hp b h q))
  intro k hk
  unfold fullScore
  rw [if_neg (outside q k hk)]

end Cert.Attn
-- ==== Proof.AttnClaim.lean ====
/-
  The attention kernel and its reference leave the same array.
-/
module

public import proofs.«01_k».proof.Proof.AttnFinite

@[expose] public section

set_option maxRecDepth 16384

noncomputable section

namespace Cert.Attn

open Idealize.ShloMosaic
open Idealize.ShloMosaic.ValueIdx
open Cert.KernelIdeal Cert.KernelIdeal.Gen Cert.KernelIdeal.Value

theorem results_agree (m : (ℓ : Loc nD τ sig) → Buf (Elt Ideal) ℓ) (c : Dev nD)
    (hp : Cert.Pre_finite_scores.fn (F := Ideal) (m ((c.tc : Thread nD τ).loc main_arg0)) (m ((c.tc : Thread nD τ).loc main_arg1))
      (m ((c.tc : Thread nD τ).loc main_arg2)) = fun _ => 1#1) :
    Cert.ReferenceIdeal.Read.val_main_v51 (F := Ideal) (m ((c.tc : Thread nD τ).loc main_arg0))
        (m ((c.tc : Thread nD τ).loc main_arg1)) (m ((c.tc : Thread nD τ).loc main_arg2))
      = (G5 m c : S32768x1024.Idx → EReal) := by
  funext i
  obtain ⟨b, q, h, d, rfl⟩ : ∃ (b : Fin 8) (q : Fin 4096) (h : Fin 8) (d : Fin 128),
      i = ix2 ⟨4096 * b.val + q.val, by omega⟩ ⟨128 * h.val + d.val, by omega⟩ := by
    have h0 : (i 0).val < 32768 := (i 0).isLt
    have h1 : (i 1).val < 1024 := (i 1).isLt
    refine ⟨⟨(i 0).val / 4096, by omega⟩, ⟨(i 0).val % 4096, by omega⟩, ⟨(i 1).val / 128, by omega⟩, ⟨(i 1).val % 128, by omega⟩,
      (eq_ix2 i).trans (congrArg₂ ix2 (Fin.ext ?_) (Fin.ext ?_))⟩
    · show (i 0).val = 4096 * ((i 0).val / 4096) + (i 0).val % 4096
      omega
    · show (i 1).val = 128 * ((i 1).val / 128) + (i 1).val % 128
      omega
  rw [result_eq]
  refine (ref_eq _ _ _ b h q d).trans ?_
  exact (window_eq_full _ _ _ hp b h q (fun k => headKV (m ((c.tc : Thread nD τ).loc main_arg1)) b ⟨8 + h.val, by omega⟩ (ix2 k d))).symm

end Cert.Attn
-- ==== Proof.Rows.lean ====
/-
  The layer's row-wise parts over the extended reals: the root-mean-square norm of a row (`rms`), the gated linear unit
  of a row (`hidden`), and how a kernel's vector operations compute them, for any sizes.
-/
module

public import proofs.«01_k».proof.Proof.Dots
public import Idealize.ShloMosaic.Lib.IdealHost
public import Idealize.ShloMosaic.Lib.Pipeline.Value

@[expose] public section

set_option maxRecDepth 16384

noncomputable section

open scoped BigOperators

namespace Cert.Rows

open Idealize.ShloMosaic Idealize.ShloMosaic.ValueIdx

/-- A row over its root mean square, times a gain: `w` is the float word of the row's length, and the constant inside
    the root is the float next to a millionth. -/
def rms {n : Nat} (w : BitVec 32) (x g : Fin n → EReal) (k : Fin n) : EReal :=
  x k * Ideal.rsqrt (Ideal.div (∑ j, x j * x j) (Ideal.ofBits .f32 w) + Ideal.ofBits .f32 0x358637BD#32) * g k

/-- `z / (1 + exp (-z))`. -/
def silu (z : EReal) : EReal := z * Ideal.logistic z

/-- Unit `k` of the gated linear unit of a row. -/
def hidden {d f : Nat} (x : Fin d → EReal) (wg wu : Fin d → Fin f → EReal) (k : Fin f) : EReal :=
  silu (∑ j, x j * wg j k) * ∑ j, x j * wu j k

/-- A column of `n` numbers spread over a second axis, read back. -/
theorem spread_apply {α : Type} {n : Nat} (h1 : n ≠ 1) (x : (⟨1, ![n]⟩ : Shape).Idx → α)
    (hs : (⟨1, ![n]⟩ : Shape).ShapeCasts ⟨2, ![n, 1]⟩) (r : Fin n) (z : Fin 1) :
    shapeCast ⟨2, ![n, 1]⟩ x hs (ix2 r z) = x (ix1 r) := by
  refine shapeCast_apply _ hs _ (ix1 r) ?_
  rw [Shape.rowMajor_val_two, Shape.rowMajor_val_one]
  show r.val = r.val * 1 + z.val
  omega

/-- One column spread over `p` columns. -/
theorem col_apply {α : Type} {n p : Nat} (h1 : n ≠ 1) (x : (⟨2, ![n, 1]⟩ : Shape).Idx → α)
    (hb : (⟨2, ![n, 1]⟩ : Shape).Broadcasts ⟨2, ![n, p]⟩) (r : Fin n) (c : Fin p) :
    broadcastTo ⟨2, ![n, p]⟩ x hb (ix2 r c) = x (ix2 r (0 : Fin 1)) := by
  refine broadcastTo_apply _ hb _ (ix2 r (0 : Fin 1)) (fun a => ?_)
  match a with
  | ⟨0, _⟩ =>
    show r.val = if n = 1 then 0 else r.val
    rw [if_neg h1]
  | ⟨1, _⟩ => rfl

/-- One row spread over `n` rows. -/
theorem row_apply {α : Type} {n p : Nat} (h1 : p ≠ 1) (x : (⟨2, ![1, p]⟩ : Shape).Idx → α)
    (hb : (⟨2, ![1, p]⟩ : Shape).Broadcasts ⟨2, ![n, p]⟩) (r : Fin n) (c : Fin p) :
    broadcastTo ⟨2, ![n, p]⟩ x hb (ix2 r c) = x (ix2 (0 : Fin 1) c) := by
  refine broadcastTo_apply _ hb _ (ix2 (0 : Fin 1) c) (fun a => ?_)
  match a with
  | ⟨0, _⟩ => rfl
  | ⟨1, _⟩ =>
    show c.val = if p = 1 then 0 else c.val
    rw [if_neg h1]

/-- The norm of the rows of a block. -/
theorem norm_apply {n p : Nat} (hn : n ≠ 1) (hp : p ≠ 1) (w : BitVec 32) (x : FVec Ideal ⟨2, ![n, p]⟩ .f32)
    (g : FVec Ideal ⟨2, ![1, p]⟩ .f32) (hr : (⟨2, ![n, p]⟩ : Shape).Reduces [1] ⟨1, ![n]⟩)
    (hs : (⟨1, ![n]⟩ : Shape).ShapeCasts ⟨2, ![n, 1]⟩) (hb : (⟨2, ![n, 1]⟩ : Shape).Broadcasts ⟨2, ![n, p]⟩)
    (hb' : (⟨2, ![1, p]⟩ : Shape).Broadcasts ⟨2, ![n, p]⟩) (h₁ h₂) (r : Fin n) (c : Fin p) :
    mulf (mulf x (broadcastTo ⟨2, ![n, p]⟩ (rsqrt (addf (divf
        (shapeCast ⟨2, ![n, 1]⟩ (multiReduction (F := Ideal) FKind.add [1] ⟨1, ![n]⟩ (mulf x x) 0x00000000#32 hr h₁ h₂) hs)
        (broadcast ⟨2, ![n, 1]⟩ (Scalar.ofBits (F := Ideal) .f32 w)))
        (broadcast ⟨2, ![n, 1]⟩ (Scalar.ofBits (F := Ideal) .f32 0x358637BD#32)))) hb))
      (broadcastTo ⟨2, ![n, p]⟩ g hb') (ix2 r c)
      = rms w (fun k => x (ix2 r k)) (fun k => g (ix2 (0 : Fin 1) k)) c := by
  unfold rms
  refine congrArg₂ (· * ·) (congrArg₂ (· * ·) rfl ((col_apply hn _ hb r c).trans ?_)) (row_apply hp g hb' r c)
  refine congrArg Ideal.rsqrt (congrArg₂ (· + ·) (congrArg₂ Ideal.div ?_ rfl) rfl)
  refine (spread_apply hn _ hs r 0).trans ?_
  rw [Ideal.multiReduction_add_single]
  exact Finset.sum_congr rfl fun k _ => congrArg (fun i => x i * x i) (by
      funext a; apply Fin.ext; match a with | ⟨0, _⟩ => rfl | ⟨1, _⟩ => rfl)

/-- A block plus the part of the feed-forward that `f` of its units give. -/
theorem chunk_apply {n d f e : Nat} (d1 : DotDims ⟨2, ![n, d]⟩ ⟨2, ![d, f]⟩ ⟨2, ![n, f]⟩)
    (d2 : DotDims ⟨2, ![n, f]⟩ ⟨2, ![f, e]⟩ ⟨2, ![n, e]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (b1 : d2.lhsContracting = [1]) (b2 : d2.rhsContracting = [0]) (b3 : d2.lhsNonContracting = [0])
    (b4 : d2.rhsNonContracting = [1]) (b5 : d2.lhsBatch = []) (b6 : d2.rhsBatch = [])
    (x : FVec Ideal ⟨2, ![n, e]⟩ .f32) (xn : FVec Ideal ⟨2, ![n, d]⟩ .bf16) (wg wu : FVec Ideal ⟨2, ![d, f]⟩ .bf16)
    (wd : FVec Ideal ⟨2, ![f, e]⟩ .bf16) (hb : FTy.bits .bf16 < FTy.bits .f32) (r : Fin n) (c : Fin e) :
    addf x (matmul d2 none (truncf .bf16 (mulf (mulf (matmul d1 none xn wg (constant ⟨2, ![n, f]⟩ .f32 0x00000000#32))
        (logistic (matmul d1 none xn wg (constant ⟨2, ![n, f]⟩ .f32 0x00000000#32))))
        (matmul d1 none xn wu (constant ⟨2, ![n, f]⟩ .f32 0x00000000#32))) hb) wd (constant ⟨2, ![n, e]⟩ .f32 0x00000000#32))
      (ix2 r c)
      = x (ix2 r c) + ∑ k, hidden (fun j => xn (ix2 r j)) (fun j k => wg (ix2 j k)) (fun j k => wu (ix2 j k)) k * wd (ix2 k c) := by
  refine congrArg (x (ix2 r c) + ·) ((Dots.matmul_nn (φ₁ := .bf16) (φ₂ := .bf16) d2 b1 b2 b3 b4 b5 b6 none _ wd r c).trans ?_)
  refine Finset.sum_congr rfl fun k _ => congrArg (· * wd (ix2 k c)) ?_
  have eg := Dots.matmul_nn (φ₁ := .bf16) (φ₂ := .bf16) d1 a1 a2 a3 a4 a5 a6 none xn wg r k
  have eu := Dots.matmul_nn (φ₁ := .bf16) (φ₂ := .bf16) d1 a1 a2 a3 a4 a5 a6 none xn wu r k
  exact congrArg₂ (· * ·) (congrArg silu eg) eu

/-- A half, as the host's constant. -/
theorem half_pos : (0 : EReal) ≤ Ideal.ofBits .f32 0x3F000000#32 ∧ Ideal.ofBits .f32 0x3F000000#32 ≠ ⊤ := by
  have e : Ideal.ofBits .f32 0x3F000000#32 = ((1 / 2 : ℝ) : EReal) := by
    simp only [Ideal.ofBits, Ideal.ieee]
    simp
    norm_cast
    norm_num
  rw [e]
  exact ⟨by exact_mod_cast (by norm_num : (0 : ℝ) ≤ 1 / 2), EReal.coe_ne_top _⟩

/-- A nonnegative finite factor goes into a sum. -/
theorem mul_sum {ι : Type} {a : EReal} (h0 : 0 ≤ a) (ht : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- Half the down projection is the down projection by half the weights. -/
theorem half_down {f : Nat} (h w : Fin f → EReal) :
    Ideal.ofBits .f32 0x3F000000#32 * ∑ k, h k * w k = ∑ k, h k * (Ideal.ofBits .f32 0x3F000000#32 * w k) := by
  rw [mul_sum half_pos.1 half_pos.2]
  exact Finset.sum_congr rfl fun k _ => mul_left_comm _ _ _

/-- A family over `n` numbers, zero beyond. -/
def ext {n : Nat} (f : Fin n → EReal) (k : Nat) : EReal := if h : k < n then f ⟨k, h⟩ else 0

theorem ext_lt {n : Nat} (f : Fin n → EReal) (k : Nat) (h : k < n) : ext f k = f ⟨k, h⟩ := dif_pos h

theorem sum_ext {n : Nat} (f : Fin n → EReal) : ∑ k ∈ Finset.range n, ext f k = ∑ k, f k := by
  rw [Finset.sum_range]
  exact Finset.sum_congr rfl fun k _ => ext_lt f k.val k.isLt

/-- The first `m` blocks of `b` terms, and one block more. -/
theorem sum_block {n : Nat} (f : Fin n → EReal) (b m : Nat) (h : b * (m + 1) ≤ n) :
    ∑ k ∈ Finset.range (b * (m + 1)), ext f k
      = ∑ k ∈ Finset.range (b * m), ext f k + ∑ k : Fin b, f ⟨b * m + k.val, by have := k.isLt; have e : b * (m + 1) = b * m + b := Nat.mul_succ b m; omega⟩ := by
  rw [Nat.mul_succ, Finset.sum_range_add, Finset.sum_range (f := fun k => ext f (b * m + k))]
  refine congrArg (_ + ·) (Finset.sum_congr rfl fun k _ => ext_lt f _ _)

end Cert.Rows

end
-- ==== Proof.FfnBlock.lean ====
/-
  Blocks of the feed-forward: what one grid point makes of a block of 1024 rows (`stepBlk`), the normed block it keeps
  (`normBlk`), and how a block is read back from the memory it lies in.
-/
module

public import proofs.«01_k».proof.Proof.Rows

@[expose] public section

set_option maxRecDepth 16384

noncomputable section

open scoped BigOperators

namespace Cert.Rows

open Idealize.ShloMosaic Idealize.ShloMosaic.ValueIdx Idealize.ShloMosaic.TcCoe

/-- A block of rows of 2048, each over its root mean square and times the gain. -/
def normBlk {n : Nat} (x : (⟨2, ![n, 2048]⟩ : Shape).Idx → EReal) (g : (⟨2, ![1, 2048]⟩ : Shape).Idx → EReal)
    (y : (⟨2, ![n, 2048]⟩ : Shape).Idx) : EReal :=
  rms 0x45000000#32 (fun k : Fin 2048 => x (ix2 (y 0) k)) (fun k => g (ix2 (0 : Fin 1) k)) (y 1)

/-- A block plus what 512 units of the gated linear unit of the normed block give it. -/
def stepBlk {n : Nat} (acc xn : (⟨2, ![n, 2048]⟩ : Shape).Idx → EReal) (wg wu : (⟨2, ![2048, 512]⟩ : Shape).Idx → EReal)
    (wd : (⟨2, ![512, 2048]⟩ : Shape).Idx → EReal) (y : (⟨2, ![n, 2048]⟩ : Shape).Idx) : EReal :=
  acc y + ∑ k : Fin 512, hidden (fun j : Fin 2048 => xn (ix2 (y 0) j)) (fun j k => wg (ix2 j k)) (fun j k => wu (ix2 j k)) k
    * wd (ix2 k (y 1))

theorem origin2 : (![0, 0] : Fin 2 → Nat) = fun _ => 0 := by
  funext a; match a with | ⟨0, _⟩ => rfl | ⟨1, _⟩ => rfl

/-- A whole block read back. -/
theorem ld_whole {sig : RefSig} {a b : Nat} {e : EltTy} (M : Memref sig .tc .vmem ⟨2, ![a, b]⟩ e) (hM : M.IsWhole)
    (x : (⟨2, ![a, b]⟩ : Shape).Idx → Elt Ideal e) (inb) :
    View.readAt (Elt Ideal) M.view (Rect.unit (s := ⟨2, ![a, b]⟩) ![0, 0] (⟨2, ![a, b]⟩ : Shape).size inb).toLoadRect (hM.unread x) = x := by
  rw [View.readAt_eq_ld, hM.read_unread, View.ld_unit_zero (S := ⟨2, ![a, b]⟩) origin2]

/-- Rows `o` and on of a block read back. -/
theorem ld_rows {sig : RefSig} {a b n : Nat} {e : EltTy} (M : Memref sig .tc .vmem ⟨2, ![a, b]⟩ e) (hM : M.IsWhole)
    (x : (⟨2, ![a, b]⟩ : Shape).Idx → Elt Ideal e) (o : Nat) (inb) (r : Fin n) (k : Fin b) (h : o + r.val < a) :
    View.readAt (Elt Ideal) M.view (Rect.unit (s := ⟨2, ![a, b]⟩) ![o, 0] (⟨2, ![n, b]⟩ : Shape).size inb).toLoadRect (hM.unread x) (ix2 r k)
      = x (ix2 ⟨o + r.val, h⟩ k) := by
  refine Eq.trans ?_ (congrFun (hM.read_unread (Val := Elt Ideal) x) _)
  refine congrArg (M.view.read (Elt Ideal) (hM.unread x)) (funext fun d => Fin.ext ?_)
  match d with
  | ⟨0, _⟩ => show o + 1 * r.val = o + r.val; omega
  | ⟨1, _⟩ => show 0 + 1 * k.val = k.val; omega

/-- The place in the block of an index of its rows `o` and on. -/
theorem emb_rows {a b n : Nat} (o : Nat) (inb) (r : Fin n) (k : Fin b) (h : o + r.val < a) :
    (Rect.unit (s := ⟨2, ![a, b]⟩) ![o, 0] (⟨2, ![n, b]⟩ : Shape).size inb).emb (ix2 r k) = ix2 ⟨o + r.val, h⟩ k := by
  funext d
  apply Fin.ext
  match d with
  | ⟨0, _⟩ => show o + 1 * r.val = o + r.val; omega
  | ⟨1, _⟩ => show 0 + 1 * k.val = k.val; omega

/-! ## The stream, 512 units at a time -/

section
variable (x : (⟨2, ![32768, 2048]⟩ : Shape).Idx → EReal) (g : (⟨1, ![2048]⟩ : Shape).Idx → EReal)
  (wg wu : (⟨2, ![2048, 5632]⟩ : Shape).Idx → EReal) (wd : (⟨2, ![5632, 2048]⟩ : Shape).Idx → EReal)

/-- Row `R` over its root mean square and times the gain. -/
def normed (R : Fin 32768) (j : Fin 2048) : EReal :=
  rms 0x45000000#32 (fun k : Fin 2048 => x (ix2 R k)) (fun k => g (ix1 k)) j

/-- Unit `k` of the gated linear unit of the normed row `R`. -/
def unit (R : Fin 32768) (k : Fin 5632) : EReal :=
  hidden (normed x g R) (fun j k => wg (ix2 j k)) (fun j k => wu (ix2 j k)) k

/-- What unit `k` gives to column `c` of row `R`: its product with half the down weight. -/
def term (R : Fin 32768) (c : Fin 2048) (k : Fin 5632) : EReal :=
  unit x g wg wu R k * (Ideal.ofBits .f32 0x3F000000#32 * wd (ix2 k c))

/-- Row `R` plus what its first `n` units give it. -/
def stream (R : Fin 32768) (c : Fin 2048) (n : Nat) : EReal :=
  x (ix2 R c) + ∑ k ∈ Finset.range n, ext (term x g wg wu wd R c) k

theorem stream_zero (R : Fin 32768) (c : Fin 2048) : stream x g wg wu wd R c 0 = x (ix2 R c) := by
  unfold stream
  rw [Finset.range_zero, Finset.sum_empty, add_zero]

/-- All units: the row plus half the gated linear unit. -/
theorem stream_all (R : Fin 32768) (c : Fin 2048) :
    stream x g wg wu wd R c 5632
      = x (ix2 R c) + Ideal.ofBits .f32 0x3F000000#32 * ∑ k, unit x g wg wu R k * wd (ix2 k c) := by
  unfold stream
  rw [sum_ext, half_down]
  rfl

/-- A step takes the stream 512 units on. -/
theorem step_stream {n : Nat} (acc xn : (⟨2, ![n, 2048]⟩ : Shape).Idx → EReal) (bg bu : (⟨2, ![2048, 512]⟩ : Shape).Idx → EReal)
    (bd : (⟨2, ![512, 2048]⟩ : Shape).Idx → EReal) (R : Fin 32768) (r : Fin n) (c : Fin 2048) (f : Nat) (hf : f < 11)
    (ha : acc (ix2 r c) = stream x g wg wu wd R c (512 * f)) (hn : ∀ j, xn (ix2 r j) = normed x g R j)
    (hg : ∀ j (k : Fin 512), bg (ix2 j k) = wg (ix2 j ⟨512 * f + k.val, by omega⟩))
    (hu : ∀ j (k : Fin 512), bu (ix2 j k) = wu (ix2 j ⟨512 * f + k.val, by omega⟩))
    (hd : ∀ k : Fin 512, bd (ix2 k c) = Ideal.ofBits .f32 0x3F000000#32 * wd (ix2 ⟨512 * f + k.val, by omega⟩ c)) :
    stepBlk acc xn bg bu bd (ix2 r c) = stream x g wg wu wd R c (512 * (f + 1)) := by
  have e : stream x g wg wu wd R c (512 * (f + 1)) = stream x g wg wu wd R c (512 * f)
      + ∑ k : Fin 512, term x g wg wu wd R c ⟨512 * f + k.val, by omega⟩ := by
    unfold stream
    rw [sum_block (term x g wg wu wd R c) 512 f (by omega), add_assoc]
  rw [e]
  show acc (ix2 r c) + ∑ k : Fin 512, silu (∑ j : Fin 2048, xn (ix2 r j) * bg (ix2 j k)) * (∑ j : Fin 2048, xn (ix2 r j) * bu (ix2 j k)) * bd (ix2 k c) = _
  rw [ha]
  refine congrArg (fun z : EReal => stream x g wg wu wd R c (512 * f) + z) (Finset.sum_congr rfl fun k _ => ?_)
  simp only [hn, hg, hu, hd]
  rfl

end

end Cert.Rows

end
-- ==== Proof.Ffn1Run.lean ====
/-
  What a grid point of the first feed-forward call leaves: at a row tile's first column tile the normed rows and the rows plus the first
  512 units' part, at the others the rows so far plus those 512 units' part.
-/
module

public import proofs.«01_k».proof.Proof.FfnBlock
public import proofs.«01_k».proof.Proof.Gen.Ffn1Ideal.Value

@[expose] public section

set_option maxRecDepth 16384

noncomputable section

open scoped BigOperators

namespace Cert.Ffn1

open Cert.Ffn1Ideal Cert.Ffn1Ideal.Gen Cert.Rows Idealize.ShloMosaic Idealize.ShloMosaic.ValueIdx Idealize.ShloMosaic.TcCoe

theorem pay5_apply (x : Vec Ideal S256x2048 .f32) (g : Vec Ideal S1x2048 .f32) (r : Fin 256) (c : Fin 2048) :
    k0_pay5 (F := Ideal) x g (ix2 r c) = normBlk x g (ix2 r c) := by
  unfold k0_pay5
  rw [shapeCast_self]
  exact norm_apply (by decide) (by decide) _ x g _ _ _ _ _ _ r c

theorem pay6_apply (x : Vec Ideal S256x2048 .f32) (g : Vec Ideal S1x2048 .f32) (r : Fin 256) (c : Fin 2048) :
    k0_pay6 (F := Ideal) x g (ix2 r c) = normBlk x g (ix2 r c) := by
  unfold k0_pay6
  rw [shapeCast_self]
  exact pay5_apply x g r c

theorem pay7_apply (x : Vec Ideal S256x2048 .f32) (g : Vec Ideal S1x2048 .f32) (wg wu : Vec Ideal S2048x512 .bf16)
    (wd : Vec Ideal S512x2048 .bf16) (r : Fin 256) (c : Fin 2048) :
    k0_pay7 (F := Ideal) x g wg wu wd (ix2 r c) = stepBlk x (normBlk x g) wg wu wd (ix2 r c) := by
  unfold k0_pay7
  rw [shapeCast_self, shapeCast_self, shapeCast_self]
  refine (chunk_apply _ _ rfl rfl rfl rfl rfl rfl rfl rfl rfl rfl rfl rfl x (k0_pay5 (F := Ideal) x g) wg wu wd _ r c).trans ?_
  unfold stepBlk
  simp only [pay5_apply]

theorem pay4_eq (acc : Vec Ideal S1024x2048 .f32) (xn : Vec Ideal S1024x2048 .bf16) (wg wu : Vec Ideal S2048x512 .bf16)
    (wd : Vec Ideal S512x2048 .bf16) : k0_pay4 (F := Ideal) acc xn wg wu wd = stepBlk acc xn wg wu wd := by
  funext y
  obtain ⟨r, c, rfl⟩ : ∃ (r : Fin 1024) (c : Fin 2048), y = ix2 r c := ⟨y 0, y 1, eq_ix2 y⟩
  unfold k0_pay4
  rw [shapeCast_self, shapeCast_self, shapeCast_self, shapeCast_self]
  exact chunk_apply _ _ rfl rfl rfl rfl rfl rfl rfl rfl rfl rfl rfl rfl acc xn wg wu wd _ r c

/-- The norm of 256 of a block's rows is those rows of the normed block. -/
theorem norm_piece (M : Memref sig .tc .vmem S1024x2048 .f32) (hM : M.IsWhole) (x : S1024x2048.Idx → EReal)
    (g : S1x2048.Idx → EReal) (o : Nat) (hinb : ∀ a, (![o, 0] : Fin 2 → Nat) a + S256x2048.size a ≤ S1024x2048.size a)
    (i : S256x2048.Idx) :
    k0_pay6 (F := Ideal) (View.readAt (Elt Ideal) M.view (Rect.unit (s := S1024x2048) ![o, 0] S256x2048.size hinb).toLoadRect (hM.unread x)) g i
      = normBlk x g ((Rect.unit (s := S1024x2048) ![o, 0] S256x2048.size hinb).emb i) := by
  have ho : o + 256 ≤ 1024 := hinb 0
  obtain ⟨r, c, rfl⟩ : ∃ (r : Fin 256) (c : Fin 2048), i = ix2 r c := ⟨i 0, i 1, eq_ix2 i⟩
  have hr : o + r.val < 1024 := by omega
  rw [pay6_apply, emb_rows o _ r c hr]
  unfold normBlk
  refine congrArg (fun f => rms 0x45000000#32 f (fun k => g (ix2 (0 : Fin 1) k)) c) (funext fun k => ?_)
  exact ld_rows M hM x o hinb r k hr

/-- The first column tile's part for 256 of a block's rows is those rows of the block it leaves. -/
theorem step_piece (M : Memref sig .tc .vmem S1024x2048 .f32) (hM : M.IsWhole) (x : S1024x2048.Idx → EReal)
    (g : S1x2048.Idx → EReal) (wg wu : S2048x512.Idx → EReal) (wd : S512x2048.Idx → EReal) (o : Nat)
    (hinb : ∀ a, (![o, 0] : Fin 2 → Nat) a + S256x2048.size a ≤ S1024x2048.size a) (i : S256x2048.Idx) :
    k0_pay7 (F := Ideal) (View.readAt (Elt Ideal) M.view (Rect.unit (s := S1024x2048) ![o, 0] S256x2048.size hinb).toLoadRect (hM.unread x)) g wg wu wd i
      = stepBlk x (normBlk x g) wg wu wd ((Rect.unit (s := S1024x2048) ![o, 0] S256x2048.size hinb).emb i) := by
  have ho : o + 256 ≤ 1024 := hinb 0
  obtain ⟨r, c, rfl⟩ : ∃ (r : Fin 256) (c : Fin 2048), i = ix2 r c := ⟨i 0, i 1, eq_ix2 i⟩
  have hr : o + r.val < 1024 := by omega
  rw [pay7_apply, emb_rows o _ r c hr]
  have e : ∀ k : Fin 2048, View.readAt (Elt Ideal) M.view (Rect.unit (s := S1024x2048) ![o, 0] S256x2048.size hinb).toLoadRect (hM.unread x) (ix2 r k)
      = x (ix2 ⟨o + r.val, hr⟩ k) := fun k => ld_rows M hM x o hinb r k hr
  have en : ∀ k : Fin 2048, normBlk (View.readAt (Elt Ideal) M.view (Rect.unit (s := S1024x2048) ![o, 0] S256x2048.size hinb).toLoadRect (hM.unread x)) g (ix2 r k)
      = normBlk x g (ix2 ⟨o + r.val, hr⟩ k) := fun k => by
    unfold normBlk
    exact congrArg (fun f => rms 0x45000000#32 f (fun k => g (ix2 (0 : Fin 1) k)) k) (funext e)
  unfold stepBlk
  refine congrArg₂ (· + ·) (e c) (Finset.sum_congr rfl fun k _ => congrArg (· * wd (ix2 k c)) ?_)
  exact congrArg (fun f => hidden f (fun j k => wg (ix2 j k)) (fun j k => wu (ix2 j k)) k) (funext en)

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x2048 .bf16) (harg6 : arg6.IsWhole) (arg7 : Memref sig .tc .vmem S1024x2048 .f32) (harg7 : arg7.IsWhole)
  (arg8 : Memref sig .tc .vmem S1024x2048 .bf16) (harg8 : arg8.IsWhole)
  (x0 : Vec Ideal S1024x2048 .f32) (x1 : Vec Ideal S1x2048 .f32) (x2 x3 : Vec Ideal S2048x512 .bf16) (x4 : Vec Ideal S512x2048 .bf16)

/-- At a row tile's first point the normed rows are kept. -/
theorem sout_A (hc0 : cond0_0 i) (hc1 : ¬cond0_1 i) :
    sout0_A_0 (F := Ideal) c i arg2 harg2 arg3 harg3 arg4 harg4 arg5 harg5 arg6 harg6 arg7 harg7 arg8 harg8 hc0 hc1 x0 x1 x2 x3 x4 = normBlk x0 x1 := by
  refine (View.read_writes_eq_canon _ _ _ (scover0_A_0 c i arg2 harg2 arg3 harg3 arg4 harg4 arg5 harg5 arg6 harg6 arg7 harg7 arg8 harg8 hc0 hc1 x0 x1 x2 x3 x4)).trans ?_
  funext y
  refine View.canon_apply_of_pieces (normBlk x0 x1) _ ?_ y (scover0_A_0 c i arg2 harg2 arg3 harg3 arg4 harg4 arg5 harg5 arg6 harg6 arg7 harg7 arg8 harg8 hc0 hc1 x0 x1 x2 x3 x4 y)
  intro p hp
  have key : ∀ (o : Nat) (hinb : ∀ a, (![o, 0] : Fin 2 → Nat) a + S256x2048.size a ≤ S1024x2048.size a) (i : S256x2048.Idx),
      k0_pay6 (F := Ideal) (View.readAt (Elt Ideal) arg2.view (Rect.unit (s := S1024x2048) ![o, 0] S256x2048.size hinb).toLoadRect (harg2.unread x0))
        (View.readAt (Elt Ideal) arg3.view (Rect.unit (s := S1x2048) ![0, 0] S1x2048.size inb_S1x2048_S1x2048_0_0).toLoadRect (harg3.unread x1)) i
      = normBlk x0 x1 ((Rect.unit (s := S1024x2048) ![o, 0] S256x2048.size hinb).emb i) := fun o hinb i => by
    rw [ld_whole arg3 harg3 x1]
    exact norm_piece arg2 harg2 x0 x1 o hinb i
  replace hp : p ∈ [
    (⟨Rect.unit (s := S1024x2048) ![768, 0] S256x2048.size inb_S1024x2048_S256x2048_768_0, k0_pay6 (F := Ideal)
        (View.readAt (Elt Ideal) arg2.view (Rect.unit (s := S1024x2048) ![768, 0] S256x2048.size inb_S1024x2048_S256x2048_768_0).toLoadRect (harg2.unread x0))
        (View.readAt (Elt Ideal) arg3.view (Rect.unit (s := S1x2048) ![0, 0] S1x2048.size inb_S1x2048_S1x2048_0_0).toLoadRect (harg3.unread x1))⟩ : View.Piece (Elt Ideal) S1024x2048 .bf16),
    ⟨Rect.unit (s := S1024x2048) ![512, 0] S256x2048.size inb_S1024x2048_S256x2048_512_0, k0_pay6 (F := Ideal)
        (View.readAt (Elt Ideal) arg2.view (Rect.unit (s := S1024x2048) ![512, 0] S256x2048.size inb_S1024x2048_S256x2048_512_0).toLoadRect (harg2.unread x0))
        (View.readAt (Elt Ideal) arg3.view (Rect.unit (s := S1x2048) ![0, 0] S1x2048.size inb_S1x2048_S1x2048_0_0).toLoadRect (harg3.unread x1))⟩,
    ⟨Rect.unit (s := S1024x2048) ![256, 0] S256x2048.size inb_S1024x2048_S256x2048_256_0, k0_pay6 (F := Ideal)
        (View.readAt (Elt Ideal) arg2.view (Rect.unit (s := S1024x2048) ![256, 0] S256x2048.size inb_S1024x2048_S256x2048_256_0).toLoadRect (harg2.unread x0))
        (View.readAt (Elt Ideal) arg3.view (Rect.unit (s := S1x2048) ![0, 0] S1x2048.size inb_S1x2048_S1x2048_0_0).toLoadRect (harg3.unread x1))⟩,
    ⟨Rect.unit (s := S1024x2048) ![0, 0] S256x2048.size inb_S1024x2048_S256x2048_0_0, k0_pay6 (F := Ideal)
        (View.readAt (Elt Ideal) arg2.view (Rect.unit (s := S1024x2048) ![0, 0] S256x2048.size inb_S1024x2048_S256x2048_0_0).toLoadRect (harg2.unread x0))
        (View.readAt (Elt Ideal) arg3.view (Rect.unit (s := S1x2048) ![0, 0] S1x2048.size inb_S1x2048_S1x2048_0_0).toLoadRect (harg3.unread x1))⟩] := hp
  simp only [List.mem_cons, List.not_mem_nil, or_false] at hp
  rcases hp with rfl | rfl | rfl | rfl <;> intro x
  · exact key 768 _ x
  · exact key 512 _ x
  · exact key 256 _ x
  · exact key 0 _ x

/-- At a row tile's first point the rows plus the first 512 units' part are left. -/
theorem out_A (hc0 : cond0_0 i) (hc1 : ¬cond0_1 i) :
    out0_A_5 (F := Ideal) c i arg2 harg2 arg3 harg3 arg4 harg4 arg5 harg5 arg6 harg6 arg7 harg7 arg8 harg8 hc0 hc1 x0 x1 x2 x3 x4
      = stepBlk x0 (normBlk x0 x1) x2 x3 x4 := by
  refine (View.read_writes_eq_canon _ _ _ (cover0_A_5 c i arg2 harg2 arg3 harg3 arg4 harg4 arg5 harg5 arg6 harg6 arg7 harg7 arg8 harg8 hc0 hc1 x0 x1 x2 x3 x4)).trans ?_
  funext y
  refine View.canon_apply_of_pieces (stepBlk x0 (normBlk x0 x1) x2 x3 x4) _ ?_ y (cover0_A_5 c i arg2 harg2 arg3 harg3 arg4 harg4 arg5 harg5 arg6 harg6 arg7 harg7 arg8 harg8 hc0 hc1 x0 x1 x2 x3 x4 y)
  intro p hp
  have key : ∀ (o : Nat) (hinb : ∀ a, (![o, 0] : Fin 2 → Nat) a + S256x2048.size a ≤ S1024x2048.size a) (i : S256x2048.Idx),
      k0_pay7 (F := Ideal) (View.readAt (Elt Ideal) arg2.view (Rect.unit (s := S1024x2048) ![o, 0] S256x2048.size hinb).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4)) i
      = stepBlk x0 (normBlk x0 x1) x2 x3 x4 ((Rect.unit (s := S1024x2048) ![o, 0] S256x2048.size hinb).emb i) := fun o hinb i => by
    rw [ld_whole arg3 harg3 x1, ld_whole arg4 harg4 x2, ld_whole arg5 harg5 x3, ld_whole arg6 harg6 x4]
    exact step_piece arg2 harg2 x0 x1 x2 x3 x4 o hinb i
  replace hp : p ∈ [
    (⟨Rect.unit (s := S1024x2048) ![768, 0] S256x2048.size inb_S1024x2048_S256x2048_768_0, k0_pay7 (F := Ideal)
        (View.readAt (Elt Ideal) arg2.view (Rect.unit (s := S1024x2048) ![768, 0] S256x2048.size inb_S1024x2048_S256x2048_768_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩ : View.Piece (Elt Ideal) S1024x2048 .f32),
    ⟨Rect.unit (s := S1024x2048) ![512, 0] S256x2048.size inb_S1024x2048_S256x2048_512_0, k0_pay7 (F := Ideal)
        (View.readAt (Elt Ideal) arg2.view (Rect.unit (s := S1024x2048) ![512, 0] S256x2048.size inb_S1024x2048_S256x2048_512_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩,
    ⟨Rect.unit (s := S1024x2048) ![256, 0] S256x2048.size inb_S1024x2048_S256x2048_256_0, k0_pay7 (F := Ideal)
        (View.readAt (Elt Ideal) arg2.view (Rect.unit (s := S1024x2048) ![256, 0] S256x2048.size inb_S1024x2048_S256x2048_256_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩,
    ⟨Rect.unit (s := S1024x2048) ![0, 0] S256x2048.size inb_S1024x2048_S256x2048_0_0, k0_pay7 (F := Ideal)
        (View.readAt (Elt Ideal) arg2.view (Rect.unit (s := S1024x2048) ![0, 0] S256x2048.size inb_S1024x2048_S256x2048_0_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩] := hp
  simp only [List.mem_cons, List.not_mem_nil, or_false] at hp
  rcases hp with rfl | rfl | rfl | rfl <;> intro x
  · exact key 768 _ x
  · exact key 512 _ x
  · exact key 256 _ x
  · exact key 0 _ x

/-- At a later point the rows so far plus the point's 512 units' part are left. -/
theorem out_B (hc0 : ¬cond0_0 i) (hc1 : cond0_1 i) (xo : Vec Ideal S1024x2048 .f32) (xs : Vec Ideal S1024x2048 .bf16) :
    out0_B_5 (F := Ideal) c i arg2 harg2 arg3 harg3 arg4 harg4 arg5 harg5 arg6 harg6 arg7 harg7 arg8 harg8 hc0 hc1 x0 x1 x2 x3 x4 xo xs
      = stepBlk xo xs x2 x3 x4 := by
  refine (View.read_writes_eq_canon _ _ _ (cover0_B_5 c i arg2 harg2 arg3 harg3 arg4 harg4 arg5 harg5 arg6 harg6 arg7 harg7 arg8 harg8 hc0 hc1 x0 x1 x2 x3 x4 xo xs)).trans ?_
  refine (View.canon_unit_zero (S := S1024x2048) origin2 _ _).trans ?_
  rw [pay4_eq]
  rw [ld_whole arg7 harg7 xo, ld_whole arg8 harg8 xs, ld_whole arg4 harg4 x2, ld_whole arg5 harg5 x3, ld_whole arg6 harg6 x4]

end
end Cert.Ffn1

end
-- ==== Proof.Ffn1Value.lean ====
/-
  The first feed-forward call's result in terms of its arguments: each row plus half the gated linear unit of the normed row.
-/
module

public import proofs.«01_k».proof.Proof.Ffn1Run

@[expose] public section

set_option maxRecDepth 16384

noncomputable section

open scoped BigOperators

namespace Cert.Ffn1

open Cert.Ffn1Ideal Cert.Ffn1Ideal.Gen Cert.Ffn1Ideal.Value Cert.Rows Idealize.ShloMosaic Idealize.ShloMosaic.ValueIdx Idealize.ShloMosaic.TcCoe

theorem idx_in : ∀ t : Fin grid0.N,
    win0_0.index t = ![t.val / 11, 0] ∧ win0_1.index t = ![0, 0] ∧ win0_2.index t = ![0, t.val % 11]
      ∧ win0_3.index t = ![0, t.val % 11] ∧ win0_4.index t = ![t.val % 11, 0] := by
  decide +kernel

variable (m : (ℓ : Loc nD τ sig) → Buf (Elt Ideal) ℓ) (c : Dev nD)

abbrev argX : S32768x2048.Idx → EReal := m ((c.tc : Thread nD τ).loc main_arg0)
abbrev argG : S2048.Idx → EReal := m ((c.tc : Thread nD τ).loc main_arg1)
abbrev argWg : S2048x5632.Idx → EReal := m ((c.tc : Thread nD τ).loc main_arg2)
abbrev argWu : S2048x5632.Idx → EReal := m ((c.tc : Thread nD τ).loc main_arg3)
abbrev argWd : S5632x2048.Idx → EReal := m ((c.tc : Thread nD τ).loc main_arg4)

/-! ## What the call is given -/

set_option maxHeartbeats 4000000 in
theorem V_v0 : (V m c main_v0 : S1x2048.Idx → EReal) = shapeCast S1x2048 (argG m c) shapeCasts_S2048_S1x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v1 : (V m c main_v1 : S2048x5632.Idx → EReal) = argWg m c := by
  simp only [V, hostOps0, StableHlo.TRef.binary, StableHlo.TRef.unary, StableHlo.TRef.toBuf, StableHlo.TRef.ofBuf, cast_eq]
  after_results_simp <;> rfl

set_option maxHeartbeats 4000000 in
theorem V_v2 : (V m c main_v2 : S2048x5632.Idx → EReal) = argWu m c := by
  simp only [V, hostOps0, StableHlo.TRef.binary, StableHlo.TRef.unary, StableHlo.TRef.toBuf, StableHlo.TRef.ofBuf, cast_eq]
  after_results_simp <;> rfl

set_option maxHeartbeats 4000000 in
theorem V_v5 : (V m c main_v5 : S5632x2048.Idx → EReal) = fun i => Ideal.ofBits .f32 0x3F000000#32 * argWd m c i := by
  simp only [V, hostOps0, StableHlo.TRef.binary, StableHlo.TRef.unary, StableHlo.TRef.toBuf, StableHlo.TRef.ofBuf, cast_eq]
  after_results_simp <;> rfl

/-! ## The blocks of a point -/

/-- Row `r` of the row tile of point `t`. -/
def rowOf (t : Fin cfg0.N) (r : Fin 1024) : Fin 32768 :=
  ⟨1024 * (t.val / 11) + r.val, by have := lt_of_lt_of_eq t.isLt N_0; omega⟩

/-- Unit `k` of the column tile of point `t`. -/
def unitOf (t : Fin cfg0.N) (k : Fin 512) : Fin 5632 := ⟨512 * (t.val % 11) + k.val, by omega⟩

theorem blk_x (t : Fin cfg0.N) (r : Fin 1024) (k : Fin 2048) :
    (iblk m c 0 t : S1024x2048.Idx → EReal) (ix2 r k) = argX m c (ix2 (rowOf t r) k) := by
  show V m c main_arg0 (((cfg0.win 0).blk t).view.emb (ix2 r k)) = _
  rw [V_main_arg0]
  refine congrArg (argX m c) (eq_ix2 _ |>.trans ?_)
  have e0 : ((((cfg0.win 0).blk t).view.emb (ix2 r k)) 0).val = win0_0.index t 0 * 1024 + 1 * r.val := rfl
  have e1 : ((((cfg0.win 0).blk t).view.emb (ix2 r k)) 1).val = win0_0.index t 1 * 2048 + 1 * k.val := rfl
  rw [(idx_in t).1] at e0 e1
  refine congrArg₂ ix2 (Fin.ext ?_) (Fin.ext ?_)
  · exact e0.trans (by show t.val / 11 * 1024 + 1 * r.val = 1024 * (t.val / 11) + r.val; omega)
  · exact e1.trans (by show 0 * 2048 + 1 * k.val = k.val; omega)

theorem blk_g (t : Fin cfg0.N) (k : Fin 2048) :
    (iblk m c 1 t : S1x2048.Idx → EReal) (ix2 (0 : Fin 1) k) = argG m c (ix1 k) := by
  show (V m c main_v0 : S1x2048.Idx → EReal) (((cfg0.win 1).blk t).view.emb (ix2 (0 : Fin 1) k)) = _
  have e0 : ((((cfg0.win 1).blk t).view.emb (ix2 (0 : Fin 1) k)) 0).val = win0_1.index t 0 * 1 + 1 * 0 := rfl
  have e1 : ((((cfg0.win 1).blk t).view.emb (ix2 (0 : Fin 1) k)) 1).val = win0_1.index t 1 * 2048 + 1 * k.val := rfl
  rw [(idx_in t).2.1] at e0 e1
  have e : ((cfg0.win 1).blk t).view.emb (ix2 (0 : Fin 1) k) = (ix2 (0 : Fin 1) k : S1x2048.Idx) :=
    (eq_ix2 _).trans (congrArg₂ ix2 (Fin.ext (e0.trans (by show 0 * 1 + 1 * 0 = 0; omega)))
      (Fin.ext (e1.trans (by show 0 * 2048 + 1 * k.val = k.val; omega))))
  rw [e, V_v0]
  refine (shapeCast_addUnit_apply ![2048] (argG m c) _ (ix2 (0 : Fin 1) k)).trans (congrArg (argG m c) ?_)
  funext a
  match a with
  | ⟨0, _⟩ => rfl

theorem blk_wg (t : Fin cfg0.N) (j : Fin 2048) (k : Fin 512) :
    (iblk m c 2 t : S2048x512.Idx → EReal) (ix2 j k) = argWg m c (ix2 j (unitOf t k)) := by
  show (V m c main_v1 : S2048x5632.Idx → EReal) (((cfg0.win 2).blk t).view.emb (ix2 j k)) = _
  rw [V_v1]
  refine congrArg (argWg m c) (eq_ix2 _ |>.trans ?_)
  have e0 : ((((cfg0.win 2).blk t).view.emb (ix2 j k)) 0).val = win0_2.index t 0 * 2048 + 1 * j.val := rfl
  have e1 : ((((cfg0.win 2).blk t).view.emb (ix2 j k)) 1).val = win0_2.index t 1 * 512 + 1 * k.val := rfl
  rw [(idx_in t).2.2.1] at e0 e1
  refine congrArg₂ ix2 (Fin.ext ?_) (Fin.ext ?_)
  · exact e0.trans (by show 0 * 2048 + 1 * j.val = j.val; omega)
  · exact e1.trans (by show t.val % 11 * 512 + 1 * k.val = 512 * (t.val % 11) + k.val; omega)

theorem blk_wu (t : Fin cfg0.N) (j : Fin 2048) (k : Fin 512) :
    (iblk m c 3 t : S2048x512.Idx → EReal) (ix2 j k) = argWu m c (ix2 j (unitOf t k)) := by
  show (V m c main_v2 : S2048x5632.Idx → EReal) (((cfg0.win 3).blk t).view.emb (ix2 j k)) = _
  rw [V_v2]
  refine congrArg (argWu m c) (eq_ix2 _ |>.trans ?_)
  have e0 : ((((cfg0.win 3).blk t).view.emb (ix2 j k)) 0).val = win0_3.index t 0 * 2048 + 1 * j.val := rfl
  have e1 : ((((cfg0.win 3).blk t).view.emb (ix2 j k)) 1).val = win0_3.index t 1 * 512 + 1 * k.val := rfl
  rw [(idx_in t).2.2.2.1] at e0 e1
  refine congrArg₂ ix2 (Fin.ext ?_) (Fin.ext ?_)
  · exact e0.trans (by show 0 * 2048 + 1 * j.val = j.val; omega)
  · exact e1.trans (by show t.val % 11 * 512 + 1 * k.val = 512 * (t.val % 11) + k.val; omega)

theorem blk_wd (t : Fin cfg0.N) (k : Fin 512) (j : Fin 2048) :
    (iblk m c 4 t : S512x2048.Idx → EReal) (ix2 k j) = Ideal.ofBits .f32 0x3F000000#32 * argWd m c (ix2 (unitOf t k) j) := by
  show (V m c main_v5 : S5632x2048.Idx → EReal) (((cfg0.win 4).blk t).view.emb (ix2 k j)) = _
  rw [V_v5]
  refine congrArg (fun i => Ideal.ofBits .f32 0x3F000000#32 * argWd m c i) (eq_ix2 _ |>.trans ?_)
  have e0 : ((((cfg0.win 4).blk t).view.emb (ix2 k j)) 0).val = win0_4.index t 0 * 512 + 1 * k.val := rfl
  have e1 : ((((cfg0.win 4).blk t).view.emb (ix2 k j)) 1).val = win0_4.index t 1 * 2048 + 1 * j.val := rfl
  rw [(idx_in t).2.2.2.2] at e0 e1
  refine congrArg₂ ix2 (Fin.ext ?_) (Fin.ext ?_)
  · exact e0.trans (by show t.val % 11 * 512 + 1 * k.val = 512 * (t.val % 11) + k.val; omega)
  · exact e1.trans (by show 0 * 2048 + 1 * j.val = j.val; omega)

theorem norm_blk (t : Fin cfg0.N) (r : Fin 1024) (j : Fin 2048) :
    normBlk (iblk m c 0 t : S1024x2048.Idx → EReal) (iblk m c 1 t : S1x2048.Idx → EReal) (ix2 r j)
      = normed (argX m c) (argG m c) (rowOf t r) j :=
  congrArg₂ (fun u v => rms 0x45000000#32 u v j) (funext fun k => blk_x m c t r k) (funext fun k => blk_g m c t k)

/-! ## Point by point -/

/-- What point `t` of a row tile leaves: the stream of the tile's rows so far, and the normed rows. -/
def Left (t : Fin cfg0.N) (p : (S1024x2048.Idx → EReal) × (S1024x2048.Idx → EReal)) : Prop :=
  (∀ r j, p.1 (ix2 r j) = stream (argX m c) (argG m c) (argWg m c) (argWu m c) (argWd m c) (rowOf t r) j (512 * (t.val % 11 + 1)))
    ∧ ∀ r j, p.2 (ix2 r j) = normed (argX m c) (argG m c) (rowOf t r) j

theorem step_at (t : Fin cfg0.N) (acc xn : S1024x2048.Idx → EReal)
    (ha : ∀ r j, acc (ix2 r j) = stream (argX m c) (argG m c) (argWg m c) (argWu m c) (argWd m c) (rowOf t r) j (512 * (t.val % 11)))
    (hn : ∀ r j, xn (ix2 r j) = normed (argX m c) (argG m c) (rowOf t r) j) (r : Fin 1024) (j : Fin 2048) :
    stepBlk acc xn (iblk m c 2 t : S2048x512.Idx → EReal) (iblk m c 3 t : S2048x512.Idx → EReal) (iblk m c 4 t : S512x2048.Idx → EReal) (ix2 r j)
      = stream (argX m c) (argG m c) (argWg m c) (argWu m c) (argWd m c) (rowOf t r) j (512 * (t.val % 11 + 1)) :=
  step_stream (argX m c) (argG m c) (argWg m c) (argWu m c) (argWd m c) acc xn _ _ _ (rowOf t r) r j (t.val % 11)
    (Nat.mod_lt _ (by decide)) (ha r j) (hn r) (fun i k => blk_wg m c t i k) (fun i k => blk_wu m c t i k) (fun k => blk_wd m c t k j)

theorem left_first (t : Fin cfg0.N) (h0 : t.val % 11 = 0) : Left m c t (outsAt0 m c t.val t.isLt) := by
  rw [outsAt0_A m c t h0 (by omega), out_A, sout_A]
  refine ⟨step_at m c t _ _ (fun r j => ?_) (norm_blk m c t), norm_blk m c t⟩
  rw [h0]
  exact (blk_x m c t r j).trans (stream_zero _ _ _ _ _ _ _).symm

theorem left_later (t : Fin cfg0.N) (h0 : ¬ t.val % 11 = 0) (u : Fin cfg0.N) (hu : u.val = t.val - 1)
    (ih : Left m c u (outsAt0 m c (t.val - 1) (Nat.lt_of_le_of_lt (Nat.sub_le _ _) t.isLt))) : Left m c t (outsAt0 m c t.val t.isLt) := by
  have hr : ∀ r, rowOf u r = rowOf t r := fun r => Fin.ext (by
    show 1024 * (u.val / 11) + r.val = 1024 * (t.val / 11) + r.val
    omega)
  have hc : u.val % 11 + 1 = t.val % 11 := by omega
  unfold Left at ih
  simp only [hr, hc] at ih
  rw [outsAt0_B m c t h0 (by omega), out_B]
  exact ⟨step_at m c t _ _ ih.1 ih.2, ih.2⟩

theorem left_eq (n : ℕ) (hn : n < cfg0.N) : Left m c ⟨n, hn⟩ (outsAt0 m c n hn) := by
  induction n with
  | zero => exact left_first m c ⟨0, hn⟩ (Nat.zero_mod _)
  | succ n ih =>
    by_cases h0 : (n + 1) % 11 = 0
    · exact left_first m c ⟨n + 1, hn⟩ h0
    · exact left_later m c ⟨n + 1, hn⟩ h0 ⟨n, Nat.lt_of_succ_lt hn⟩ rfl (ih (Nat.lt_of_succ_lt hn))

/-- The call's result: each row plus half the gated linear unit of the normed row. -/
theorem result_eq (R : Fin 32768) (j : Fin 2048) :
    (G5 m c : S32768x2048.Idx → EReal) (ix2 R j)
      = argX m c (ix2 R j) + Ideal.ofBits .f32 0x3F000000#32
          * ∑ k, unit (argX m c) (argG m c) (argWg m c) (argWu m c) R k * argWd m c (ix2 k j) := by
  have hp : pt5Of (ix2 R j : S32768x2048.Idx) = 11 * (R.val / 1024) + 10 := by
    show 11 * (1 * (R.val / 1024 - 0) + 1 * (j.val / 2048 - 0)) + 10 = _
    omega
  have hlt : pt5Of (ix2 R j : S32768x2048.Idx) < cfg0.N := by
    rw [hp]; exact lt_of_lt_of_eq (by omega) N_0.symm
  have hl : loc5Of (ix2 R j : S32768x2048.Idx) = ix2 ⟨R.val % 1024, Nat.mod_lt _ (by decide)⟩ j := by
    refine (eq_ix2 _).trans (congrArg₂ ix2 (Fin.ext ?_) (Fin.ext ?_))
    · rfl
    · show j.val % 2048 = j.val
      omega
  unfold G5
  rw [dif_pos hlt, ← outsAt0_sweep m c _ hlt, hl, ← stream_all]
  have ho : ∀ n (hn : n < cfg0.N), n = 11 * (R.val / 1024) + 10 →
      (outsAt0 m c n hn).1 (ix2 ⟨R.val % 1024, Nat.mod_lt _ (by decide)⟩ j)
        = stream (argX m c) (argG m c) (argWg m c) (argWu m c) (argWd m c) R j 5632 := by
    intro n hn en
    refine ((left_eq m c n hn).1 _ _).trans ?_
    have hr : rowOf ⟨n, hn⟩ ⟨R.val % 1024, Nat.mod_lt _ (by decide)⟩ = R := Fin.ext (by
      show 1024 * (n / 11) + R.val % 1024 = R.val
      omega)
    have hm : 512 * ((⟨n, hn⟩ : Fin cfg0.N).val % 11 + 1) = 5632 := by show 512 * (n % 11 + 1) = 5632; omega
    rw [hr, hm]
  exact ho _ _ hp

end Cert.Ffn1

end
-- ==== Proof.Ffn1Ref.lean ====
/-
  The reference of the first feed-forward call, read at an index, and that the call's result is the reference's.
-/
module

public import proofs.«01_k».proof.Proof.Ffn1Value
public import proofs.«01_k».proof.Proof.Gen.Ffn1RefIdeal.Read
public import Idealize.ShloMosaic.Lib.IdealHost

@[expose] public section

set_option maxRecDepth 16384

noncomputable section

open scoped BigOperators

namespace Cert.Ffn1

open Cert.Ffn1RefIdeal Cert.Ffn1RefIdeal.Read Cert.Rows Idealize.ShloMosaic Idealize.ShloMosaic.ValueIdx

variable (x0 : (⟨S32768x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

theorem ref_norm (R : Fin 32768) (j : Fin 2048) : val_main_v12 (F := Ideal) x0 x1 (ix2 R j) = normed x0 x1 R j := by
  rw [val_main_v12_apply, val_main_v9_apply, val_main_v8_apply, show idx_main_v8 (ix2 R j) = ix2 R (0 : Fin 1) from eq_ix2 _,
    val_main_v7_apply, val_main_v6_apply, val_main_v4_apply, val_main_v2_apply,
    show idx_main_v2 (ix2 R (0 : Fin 1)) = ix1 R from eq_ix1 _, val_main_v1_apply, val_main_v3_apply, val_main_v5_apply,
    val_main_v11_apply, show idx_main_v11 (ix2 R j) = ix2 (0 : Fin 1) j from eq_ix2 _, val_main_v10_apply,
    show idx_main_v10 (ix2 (0 : Fin 1) j) = ix1 j from eq_ix1 _]
  have e : ∀ k : Fin 2048, val_main_v0 (F := Ideal) x0 (idx_main_v1 (ix1 R) k) = x0 (ix2 R k) * x0 (ix2 R k) := fun k => by
    rw [show idx_main_v1 (ix1 R) k = ix2 R k from eq_ix2 _, val_main_v0_apply]
    rfl
  simp only [e]
  rw [show (val_main_cst (F := Ideal)) (Shape.Idx.first Gen.h_S_) = 0 from Ideal.ofBits_zero_f32, zero_add]
  rfl

theorem ref_gate (R : Fin 32768) (k : Fin 5632) :
    val_main_v13 (F := Ideal) x0 x1 x2 (ix2 R k) = ∑ j, normed x0 x1 R j * x2 (ix2 j k) := by
  rw [val_main_v13_apply]
  refine Finset.sum_congr rfl fun j _ => ?_
  rw [show lidx_main_v13 (ix2 R k) j = ix2 R j from eq_ix2 _, show ridx_main_v13 (ix2 R k) j = ix2 j k from eq_ix2 _, ref_norm]

theorem ref_up (R : Fin 32768) (k : Fin 5632) :
    val_main_v15 (F := Ideal) x0 x1 x3 (ix2 R k) = ∑ j, normed x0 x1 R j * x3 (ix2 j k) := by
  rw [val_main_v15_apply]
  refine Finset.sum_congr rfl fun j _ => ?_
  rw [show lidx_main_v15 (ix2 R k) j = ix2 R j from eq_ix2 _, show ridx_main_v15 (ix2 R k) j = ix2 j k from eq_ix2 _, ref_norm]

theorem ref_unit (R : Fin 32768) (k : Fin 5632) :
    val_main_v16 (F := Ideal) x0 x1 x2 x3 (ix2 R k) = unit x0 x1 x2 x3 R k := by
  rw [val_main_v16_apply, val_main_v14_apply, val_main_call0_v5_apply, val_main_call0_v4_apply, val_main_call0_v3_apply,
    val_main_call0_v2_apply, val_main_call0_v1_apply, val_main_call0_v0_apply, val_main_call0_cst_apply, val_main_call0_cst_0_apply,
    show FloatOps.ofBits (F := Ideal) .f32 0x3F800000#32 = (1 : EReal) from Ideal.ofBits_one_f32, ref_gate, ref_up]
  rfl

theorem ref_stream (R : Fin 32768) (j : Fin 2048) :
    val_main_v20 (F := Ideal) x0 x1 x2 x3 x4 (ix2 R j)
      = x0 (ix2 R j) + Ideal.ofBits .f32 0x3F000000#32 * ∑ k, unit x0 x1 x2 x3 R k * x4 (ix2 k j) := by
  rw [val_main_v20_apply, val_main_v19_apply, val_main_v18_apply, val_main_v17_apply]
  refine congrArg (fun z : EReal => x0 (ix2 R j) + Ideal.ofBits .f32 0x3F000000#32 * z) (Finset.sum_congr rfl fun k _ => ?_)
  rw [show lidx_main_v17 (ix2 R j) k = ix2 R k from eq_ix2 _, show ridx_main_v17 (ix2 R j) k = ix2 k j from eq_ix2 _, ref_unit]

/-- The call's result is the reference's. -/
theorem value_eq (m : (ℓ : Loc nD τ Cert.Ffn1Ideal.sig) → Buf (Elt Ideal) ℓ) (c : Dev nD) :
    (Cert.Ffn1Ideal.Value.G5 m c : S32768x2048.Idx → EReal)
      = val_main_v20 (F := Ideal) (argX m c) (argG m c) (argWg m c) (argWu m c) (argWd m c) := by
  funext y
  obtain ⟨R, j, rfl⟩ : ∃ (R : Fin 32768) (j : Fin 2048), y = ix2 R j := ⟨y 0, y 1, eq_ix2 y⟩
  rw [ref_stream]
  exact result_eq m c R j

end Cert.Ffn1

end
-- ==== Proof.Ffn2Run.lean ====
/-
  What a grid point of the second feed-forward call leaves: at a row tile's first column tile the normed rows and the rows plus the first
  512 units' part, at the others the rows so far plus those 512 units' part, normed at the last.
-/
module

public import proofs.«01_k».proof.Proof.FfnBlock
public import proofs.«01_k».proof.Proof.Gen.Ffn2Ideal.Value

@[expose] public section

set_option maxRecDepth 16384

noncomputable section

open scoped BigOperators

namespace Cert.Ffn2

open Cert.Ffn2Ideal Cert.Ffn2Ideal.Gen Cert.Rows Idealize.ShloMosaic Idealize.ShloMosaic.ValueIdx Idealize.ShloMosaic.TcCoe

theorem pay6_apply (x : Vec Ideal S256x2048 .f32) (g : Vec Ideal S1x2048 .f32) (r : Fin 256) (c : Fin 2048) :
    k0_pay6 (F := Ideal) x g (ix2 r c) = normBlk x g (ix2 r c) := by
  unfold k0_pay6
  rw [shapeCast_self]
  exact norm_apply (by decide) (by decide) _ x g _ _ _ _ _ _ r c

theorem pay7_apply (x : Vec Ideal S256x2048 .f32) (g : Vec Ideal S1x2048 .f32) (r : Fin 256) (c : Fin 2048) :
    k0_pay7 (F := Ideal) x g (ix2 r c) = normBlk x g (ix2 r c) := by
  unfold k0_pay7
  rw [shapeCast_self]
  exact pay6_apply x g r c

theorem pay8_apply (x : Vec Ideal S256x2048 .f32) (g : Vec Ideal S1x2048 .f32) (wg wu : Vec Ideal S2048x512 .bf16)
    (wd : Vec Ideal S512x2048 .bf16) (r : Fin 256) (c : Fin 2048) :
    k0_pay8 (F := Ideal) x g wg wu wd (ix2 r c) = stepBlk x (normBlk x g) wg wu wd (ix2 r c) := by
  unfold k0_pay8
  rw [shapeCast_self, shapeCast_self, shapeCast_self]
  refine (chunk_apply _ _ rfl rfl rfl rfl rfl rfl rfl rfl rfl rfl rfl rfl x (k0_pay6 (F := Ideal) x g) wg wu wd _ r c).trans ?_
  unfold stepBlk
  simp only [pay6_apply]

theorem pay4_eq (acc : Vec Ideal S1024x2048 .f32) (xn : Vec Ideal S1024x2048 .bf16) (wg wu : Vec Ideal S2048x512 .bf16)
    (wd : Vec Ideal S512x2048 .bf16) : k0_pay4 (F := Ideal) acc xn wg wu wd = stepBlk acc xn wg wu wd := by
  funext y
  obtain ⟨r, c, rfl⟩ : ∃ (r : Fin 1024) (c : Fin 2048), y = ix2 r c := ⟨y 0, y 1, eq_ix2 y⟩
  unfold k0_pay4
  rw [shapeCast_self, shapeCast_self, shapeCast_self, shapeCast_self]
  exact chunk_apply _ _ rfl rfl rfl rfl rfl rfl rfl rfl rfl rfl rfl rfl acc xn wg wu wd _ r c

theorem pay5_eq (x : Vec Ideal S1024x2048 .f32) (g : Vec Ideal S1x2048 .f32) : k0_pay5 (F := Ideal) x g = normBlk x g := by
  funext y
  obtain ⟨r, c, rfl⟩ : ∃ (r : Fin 1024) (c : Fin 2048), y = ix2 r c := ⟨y 0, y 1, eq_ix2 y⟩
  unfold k0_pay5
  rw [shapeCast_self, shapeCast_self]
  exact norm_apply (by decide) (by decide) _ x g _ _ _ _ _ _ r c

/-- The norm of 256 of a block's rows is those rows of the normed block. -/
theorem norm_piece (M : Memref sig .tc .vmem S1024x2048 .f32) (hM : M.IsWhole) (x : S1024x2048.Idx → EReal)
    (g : S1x2048.Idx → EReal) (o : Nat) (hinb : ∀ a, (![o, 0] : Fin 2 → Nat) a + S256x2048.size a ≤ S1024x2048.size a)
    (i : S256x2048.Idx) :
    k0_pay7 (F := Ideal) (View.readAt (Elt Ideal) M.view (Rect.unit (s := S1024x2048) ![o, 0] S256x2048.size hinb).toLoadRect (hM.unread x)) g i
      = normBlk x g ((Rect.unit (s := S1024x2048) ![o, 0] S256x2048.size hinb).emb i) := by
  have ho : o + 256 ≤ 1024 := hinb 0
  obtain ⟨r, c, rfl⟩ : ∃ (r : Fin 256) (c : Fin 2048), i = ix2 r c := ⟨i 0, i 1, eq_ix2 i⟩
  have hr : o + r.val < 1024 := by omega
  rw [pay7_apply, emb_rows o _ r c hr]
  unfold normBlk
  refine congrArg (fun f => rms 0x45000000#32 f (fun k => g (ix2 (0 : Fin 1) k)) c) (funext fun k => ?_)
  exact ld_rows M hM x o hinb r k hr

/-- The first column tile's part for 256 of a block's rows is those rows of the block it leaves. -/
theorem step_piece (M : Memref sig .tc .vmem S1024x2048 .f32) (hM : M.IsWhole) (x : S1024x2048.Idx → EReal)
    (g : S1x2048.Idx → EReal) (wg wu : S2048x512.Idx → EReal) (wd : S512x2048.Idx → EReal) (o : Nat)
    (hinb : ∀ a, (![o, 0] : Fin 2 → Nat) a + S256x2048.size a ≤ S1024x2048.size a) (i : S256x2048.Idx) :
    k0_pay8 (F := Ideal) (View.readAt (Elt Ideal) M.view (Rect.unit (s := S1024x2048) ![o, 0] S256x2048.size hinb).toLoadRect (hM.unread x)) g wg wu wd i
      = stepBlk x (normBlk x g) wg wu wd ((Rect.unit (s := S1024x2048) ![o, 0] S256x2048.size hinb).emb i) := by
  have ho : o + 256 ≤ 1024 := hinb 0
  obtain ⟨r, c, rfl⟩ : ∃ (r : Fin 256) (c : Fin 2048), i = ix2 r c := ⟨i 0, i 1, eq_ix2 i⟩
  have hr : o + r.val < 1024 := by omega
  rw [pay8_apply, emb_rows o _ r c hr]
  have e : ∀ k : Fin 2048, View.readAt (Elt Ideal) M.view (Rect.unit (s := S1024x2048) ![o, 0] S256x2048.size hinb).toLoadRect (hM.unread x) (ix2 r k)
      = x (ix2 ⟨o + r.val, hr⟩ k) := fun k => ld_rows M hM x o hinb r k hr
  have en : ∀ k : Fin 2048, normBlk (View.readAt (Elt Ideal) M.view (Rect.unit (s := S1024x2048) ![o, 0] S256x2048.size hinb).toLoadRect (hM.unread x)) g (ix2 r k)
      = normBlk x g (ix2 ⟨o + r.val, hr⟩ k) := fun k => by
    unfold normBlk
    exact congrArg (fun f => rms 0x45000000#32 f (fun k => g (ix2 (0 : Fin 1) k)) k) (funext e)
  unfold stepBlk
  refine congrArg₂ (· + ·) (e c) (Finset.sum_congr rfl fun k _ => congrArg (· * wd (ix2 k c)) ?_)
  exact congrArg (fun f => hidden f (fun j k => wg (ix2 j k)) (fun j k => wu (ix2 j k)) k) (funext en)

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole)
  (arg9 : Memref sig .tc .vmem S1024x2048 .bf16) (harg9 : arg9.IsWhole)
  (x0 : Vec Ideal S1024x2048 .f32) (x1 : Vec Ideal S1x2048 .f32) (x2 x3 : Vec Ideal S2048x512 .bf16) (x4 : Vec Ideal S512x2048 .bf16) (x5 : Vec Ideal S1x2048 .f32)

/-- At a row tile's first point the normed rows are kept. -/
theorem sout_A (hc0 : cond0_0 i) (hc1 : ¬cond0_1 i) (hc2 : ¬cond0_2 i) :
    sout0_A_0 (F := Ideal) c i arg2 harg2 arg3 harg3 arg4 harg4 arg5 harg5 arg6 harg6 arg7 harg7 arg8 harg8 arg9 harg9 hc0 hc1 hc2 x0 x1 x2 x3 x4 x5 = normBlk x0 x1 := by
  refine (View.read_writes_eq_canon _ _ _ (scover0_A_0 c i arg2 harg2 arg3 harg3 arg4 harg4 arg5 harg5 arg6 harg6 arg7 harg7 arg8 harg8 arg9 harg9 hc0 hc1 hc2 x0 x1 x2 x3 x4 x5)).trans ?_
  funext y
  refine View.canon_apply_of_pieces (normBlk x0 x1) _ ?_ y (scover0_A_0 c i arg2 harg2 arg3 harg3 arg4 harg4 arg5 harg5 arg6 harg6 arg7 harg7 arg8 harg8 arg9 harg9 hc0 hc1 hc2 x0 x1 x2 x3 x4 x5 y)
  intro p hp
  have key : ∀ (o : Nat) (hinb : ∀ a, (![o, 0] : Fin 2 → Nat) a + S256x2048.size a ≤ S1024x2048.size a) (i : S256x2048.Idx),
      k0_pay7 (F := Ideal) (View.readAt (Elt Ideal) arg2.view (Rect.unit (s := S1024x2048) ![o, 0] S256x2048.size hinb).toLoadRect (harg2.unread x0))
        (View.readAt (Elt Ideal) arg3.view (Rect.unit (s := S1x2048) ![0, 0] S1x2048.size inb_S1x2048_S1x2048_0_0).toLoadRect (harg3.unread x1)) i
      = normBlk x0 x1 ((Rect.unit (s := S1024x2048) ![o, 0] S256x2048.size hinb).emb i) := fun o hinb i => by
    rw [ld_whole arg3 harg3 x1]
    exact norm_piece arg2 harg2 x0 x1 o hinb i
  replace hp : p ∈ [
    (⟨Rect.unit (s := S1024x2048) ![768, 0] S256x2048.size inb_S1024x2048_S256x2048_768_0, k0_pay7 (F := Ideal)
        (View.readAt (Elt Ideal) arg2.view (Rect.unit (s := S1024x2048) ![768, 0] S256x2048.size inb_S1024x2048_S256x2048_768_0).toLoadRect (harg2.unread x0))
        (View.readAt (Elt Ideal) arg3.view (Rect.unit (s := S1x2048) ![0, 0] S1x2048.size inb_S1x2048_S1x2048_0_0).toLoadRect (harg3.unread x1))⟩ : View.Piece (Elt Ideal) S1024x2048 .bf16),
    ⟨Rect.unit (s := S1024x2048) ![512, 0] S256x2048.size inb_S1024x2048_S256x2048_512_0, k0_pay7 (F := Ideal)
        (View.readAt (Elt Ideal) arg2.view (Rect.unit (s := S1024x2048) ![512, 0] S256x2048.size inb_S1024x2048_S256x2048_512_0).toLoadRect (harg2.unread x0))
        (View.readAt (Elt Ideal) arg3.view (Rect.unit (s := S1x2048) ![0, 0] S1x2048.size inb_S1x2048_S1x2048_0_0).toLoadRect (harg3.unread x1))⟩,
    ⟨Rect.unit (s := S1024x2048) ![256, 0] S256x2048.size inb_S1024x2048_S256x2048_256_0, k0_pay7 (F := Ideal)
        (View.readAt (Elt Ideal) arg2.view (Rect.unit (s := S1024x2048) ![256, 0] S256x2048.size inb_S1024x2048_S256x2048_256_0).toLoadRect (harg2.unread x0))
        (View.readAt (Elt Ideal) arg3.view (Rect.unit (s := S1x2048) ![0, 0] S1x2048.size inb_S1x2048_S1x2048_0_0).toLoadRect (harg3.unread x1))⟩,
    ⟨Rect.unit (s := S1024x2048) ![0, 0] S256x2048.size inb_S1024x2048_S256x2048_0_0, k0_pay7 (F := Ideal)
        (View.readAt (Elt Ideal) arg2.view (Rect.unit (s := S1024x2048) ![0, 0] S256x2048.size inb_S1024x2048_S256x2048_0_0).toLoadRect (harg2.unread x0))
        (View.readAt (Elt Ideal) arg3.view (Rect.unit (s := S1x2048) ![0, 0] S1x2048.size inb_S1x2048_S1x2048_0_0).toLoadRect (harg3.unread x1))⟩] := hp
  simp only [List.mem_cons, List.not_mem_nil, or_false] at hp
  rcases hp with rfl | rfl | rfl | rfl <;> intro x
  · exact key 768 _ x
  · exact key 512 _ x
  · exact key 256 _ x
  · exact key 0 _ x

/-- At a row tile's first point the rows plus the first 512 units' part are left. -/
theorem out_A (hc0 : cond0_0 i) (hc1 : ¬cond0_1 i) (hc2 : ¬cond0_2 i) :
    out0_A_6 (F := Ideal) c i arg2 harg2 arg3 harg3 arg4 harg4 arg5 harg5 arg6 harg6 arg7 harg7 arg8 harg8 arg9 harg9 hc0 hc1 hc2 x0 x1 x2 x3 x4 x5
      = stepBlk x0 (normBlk x0 x1) x2 x3 x4 := by
  refine (View.read_writes_eq_canon _ _ _ (cover0_A_6 c i arg2 harg2 arg3 harg3 arg4 harg4 arg5 harg5 arg6 harg6 arg7 harg7 arg8 harg8 arg9 harg9 hc0 hc1 hc2 x0 x1 x2 x3 x4 x5)).trans ?_
  funext y
  refine View.canon_apply_of_pieces (stepBlk x0 (normBlk x0 x1) x2 x3 x4) _ ?_ y (cover0_A_6 c i arg2 harg2 arg3 harg3 arg4 harg4 arg5 harg5 arg6 harg6 arg7 harg7 arg8 harg8 arg9 harg9 hc0 hc1 hc2 x0 x1 x2 x3 x4 x5 y)
  intro p hp
  have key : ∀ (o : Nat) (hinb : ∀ a, (![o, 0] : Fin 2 → Nat) a + S256x2048.size a ≤ S1024x2048.size a) (i : S256x2048.Idx),
      k0_pay8 (F := Ideal) (View.readAt (Elt Ideal) arg2.view (Rect.unit (s := S1024x2048) ![o, 0] S256x2048.size hinb).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4)) i
      = stepBlk x0 (normBlk x0 x1) x2 x3 x4 ((Rect.unit (s := S1024x2048) ![o, 0] S256x2048.size hinb).emb i) := fun o hinb i => by
    rw [ld_whole arg3 harg3 x1, ld_whole arg4 harg4 x2, ld_whole arg5 harg5 x3, ld_whole arg6 harg6 x4]
    exact step_piece arg2 harg2 x0 x1 x2 x3 x4 o hinb i
  replace hp : p ∈ [
    (⟨Rect.unit (s := S1024x2048) ![768, 0] S256x2048.size inb_S1024x2048_S256x2048_768_0, k0_pay8 (F := Ideal)
        (View.readAt (Elt Ideal) arg2.view (Rect.unit (s := S1024x2048) ![768, 0] S256x2048.size inb_S1024x2048_S256x2048_768_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩ : View.Piece (Elt Ideal) S1024x2048 .f32),
    ⟨Rect.unit (s := S1024x2048) ![512, 0] S256x2048.size inb_S1024x2048_S256x2048_512_0, k0_pay8 (F := Ideal)
        (View.readAt (Elt Ideal) arg2.view (Rect.unit (s := S1024x2048) ![512, 0] S256x2048.size inb_S1024x2048_S256x2048_512_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩,
    ⟨Rect.unit (s := S1024x2048) ![256, 0] S256x2048.size inb_S1024x2048_S256x2048_256_0, k0_pay8 (F := Ideal)
        (View.readAt (Elt Ideal) arg2.view (Rect.unit (s := S1024x2048) ![256, 0] S256x2048.size inb_S1024x2048_S256x2048_256_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩,
    ⟨Rect.unit (s := S1024x2048) ![0, 0] S256x2048.size inb_S1024x2048_S256x2048_0_0, k0_pay8 (F := Ideal)
        (View.readAt (Elt Ideal) arg2.view (Rect.unit (s := S1024x2048) ![0, 0] S256x2048.size inb_S1024x2048_S256x2048_0_0).toLoadRect (harg2.unread x0))
        (View.readAt (Elt Ideal) arg3.view (Rect.unit (s := S1x2048) ![0, 0] S1x2048.size inb_S1x2048_S1x2048_0_0).toLoadRect (harg3.unread x1))
        (View.readAt (Elt Ideal) arg4.view (Rect.unit (s := S2048x512) ![0, 0] S2048x512.size inb_S2048x512_S2048x512_0_0).toLoadRect (harg4.unread x2))
        (View.readAt (Elt Ideal) arg5.view (Rect.unit (s := S2048x512) ![0, 0] S2048x512.size inb_S2048x512_S2048x512_0_0).toLoadRect (harg5.unread x3))
        (View.readAt (Elt Ideal) arg6.view (Rect.unit (s := S512x2048) ![0, 0] S512x2048.size inb_S512x2048_S512x2048_0_0).toLoadRect (harg6.unread x4))⟩] := hp
  simp only [List.mem_cons, List.not_mem_nil, or_false] at hp
  rcases hp with rfl | rfl | rfl | rfl <;> intro x
  · exact key 768 _ x
  · exact key 512 _ x
  · exact key 256 _ x
  · exact key 0 _ x

/-- At a later point the rows so far plus the point's 512 units' part are left. -/
theorem out_B (hc0 : ¬cond0_0 i) (hc1 : cond0_1 i) (hc2 : ¬cond0_2 i) (xo : Vec Ideal S1024x2048 .f32) (xs : Vec Ideal S1024x2048 .bf16) :
    out0_B_6 (F := Ideal) c i arg2 harg2 arg3 harg3 arg4 harg4 arg5 harg5 arg6 harg6 arg7 harg7 arg8 harg8 arg9 harg9 hc0 hc1 hc2 x0 x1 x2 x3 x4 x5 xo xs
      = stepBlk xo xs x2 x3 x4 := by
  refine (View.read_writes_eq_canon _ _ _ (cover0_B_6 c i arg2 harg2 arg3 harg3 arg4 harg4 arg5 harg5 arg6 harg6 arg7 harg7 arg8 harg8 arg9 harg9 hc0 hc1 hc2 x0 x1 x2 x3 x4 x5 xo xs)).trans ?_
  refine (View.canon_unit_zero (S := S1024x2048) origin2 _ _).trans ?_
  rw [pay4_eq]
  rw [ld_whole arg8 harg8 xo, ld_whole arg9 harg9 xs, ld_whole arg4 harg4 x2, ld_whole arg5 harg5 x3, ld_whole arg6 harg6 x4]

/-- At a row tile's last point the rows, now whole, are normed. -/
theorem out_C (hc0 : ¬cond0_0 i) (hc1 : cond0_1 i) (hc2 : cond0_2 i) (xo : Vec Ideal S1024x2048 .f32) (xs : Vec Ideal S1024x2048 .bf16) :
    out0_C_6 (F := Ideal) c i arg2 harg2 arg3 harg3 arg4 harg4 arg5 harg5 arg6 harg6 arg7 harg7 arg8 harg8 arg9 harg9 hc0 hc1 hc2 x0 x1 x2 x3 x4 x5 xo xs
      = normBlk (stepBlk xo xs x2 x3 x4) x5 := by
  refine (View.read_writes_eq_canon _ _ _ (cover0_C_6 c i arg2 harg2 arg3 harg3 arg4 harg4 arg5 harg5 arg6 harg6 arg7 harg7 arg8 harg8 arg9 harg9 hc0 hc1 hc2 x0 x1 x2 x3 x4 x5 xo xs)).trans ?_
  refine (View.canon_cons_unit_zero (S := S1024x2048) origin2 _ _ _).trans ?_
  rw [pay5_eq]
  unfold kernelRun0_C.sl.v9 kernelRun0_C.sl.H6_1
  rw [View.readCov_unit_zero (S := S1024x2048) _ origin2, pay4_eq]
  rw [ld_whole arg8 harg8 xo, ld_whole arg9 harg9 xs, ld_whole arg4 harg4 x2, ld_whole arg5 harg5 x3, ld_whole arg6 harg6 x4, ld_whole arg7 harg7 x5]

end
end Cert.Ffn2

end
-- ==== Proof.Ffn2Value.lean ====
/-
  The second feed-forward call's result in terms of its arguments: each row plus half the gated linear unit of the
  normed row, normed.
-/
module

public import proofs.«01_k».proof.Proof.Ffn2Run

@[expose] public section

set_option maxRecDepth 16384

noncomputable section

open scoped BigOperators

namespace Cert.Ffn2

open Cert.Ffn2Ideal Cert.Ffn2Ideal.Gen Cert.Ffn2Ideal.Value Cert.Rows Idealize.ShloMosaic Idealize.ShloMosaic.ValueIdx Idealize.ShloMosaic.TcCoe

theorem idx_in : ∀ t : Fin grid0.N,
    win0_0.index t = ![t.val / 11, 0] ∧ win0_1.index t = ![0, 0] ∧ win0_2.index t = ![0, t.val % 11]
      ∧ win0_3.index t = ![0, t.val % 11] ∧ win0_4.index t = ![t.val % 11, 0] ∧ win0_5.index t = ![0, 0] := by
  decide +kernel

variable (m : (ℓ : Loc nD τ sig) → Buf (Elt Ideal) ℓ) (c : Dev nD)

abbrev argX : S32768x2048.Idx → EReal := m ((c.tc : Thread nD τ).loc main_arg0)
abbrev argG : S2048.Idx → EReal := m ((c.tc : Thread nD τ).loc main_arg1)
abbrev argWg : S2048x5632.Idx → EReal := m ((c.tc : Thread nD τ).loc main_arg2)
abbrev argWu : S2048x5632.Idx → EReal := m ((c.tc : Thread nD τ).loc main_arg3)
abbrev argWd : S5632x2048.Idx → EReal := m ((c.tc : Thread nD τ).loc main_arg4)
abbrev argF : S2048.Idx → EReal := m ((c.tc : Thread nD τ).loc main_arg5)

/-! ## What the call is given -/

set_option maxHeartbeats 4000000 in
theorem V_v0 : (V m c main_v0 : S1x2048.Idx → EReal) = shapeCast S1x2048 (argG m c) shapeCasts_S2048_S1x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v1 : (V m c main_v1 : S2048x5632.Idx → EReal) = argWg m c := by
  simp only [V, hostOps0, StableHlo.TRef.binary, StableHlo.TRef.unary, StableHlo.TRef.toBuf, StableHlo.TRef.ofBuf, cast_eq]
  after_results_simp <;> rfl

set_option maxHeartbeats 4000000 in
theorem V_v2 : (V m c main_v2 : S2048x5632.Idx → EReal) = argWu m c := by
  simp only [V, hostOps0, StableHlo.TRef.binary, StableHlo.TRef.unary, StableHlo.TRef.toBuf, StableHlo.TRef.ofBuf, cast_eq]
  after_results_simp <;> rfl

set_option maxHeartbeats 4000000 in
theorem V_v5 : (V m c main_v5 : S5632x2048.Idx → EReal) = fun i => Ideal.ofBits .f32 0x3F000000#32 * argWd m c i := by
  simp only [V, hostOps0, StableHlo.TRef.binary, StableHlo.TRef.unary, StableHlo.TRef.toBuf, StableHlo.TRef.ofBuf, cast_eq]
  after_results_simp <;> rfl

set_option maxHeartbeats 4000000 in
theorem V_v6 : (V m c main_v6 : S1x2048.Idx → EReal) = shapeCast S1x2048 (argF m c) shapeCasts_S2048_S1x2048 := by
  simp only [V, hostOps0, StableHlo.reshape, StableHlo.TRef.binary, StableHlo.TRef.unary, StableHlo.TRef.toBuf, StableHlo.TRef.ofBuf, cast_eq]
  after_results_simp <;> rfl

/-! ## The blocks of a point -/

/-- Row `r` of the row tile of point `t`. -/
def rowOf (t : Fin cfg0.N) (r : Fin 1024) : Fin 32768 :=
  ⟨1024 * (t.val / 11) + r.val, by have := lt_of_lt_of_eq t.isLt N_0; omega⟩

/-- Unit `k` of the column tile of point `t`. -/
def unitOf (t : Fin cfg0.N) (k : Fin 512) : Fin 5632 := ⟨512 * (t.val % 11) + k.val, by omega⟩

theorem blk_x (t : Fin cfg0.N) (r : Fin 1024) (k : Fin 2048) :
    (iblk m c 0 t : S1024x2048.Idx → EReal) (ix2 r k) = argX m c (ix2 (rowOf t r) k) := by
  show V m c main_arg0 (((cfg0.win 0).blk t).view.emb (ix2 r k)) = _
  rw [V_main_arg0]
  refine congrArg (argX m c) (eq_ix2 _ |>.trans ?_)
  have e0 : ((((cfg0.win 0).blk t).view.emb (ix2 r k)) 0).val = win0_0.index t 0 * 1024 + 1 * r.val := rfl
  have e1 : ((((cfg0.win 0).blk t).view.emb (ix2 r k)) 1).val = win0_0.index t 1 * 2048 + 1 * k.val := rfl
  rw [(idx_in t).1] at e0 e1
  refine congrArg₂ ix2 (Fin.ext ?_) (Fin.ext ?_)
  · exact e0.trans (by show t.val / 11 * 1024 + 1 * r.val = 1024 * (t.val / 11) + r.val; omega)
  · exact e1.trans (by show 0 * 2048 + 1 * k.val = k.val; omega)

theorem blk_g (t : Fin cfg0.N) (k : Fin 2048) :
    (iblk m c 1 t : S1x2048.Idx → EReal) (ix2 (0 : Fin 1) k) = argG m c (ix1 k) := by
  show (V m c main_v0 : S1x2048.Idx → EReal) (((cfg0.win 1).blk t).view.emb (ix2 (0 : Fin 1) k)) = _
  have e0 : ((((cfg0.win 1).blk t).view.emb (ix2 (0 : Fin 1) k)) 0).val = win0_1.index t 0 * 1 + 1 * 0 := rfl
  have e1 : ((((cfg0.win 1).blk t).view.emb (ix2 (0 : Fin 1) k)) 1).val = win0_1.index t 1 * 2048 + 1 * k.val := rfl
  rw [(idx_in t).2.1] at e0 e1
  have e : ((cfg0.win 1).blk t).view.emb (ix2 (0 : Fin 1) k) = (ix2 (0 : Fin 1) k : S1x2048.Idx) :=
    (eq_ix2 _).trans (congrArg₂ ix2 (Fin.ext (e0.trans (by show 0 * 1 + 1 * 0 = 0; omega)))
      (Fin.ext (e1.trans (by show 0 * 2048 + 1 * k.val = k.val; omega))))
  rw [e, V_v0]
  refine (shapeCast_addUnit_apply ![2048] (argG m c) _ (ix2 (0 : Fin 1) k)).trans (congrArg (argG m c) ?_)
  funext a
  match a with
  | ⟨0, _⟩ => rfl

theorem blk_f (t : Fin cfg0.N) (k : Fin 2048) :
    (iblk m c 5 t : S1x2048.Idx → EReal) (ix2 (0 : Fin 1) k) = argF m c (ix1 k) := by
  show (V m c main_v6 : S1x2048.Idx → EReal) (((cfg0.win 5).blk t).view.emb (ix2 (0 : Fin 1) k)) = _
  have e0 : ((((cfg0.win 5).blk t).view.emb (ix2 (0 : Fin 1) k)) 0).val = win0_5.index t 0 * 1 + 1 * 0 := rfl
  have e1 : ((((cfg0.win 5).blk t).view.emb (ix2 (0 : Fin 1) k)) 1).val = win0_5.index t 1 * 2048 + 1 * k.val := rfl
  rw [(idx_in t).2.2.2.2.2] at e0 e1
  have e : ((cfg0.win 5).blk t).view.emb (ix2 (0 : Fin 1) k) = (ix2 (0 : Fin 1) k : S1x2048.Idx) :=
    (eq_ix2 _).trans (congrArg₂ ix2 (Fin.ext (e0.trans (by show 0 * 1 + 1 * 0 = 0; omega)))
      (Fin.ext (e1.trans (by show 0 * 2048 + 1 * k.val = k.val; omega))))
  rw [e, V_v6]
  refine (shapeCast_addUnit_apply ![2048] (argF m c) _ (ix2 (0 : Fin 1) k)).trans (congrArg (argF m c) ?_)
  funext a
  match a with
  | ⟨0, _⟩ => rfl

theorem blk_wg (t : Fin cfg0.N) (j : Fin 2048) (k : Fin 512) :
    (iblk m c 2 t : S2048x512.Idx → EReal) (ix2 j k) = argWg m c (ix2 j (unitOf t k)) := by
  show (V m c main_v1 : S2048x5632.Idx → EReal) (((cfg0.win 2).blk t).view.emb (ix2 j k)) = _
  rw [V_v1]
  refine congrArg (argWg m c) (eq_ix2 _ |>.trans ?_)
  have e0 : ((((cfg0.win 2).blk t).view.emb (ix2 j k)) 0).val = win0_2.index t 0 * 2048 + 1 * j.val := rfl
  have e1 : ((((cfg0.win 2).blk t).view.emb (ix2 j k)) 1).val = win0_2.index t 1 * 512 + 1 * k.val := rfl
  rw [(idx_in t).2.2.1] at e0 e1
  refine congrArg₂ ix2 (Fin.ext ?_) (Fin.ext ?_)
  · exact e0.trans (by show 0 * 2048 + 1 * j.val = j.val; omega)
  · exact e1.trans (by show t.val % 11 * 512 + 1 * k.val = 512 * (t.val % 11) + k.val; omega)

theorem blk_wu (t : Fin cfg0.N) (j : Fin 2048) (k : Fin 512) :
    (iblk m c 3 t : S2048x512.Idx → EReal) (ix2 j k) = argWu m c (ix2 j (unitOf t k)) := by
  show (V m c main_v2 : S2048x5632.Idx → EReal) (((cfg0.win 3).blk t).view.emb (ix2 j k)) = _
  rw [V_v2]
  refine congrArg (argWu m c) (eq_ix2 _ |>.trans ?_)
  have e0 : ((((cfg0.win 3).blk t).view.emb (ix2 j k)) 0).val = win0_3.index t 0 * 2048 + 1 * j.val := rfl
  have e1 : ((((cfg0.win 3).blk t).view.emb (ix2 j k)) 1).val = win0_3.index t 1 * 512 + 1 * k.val := rfl
  rw [(idx_in t).2.2.2.1] at e0 e1
  refine congrArg₂ ix2 (Fin.ext ?_) (Fin.ext ?_)
  · exact e0.trans (by show 0 * 2048 + 1 * j.val = j.val; omega)
  · exact e1.trans (by show t.val % 11 * 512 + 1 * k.val = 512 * (t.val % 11) + k.val; omega)

theorem blk_wd (t : Fin cfg0.N) (k : Fin 512) (j : Fin 2048) :
    (iblk m c 4 t : S512x2048.Idx → EReal) (ix2 k j) = Ideal.ofBits .f32 0x3F000000#32 * argWd m c (ix2 (unitOf t k) j) := by
  show (V m c main_v5 : S5632x2048.Idx → EReal) (((cfg0.win 4).blk t).view.emb (ix2 k j)) = _
  rw [V_v5]
  refine congrArg (fun i => Ideal.ofBits .f32 0x3F000000#32 * argWd m c i) (eq_ix2 _ |>.trans ?_)
  have e0 : ((((cfg0.win 4).blk t).view.emb (ix2 k j)) 0).val = win0_4.index t 0 * 512 + 1 * k.val := rfl
  have e1 : ((((cfg0.win 4).blk t).view.emb (ix2 k j)) 1).val = win0_4.index t 1 * 2048 + 1 * j.val := rfl
  rw [(idx_in t).2.2.2.2.1] at e0 e1
  refine congrArg₂ ix2 (Fin.ext ?_) (Fin.ext ?_)
  · exact e0.trans (by show t.val % 11 * 512 + 1 * k.val = 512 * (t.val % 11) + k.val; omega)
  · exact e1.trans (by show 0 * 2048 + 1 * j.val = j.val; omega)

theorem norm_blk (t : Fin cfg0.N) (r : Fin 1024) (j : Fin 2048) :
    normBlk (iblk m c 0 t : S1024x2048.Idx → EReal) (iblk m c 1 t : S1x2048.Idx → EReal) (ix2 r j)
      = normed (argX m c) (argG m c) (rowOf t r) j :=
  congrArg₂ (fun u v => rms 0x45000000#32 u v j) (funext fun k => blk_x m c t r k) (funext fun k => blk_g m c t k)

/-! ## Point by point -/

/-- What point `t` of a row tile leaves: the stream of the tile's rows so far, and the normed rows. -/
def Left (t : Fin cfg0.N) (p : (S1024x2048.Idx → EReal) × (S1024x2048.Idx → EReal)) : Prop :=
  (∀ r j, p.1 (ix2 r j) = stream (argX m c) (argG m c) (argWg m c) (argWu m c) (argWd m c) (rowOf t r) j (512 * (t.val % 11 + 1)))
    ∧ ∀ r j, p.2 (ix2 r j) = normed (argX m c) (argG m c) (rowOf t r) j

theorem step_at (t : Fin cfg0.N) (acc xn : S1024x2048.Idx → EReal)
    (ha : ∀ r j, acc (ix2 r j) = stream (argX m c) (argG m c) (argWg m c) (argWu m c) (argWd m c) (rowOf t r) j (512 * (t.val % 11)))
    (hn : ∀ r j, xn (ix2 r j) = normed (argX m c) (argG m c) (rowOf t r) j) (r : Fin 1024) (j : Fin 2048) :
    stepBlk acc xn (iblk m c 2 t : S2048x512.Idx → EReal) (iblk m c 3 t : S2048x512.Idx → EReal) (iblk m c 4 t : S512x2048.Idx → EReal) (ix2 r j)
      = stream (argX m c) (argG m c) (argWg m c) (argWu m c) (argWd m c) (rowOf t r) j (512 * (t.val % 11 + 1)) :=
  step_stream (argX m c) (argG m c) (argWg m c) (argWu m c) (argWd m c) acc xn _ _ _ (rowOf t r) r j (t.val % 11)
    (Nat.mod_lt _ (by decide)) (ha r j) (hn r) (fun i k => blk_wg m c t i k) (fun i k => blk_wu m c t i k) (fun k => blk_wd m c t k j)

theorem left_first (t : Fin cfg0.N) (h0 : t.val % 11 = 0) : Left m c t (outsAt0 m c t.val t.isLt) := by
  rw [outsAt0_A m c t h0 (by omega) (by omega), out_A, sout_A]
  refine ⟨step_at m c t _ _ (fun r j => ?_) (norm_blk m c t), norm_blk m c t⟩
  rw [h0]
  exact (blk_x m c t r j).trans (stream_zero _ _ _ _ _ _ _).symm

theorem left_later (t : Fin cfg0.N) (h0 : ¬ t.val % 11 = 0) (h2 : ¬ t.val % 11 = 10) (u : Fin cfg0.N) (hu : u.val = t.val - 1)
    (ih : Left m c u (outsAt0 m c (t.val - 1) (Nat.lt_of_le_of_lt (Nat.sub_le _ _) t.isLt))) : Left m c t (outsAt0 m c t.val t.isLt) := by
  have hr : ∀ r, rowOf u r = rowOf t r := fun r => Fin.ext (by
    show 1024 * (u.val / 11) + r.val = 1024 * (t.val / 11) + r.val
    omega)
  have hc : u.val % 11 + 1 = t.val % 11 := by omega
  unfold Left at ih
  simp only [hr, hc] at ih
  rw [outsAt0_B m c t h0 (by omega) h2, out_B]
  exact ⟨step_at m c t _ _ ih.1 ih.2, ih.2⟩

theorem left_eq (n : ℕ) (hn : n < cfg0.N) (h2 : ¬ n % 11 = 10) : Left m c ⟨n, hn⟩ (outsAt0 m c n hn) := by
  induction n with
  | zero => exact left_first m c ⟨0, hn⟩ (Nat.zero_mod _)
  | succ n ih =>
    by_cases h0 : (n + 1) % 11 = 0
    · exact left_first m c ⟨n + 1, hn⟩ h0
    · exact left_later m c ⟨n + 1, hn⟩ h0 h2 ⟨n, Nat.lt_of_succ_lt hn⟩ rfl (ih (Nat.lt_of_succ_lt hn) (by omega))

/-- The stream after the call, before its norm. -/
def after (R : Fin 32768) (j : Fin 2048) : EReal :=
  argX m c (ix2 R j) + Ideal.ofBits .f32 0x3F000000#32
    * ∑ k, unit (argX m c) (argG m c) (argWg m c) (argWu m c) R k * argWd m c (ix2 k j)

/-- What a row tile's last point leaves: the rows, whole, normed. -/
theorem last_eq (t : Fin cfg0.N) (h2 : t.val % 11 = 10) (r : Fin 1024) (j : Fin 2048) :
    (outsAt0 m c t.val t.isLt).1 (ix2 r j)
      = rms 0x45000000#32 (after m c (rowOf t r)) (fun k => argF m c (ix1 k)) j := by
  have hl : t.val - 1 < cfg0.N := Nat.lt_of_le_of_lt (Nat.sub_le _ _) t.isLt
  have ih := left_eq m c (t.val - 1) hl (by omega)
  have hr : ∀ r, rowOf ⟨t.val - 1, hl⟩ r = rowOf t r := fun r => Fin.ext (by
    show 1024 * ((t.val - 1) / 11) + r.val = 1024 * (t.val / 11) + r.val
    omega)
  have hc : (⟨t.val - 1, hl⟩ : Fin cfg0.N).val % 11 + 1 = t.val % 11 := by show (t.val - 1) % 11 + 1 = _; omega
  unfold Left at ih
  simp only [hr, hc] at ih
  rw [outsAt0_C m c t (by omega) (by omega) h2, out_C]
  have hs := step_at m c t _ _ ih.1 ih.2
  have hm : 512 * (t.val % 11 + 1) = 5632 := by omega
  rw [hm] at hs
  show normBlk (stepBlk (outsAt0 m c (t.val - 1) hl).1 (outsAt0 m c (t.val - 1) hl).2 (iblk m c 2 t) (iblk m c 3 t) (iblk m c 4 t) : S1024x2048.Idx → EReal)
    (iblk m c 5 t : S1x2048.Idx → EReal) (ix2 r j) = _
  unfold normBlk
  refine congrArg₂ (fun u v => rms 0x45000000#32 u v j) (funext fun k => ?_) (funext fun k => blk_f m c t k)
  exact (hs r k).trans (stream_all _ _ _ _ _ _ _)

/-- The call's result: each row plus half the gated linear unit of the normed row, normed. -/
theorem result_eq (R : Fin 32768) (j : Fin 2048) :
    (G6 m c : S32768x2048.Idx → EReal) (ix2 R j) = rms 0x45000000#32 (after m c R) (fun k => argF m c (ix1 k)) j := by
  have hp : pt6Of (ix2 R j : S32768x2048.Idx) = 11 * (R.val / 1024) + 10 := by
    show 11 * (1 * (R.val / 1024 - 0) + 1 * (j.val / 2048 - 0)) + 10 = _
    omega
  have hlt : pt6Of (ix2 R j : S32768x2048.Idx) < cfg0.N := by
    rw [hp]; exact lt_of_lt_of_eq (by omega) N_0.symm
  have hl : loc6Of (ix2 R j : S32768x2048.Idx) = ix2 ⟨R.val % 1024, Nat.mod_lt _ (by decide)⟩ j := by
    refine (eq_ix2 _).trans (congrArg₂ ix2 (Fin.ext ?_) (Fin.ext ?_))
    · rfl
    · show j.val % 2048 = j.val
      omega
  unfold G6
  rw [dif_pos hlt, ← outsAt0_sweep m c _ hlt, hl]
  have ho : ∀ n (hn : n < cfg0.N), n = 11 * (R.val / 1024) + 10 →
      (outsAt0 m c n hn).1 (ix2 ⟨R.val % 1024, Nat.mod_lt _ (by decide)⟩ j)
        = rms 0x45000000#32 (after m c R) (fun k => argF m c (ix1 k)) j := by
    intro n hn en
    refine (last_eq m c ⟨n, hn⟩ (by show n % 11 = 10; omega) _ j).trans ?_
    have hr : rowOf ⟨n, hn⟩ ⟨R.val % 1024, Nat.mod_lt _ (by decide)⟩ = R := Fin.ext (by
      show 1024 * (n / 11) + R.val % 1024 = R.val
      omega)
    rw [hr]
  exact ho _ _ hp

end Cert.Ffn2

end
-- ==== Proof.Ffn2Ref.lean ====
/-
  The reference of the second feed-forward call, read at an index, and that the call's result is the reference's.
-/
module

public import proofs.«01_k».proof.Proof.Ffn2Value
public import proofs.«01_k».proof.Proof.Gen.Ffn2RefIdeal.Read
public import Idealize.ShloMosaic.Lib.IdealHost

@[expose] public section

set_option maxRecDepth 16384

noncomputable section

open scoped BigOperators

namespace Cert.Ffn2

open Cert.Ffn2RefIdeal Cert.Ffn2RefIdeal.Read Cert.Rows Idealize.ShloMosaic Idealize.ShloMosaic.ValueIdx

variable (x0 : (⟨S32768x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

theorem ref_norm (R : Fin 32768) (j : Fin 2048) : val_main_v12 (F := Ideal) x0 x1 (ix2 R j) = normed x0 x1 R j := by
  rw [val_main_v12_apply, val_main_v9_apply, val_main_v8_apply, show idx_main_v8 (ix2 R j) = ix2 R (0 : Fin 1) from eq_ix2 _,
    val_main_v7_apply, val_main_v6_apply, val_main_v4_apply, val_main_v2_apply,
    show idx_main_v2 (ix2 R (0 : Fin 1)) = ix1 R from eq_ix1 _, val_main_v1_apply, val_main_v3_apply, val_main_v5_apply,
    val_main_v11_apply, show idx_main_v11 (ix2 R j) = ix2 (0 : Fin 1) j from eq_ix2 _, val_main_v10_apply,
    show idx_main_v10 (ix2 (0 : Fin 1) j) = ix1 j from eq_ix1 _]
  have e : ∀ k : Fin 2048, val_main_v0 (F := Ideal) x0 (idx_main_v1 (ix1 R) k) = x0 (ix2 R k) * x0 (ix2 R k) := fun k => by
    rw [show idx_main_v1 (ix1 R) k = ix2 R k from eq_ix2 _, val_main_v0_apply]
    rfl
  simp only [e]
  rw [show (val_main_cst (F := Ideal)) (Shape.Idx.first Gen.h_S_) = 0 from Ideal.ofBits_zero_f32, zero_add]
  rfl

theorem ref_gate (R : Fin 32768) (k : Fin 5632) :
    val_main_v13 (F := Ideal) x0 x1 x2 (ix2 R k) = ∑ j, normed x0 x1 R j * x2 (ix2 j k) := by
  rw [val_main_v13_apply]
  refine Finset.sum_congr rfl fun j _ => ?_
  rw [show lidx_main_v13 (ix2 R k) j = ix2 R j from eq_ix2 _, show ridx_main_v13 (ix2 R k) j = ix2 j k from eq_ix2 _, ref_norm]

theorem ref_up (R : Fin 32768) (k : Fin 5632) :
    val_main_v15 (F := Ideal) x0 x1 x3 (ix2 R k) = ∑ j, normed x0 x1 R j * x3 (ix2 j k) := by
  rw [val_main_v15_apply]
  refine Finset.sum_congr rfl fun j _ => ?_
  rw [show lidx_main_v15 (ix2 R k) j = ix2 R j from eq_ix2 _, show ridx_main_v15 (ix2 R k) j = ix2 j k from eq_ix2 _, ref_norm]

theorem ref_unit (R : Fin 32768) (k : Fin 5632) :
    val_main_v16 (F := Ideal) x0 x1 x2 x3 (ix2 R k) = unit x0 x1 x2 x3 R k := by
  rw [val_main_v16_apply, val_main_v14_apply, val_main_call0_v5_apply, val_main_call0_v4_apply, val_main_call0_v3_apply,
    val_main_call0_v2_apply, val_main_call0_v1_apply, val_main_call0_v0_apply, val_main_call0_cst_apply, val_main_call0_cst_0_apply,
    show FloatOps.ofBits (F := Ideal) .f32 0x3F800000#32 = (1 : EReal) from Ideal.ofBits_one_f32, ref_gate, ref_up]
  rfl

theorem ref_stream (R : Fin 32768) (j : Fin 2048) :
    val_main_v20 (F := Ideal) x0 x1 x2 x3 x4 (ix2 R j)
      = x0 (ix2 R j) + Ideal.ofBits .f32 0x3F000000#32 * ∑ k, unit x0 x1 x2 x3 R k * x4 (ix2 k j) := by
  rw [val_main_v20_apply, val_main_v19_apply, val_main_v18_apply, val_main_v17_apply]
  refine congrArg (fun z : EReal => x0 (ix2 R j) + Ideal.ofBits .f32 0x3F000000#32 * z) (Finset.sum_congr rfl fun k _ => ?_)
  rw [show lidx_main_v17 (ix2 R j) k = ix2 R k from eq_ix2 _, show ridx_main_v17 (ix2 R j) k = ix2 k j from eq_ix2 _, ref_unit]

theorem ref_last (x5 : (⟨S2048, .f32⟩ : BufTy).Contents (Elt Ideal)) (R : Fin 32768) (j : Fin 2048) :
    val_main_v33 (F := Ideal) x0 x1 x2 x3 x4 x5 (ix2 R j)
      = rms 0x45000000#32 (fun j : Fin 2048 => val_main_v20 (F := Ideal) x0 x1 x2 x3 x4 (ix2 R j)) (fun k => x5 (ix1 k)) j := by
  rw [val_main_v33_apply, val_main_v30_apply, val_main_v29_apply, show idx_main_v29 (ix2 R j) = ix2 R (0 : Fin 1) from eq_ix2 _,
    val_main_v28_apply, val_main_v27_apply, val_main_v25_apply, val_main_v23_apply,
    show idx_main_v23 (ix2 R (0 : Fin 1)) = ix1 R from eq_ix1 _, val_main_v22_apply, val_main_v24_apply, val_main_v26_apply,
    val_main_v32_apply, show idx_main_v32 (ix2 R j) = ix2 (0 : Fin 1) j from eq_ix2 _, val_main_v31_apply,
    show idx_main_v31 (ix2 (0 : Fin 1) j) = ix1 j from eq_ix1 _]
  have e : ∀ k : Fin 2048, val_main_v21 (F := Ideal) x0 x1 x2 x3 x4 (idx_main_v22 (ix1 R) k)
      = val_main_v20 (F := Ideal) x0 x1 x2 x3 x4 (ix2 R k) * val_main_v20 (F := Ideal) x0 x1 x2 x3 x4 (ix2 R k) := fun k => by
    rw [show idx_main_v22 (ix1 R) k = ix2 R k from eq_ix2 _, val_main_v21_apply]
    rfl
  simp only [e]
  rw [show (val_main_cst_3 (F := Ideal)) (Shape.Idx.first Gen.h_S_) = 0 from Ideal.ofBits_zero_f32, zero_add]
  rfl

/-- The call's result is the reference's. -/
theorem value_eq (m : (ℓ : Loc nD τ Cert.Ffn2Ideal.sig) → Buf (Elt Ideal) ℓ) (c : Dev nD) :
    (Cert.Ffn2Ideal.Value.G6 m c : S32768x2048.Idx → EReal)
      = val_main_v33 (F := Ideal) (argX m c) (argG m c) (argWg m c) (argWu m c) (argWd m c) (argF m c) := by
  funext y
  obtain ⟨R, j, rfl⟩ : ∃ (R : Fin 32768) (j : Fin 2048), y = ix2 R j := ⟨y 0, y 1, eq_ix2 y⟩
  rw [ref_last]
  refine (result_eq m c R j).trans (congrArg (fun u => rms 0x45000000#32 u (fun k => argF m c (ix1 k)) j) (funext fun k => ?_))
  exact (ref_stream _ _ _ _ _ R k).symm

end Cert.Ffn2

end
-- ==== Proof.Heads.lean ====
/-
  Rows of heads: each group of 128 columns over its own root mean square (`headRms`), what a kernel's vector operations
  make of one group (`head_apply`), and an array of sequences laid out as rows (`flat_apply`).
-/
module

public import proofs.«01_k».proof.Proof.FfnBlock

@[expose] public section

set_option maxRecDepth 16384

noncomputable section

open scoped BigOperators

namespace Cert.Rows

open Idealize.ShloMosaic Idealize.ShloMosaic.ValueIdx Idealize.ShloMosaic.TcCoe

/-- Column `k` of the head that column `c` lies in. -/
def inHead {w : Nat} (hw : 128 ∣ w) (c : Fin w) (k : Fin 128) : Fin w :=
  ⟨128 * (c.val / 128) + k.val, by obtain ⟨h, rfl⟩ := hw; have := c.isLt; have := k.isLt; omega⟩

/-- A row whose heads of 128 columns are each divided by their root mean square and multiplied by the gain. -/
def headRms {w : Nat} (hw : 128 ∣ w) (u : Fin w → EReal) (g : Fin 128 → EReal) (c : Fin w) : EReal :=
  rms 0x43000000#32 (fun k => u (inHead hw c k)) g ⟨c.val % 128, Nat.mod_lt _ (by decide)⟩

/-- A slice of a block's columns. -/
theorem slice_apply {α : Type} {n w p : Nat} (o : Nat) (x : (⟨2, ![n, w]⟩ : Shape).Idx → α)
    (hs : (⟨2, ![n, w]⟩ : Shape).Slices ![0, o] ⟨2, ![n, p]⟩) (r : Fin n) (k : Fin p) (h : o + k.val < w) :
    extractStridedSlice ⟨2, ![n, p]⟩ ![0, o] x hs (ix2 r k) = x (ix2 r ⟨o + k.val, h⟩) := by
  refine congrArg x (funext fun a => Fin.ext ?_)
  match a with
  | ⟨0, _⟩ => exact Nat.zero_add r.val
  | ⟨1, _⟩ => rfl

/-- The norm of one head of a block's rows is that head of the rows with normed heads. -/
theorem head_apply {n w : Nat} (hw : 128 ∣ w) (hn : n ≠ 1) (i : Nat) (u : FVec Ideal ⟨2, ![n, w]⟩ .f32)
    (x : FVec Ideal ⟨2, ![n, 128]⟩ .f32) (g : FVec Ideal ⟨2, ![1, 128]⟩ .f32) (hi : 128 * i + 128 ≤ w)
    (hx : ∀ (r : Fin n) (k : Fin 128), x (ix2 r k) = u (ix2 r ⟨128 * i + k.val, by omega⟩))
    (hr : (⟨2, ![n, 128]⟩ : Shape).Reduces [1] ⟨1, ![n]⟩)
    (hsc : (⟨1, ![n]⟩ : Shape).ShapeCasts ⟨2, ![n, 1]⟩) (hb : (⟨2, ![n, 1]⟩ : Shape).Broadcasts ⟨2, ![n, 128]⟩)
    (hb' : (⟨2, ![1, 128]⟩ : Shape).Broadcasts ⟨2, ![n, 128]⟩) (h₁ h₂) (r : Fin n) (c : Fin 128) :
    mulf (mulf x (broadcastTo ⟨2, ![n, 128]⟩ (rsqrt (addf (divf
        (shapeCast ⟨2, ![n, 1]⟩ (multiReduction (F := Ideal) FKind.add [1] ⟨1, ![n]⟩ (mulf x x) 0x00000000#32 hr h₁ h₂) hsc)
        (broadcast ⟨2, ![n, 1]⟩ (Scalar.ofBits (F := Ideal) .f32 0x43000000#32)))
        (broadcast ⟨2, ![n, 1]⟩ (Scalar.ofBits (F := Ideal) .f32 0x358637BD#32)))) hb))
      (broadcastTo ⟨2, ![n, 128]⟩ g hb') (ix2 r c)
      = headRms hw (fun k => u (ix2 r k)) (fun k => g (ix2 (0 : Fin 1) k)) ⟨128 * i + c.val, by omega⟩ := by
  rw [norm_apply hn (by decide)]
  unfold headRms
  have hc : (⟨(128 * i + c.val) % 128, Nat.mod_lt _ (by decide)⟩ : Fin 128) = c := Fin.ext (by show (128 * i + c.val) % 128 = c.val; omega)
  rw [hc]
  refine congrArg (fun f => rms 0x43000000#32 f (fun k => g (ix2 (0 : Fin 1) k)) c) (funext fun k => (hx r k).trans ?_)
  refine congrArg (fun j => u (ix2 r j)) (Fin.ext ?_)
  show 128 * i + k.val = 128 * ((128 * i + c.val) / 128) + k.val
  omega

/-- Sequences laid out as rows. -/
theorem flat_apply {α : Type} {a b d n : Nat} (x : (⟨3, ![a, b, d]⟩ : Shape).Idx → α)
    (hs : (⟨3, ![a, b, d]⟩ : Shape).ShapeCasts ⟨2, ![n, d]⟩) (R : Fin n) (k : Fin d) (p : Fin a) (q : Fin b)
    (h : R.val = p.val * b + q.val) : shapeCast ⟨2, ![n, d]⟩ x hs (ix2 R k) = x (ix3 p q k) := by
  refine shapeCast_apply _ hs _ (ix3 p q k) ?_
  rw [Shape.rowMajor_val_two, Shape.rowMajor_val_three]
  show (p.val * b + q.val) * d + k.val = R.val * d + k.val
  rw [h]

/-- The place in a block of an index of its columns `o` and on. -/
theorem emb_cols {a b n : Nat} (o : Nat) (inb) (r : Fin a) (k : Fin n) (h : o + k.val < b) :
    (Rect.unit (s := ⟨2, ![a, b]⟩) ![0, o] (⟨2, ![a, n]⟩ : Shape).size inb).emb (ix2 r k) = ix2 r ⟨o + k.val, h⟩ := by
  funext d
  apply Fin.ext
  match d with
  | ⟨0, _⟩ => show 0 + 1 * r.val = r.val; omega
  | ⟨1, _⟩ => show o + 1 * k.val = o + k.val; omega

end Cert.Rows

end
-- ==== Proof.MemkvValue.lean ====
/-
  The results of the call that makes the memory's keys and values, in terms of its arguments.
-/
module

public import proofs.«01_k».proof.Proof.Heads
public import proofs.«01_k».proof.Proof.Gen.MemkvIdeal.Value

@[expose] public section

set_option maxRecDepth 16384

noncomputable section

open scoped BigOperators

namespace Cert.Memkv

open Cert.MemkvIdeal Cert.MemkvIdeal.Gen Cert.MemkvIdeal.Value Cert.Rows Idealize.ShloMosaic Idealize.ShloMosaic.ValueIdx Idealize.ShloMosaic.TcCoe

/-! ## One block -/

/-- The normed rows of a block times a matrix. -/
def projBlk (x : S512x2048.Idx → EReal) (g : S1x2048.Idx → EReal) (w : S2048x512.Idx → EReal) (r : Fin 512) (c : Fin 512) : EReal :=
  ∑ j : Fin 2048, normBlk x g (ix2 r j) * w (ix2 j c)

theorem pay2_apply (x : Vec Ideal S512x2048 .f32) (g : Vec Ideal S1x2048 .f32) (r : Fin 512) (c : Fin 2048) :
    k0_pay2 (F := Ideal) x g (ix2 r c) = normBlk x g (ix2 r c) := by
  unfold k0_pay2
  rw [shapeCast_self, shapeCast_self]
  exact norm_apply (by decide) (by decide) _ x g _ _ _ _ _ _ r c

theorem pay3_apply (x : Vec Ideal S512x2048 .f32) (g : Vec Ideal S1x2048 .f32) (w : Vec Ideal S2048x512 .bf16) (r : Fin 512) (c : Fin 512) :
    k0_pay3 (F := Ideal) x g w (ix2 r c) = projBlk x g w r c := by
  unfold k0_pay3
  rw [shapeCast_self]
  refine (Dots.matmul_nn (φ₁ := .bf16) (φ₂ := .bf16) _ rfl rfl rfl rfl rfl rfl none (k0_pay2 (F := Ideal) x g) w r c).trans ?_
  unfold projBlk
  simp only [pay2_apply]

/-- What the call keeps of a block's keys: the projected rows with their heads normed. -/
def keyBlk (x : S512x2048.Idx → EReal) (g : S1x2048.Idx → EReal) (w : S2048x512.Idx → EReal) (kg : S1x128.Idx → EReal)
    (y : S512x512.Idx) : EReal :=
  headRms (by decide : 128 ∣ 512) (projBlk x g w (y 0)) (fun k => kg (ix2 (0 : Fin 1) k)) (y 1)

section
variable (x : Vec Ideal S512x2048 .f32) (g : Vec Ideal S1x2048 .f32) (w : Vec Ideal S2048x512 .bf16) (kg : Vec Ideal S1x128 .f32)

theorem head_eq (i : Nat) (hi : 128 * i + 128 ≤ 512) (v : FVec Ideal S512x128 .f32)
    (hv : ∀ (r : Fin 512) (k : Fin 128), v (ix2 r k) = k0_pay3 (F := Ideal) x g w (ix2 r ⟨128 * i + k.val, by omega⟩)) (r : Fin 512) (c : Fin 128) :
    mulf (mulf v (broadcastTo S512x128 (rsqrt (addf (divf
        (shapeCast S512x1 (multiReduction (F := Ideal) FKind.add [1] S512 (mulf v v) 0x00000000#32 reduces_S512x128_S512 (.inl rfl) rfl) shapeCasts_S512_S512x1)
        (broadcast S512x1 (Scalar.ofBits (F := Ideal) .f32 0x43000000#32)))
        (broadcast S512x1 (Scalar.ofBits (F := Ideal) .f32 0x358637BD#32)))) broadcasts_S512x1_S512x128))
      (broadcastTo S512x128 kg broadcasts_S1x128_S512x128) (ix2 r c)
      = keyBlk x g w kg (ix2 r ⟨128 * i + c.val, by omega⟩) := by
  refine (head_apply (by decide : 128 ∣ 512) (by decide) i (k0_pay3 (F := Ideal) x g w) v kg hi hv _ _ _ _ _ _ r c).trans ?_
  unfold keyBlk
  refine congrArg (fun f => headRms (by decide : 128 ∣ 512) f (fun k => kg (ix2 (0 : Fin 1) k)) ⟨128 * i + c.val, by omega⟩) (funext fun k => ?_)
  exact pay3_apply x g w r k

theorem sl_eq (o i : Nat) (ho : o = 128 * i) (hs : S512x512.Slices ![0, o] S512x128) (hi : 128 * i + 128 ≤ 512) (r : Fin 512) (k : Fin 128) :
    extractStridedSlice S512x128 ![0, o] (k0_pay3 (F := Ideal) x g w) hs (ix2 r k) = k0_pay3 (F := Ideal) x g w (ix2 r ⟨128 * i + k.val, by omega⟩) := by
  subst ho
  exact slice_apply _ _ hs r k _

/-- The four heads that a point writes are the block of keys. -/
theorem out5_eq (x3 : Vec Ideal S2048x512 .bf16) : out0_5 (F := Ideal) x g w x3 kg = keyBlk x g w kg := by
  funext y
  unfold out0_5 k0_pay13 k0_pay12
  rw [View.ld_unit_zero (S := S512x2048) origin2, View.ld_unit_zero (S := S1x2048) origin2, View.ld_unit_zero (S := S2048x512) origin2,
    View.ld_unit_zero (S := S1x128) origin2]
  refine View.canon_apply_of_pieces (keyBlk x g w kg) _ ?_ y (cover0_5 (F := Ideal) _ _ _ _ y)
  intro p hp
  have key : ∀ (o i : Nat) (ho : o = 128 * i) (hi : 128 * i + 128 ≤ 512) (hs : S512x512.Slices ![0, o] S512x128)
      (hinb : ∀ a, (![0, o] : Fin 2 → Nat) a + S512x128.size a ≤ S512x512.size a) (z : S512x128.Idx),
      mulf (mulf (extractStridedSlice S512x128 ![0, o] (k0_pay3 (F := Ideal) x g w) hs) (broadcastTo S512x128 (rsqrt (addf (divf
        (shapeCast S512x1 (multiReduction (F := Ideal) FKind.add [1] S512 (mulf (extractStridedSlice S512x128 ![0, o] (k0_pay3 (F := Ideal) x g w) hs)
          (extractStridedSlice S512x128 ![0, o] (k0_pay3 (F := Ideal) x g w) hs)) 0x00000000#32 reduces_S512x128_S512 (.inl rfl) rfl) shapeCasts_S512_S512x1)
        (broadcast S512x1 (Scalar.ofBits (F := Ideal) .f32 0x43000000#32)))
        (broadcast S512x1 (Scalar.ofBits (F := Ideal) .f32 0x358637BD#32)))) broadcasts_S512x1_S512x128))
      (broadcastTo S512x128 kg broadcasts_S1x128_S512x128) z
      = keyBlk x g w kg ((Rect.unit (s := S512x512) ![0, o] S512x128.size hinb).emb z) := by
    intro o i ho hi hs hinb z
    obtain ⟨r, c, rfl⟩ : ∃ (r : Fin 512) (c : Fin 128), z = ix2 r c := ⟨z 0, z 1, eq_ix2 z⟩
    subst ho
    rw [emb_cols _ _ r c (by omega)]
    exact head_eq x g w kg i hi _ (sl_eq x g w _ i rfl hs hi) r c
  simp only [List.mem_cons, List.not_mem_nil, or_false] at hp
  rcases hp with rfl | rfl | rfl | rfl <;> intro z
  · rw [← key 384 3 rfl (by decide) slices_S512x512_o0_384_S512x128 _ z]
    dsimp only
    unfold k0_pay10 k0_pay4
    rw [shapeCast_self]
  · rw [← key 256 2 rfl (by decide) slices_S512x512_o0_256_S512x128 _ z]
    dsimp only
    unfold k0_pay9 k0_pay4
    rw [shapeCast_self]
  · rw [← key 128 1 rfl (by decide) slices_S512x512_o0_128_S512x128 _ z]
    dsimp only
    unfold k0_pay8 k0_pay7 k0_pay6 k0_pay4
    rw [shapeCast_self]
  · rw [← key 0 0 rfl (by decide) slices_S512x512_o0_0_S512x128 _ z]
    dsimp only
    unfold k0_pay5 k0_pay4
    rw [shapeCast_self]

/-- The block of values. -/
theorem out6_eq (x2 : Vec Ideal S2048x512 .bf16) (r c : Fin 512) : out0_6 (F := Ideal) x g x2 w kg (ix2 r c) = projBlk x g w r c := by
  unfold out0_6
  rw [View.ld_unit_zero (S := S512x2048) origin2, View.ld_unit_zero (S := S1x2048) origin2, View.ld_unit_zero (S := S2048x512) origin2,
    View.canon_unit_zero (S := S512x512) origin2]
  exact (show k0_pay1 (F := Ideal) (k0_pay2 (F := Ideal) x g) (k0_pay11 w) (constant S512x512 .f32 0x00000000#32) (ix2 r c) = k0_pay3 (F := Ideal) x g w (ix2 r c) from rfl).trans
    (pay3_apply x g w r c)

end

/-! ## The results -/

theorem idx_in : ∀ t : Fin grid0.N,
    win0_0.index t = ![t.val, 0] ∧ win0_1.index t = ![0, 0] ∧ win0_2.index t = ![0, 0]
      ∧ win0_3.index t = ![0, 0] ∧ win0_4.index t = ![0, 0] ∧ win0_5.index t = ![t.val, 0] ∧ win0_6.index t = ![t.val, 0] := by
  decide +kernel

theorem flush_out : ∀ t : Fin cfg0.N, (cfg0.win 5).flush t = true ∧ (cfg0.win 6).flush t = true :=
  (by decide +kernel : ∀ t : Fin grid0.N, win0_5.flush t = true ∧ win0_6.flush t = true)

/-- Row `q` of memory `p`, normed. -/
def memNorm (mem : S8x256x2048.Idx → EReal) (g : S2048.Idx → EReal) (p : Fin 8) (q : Fin 256) (j : Fin 2048) : EReal :=
  rms 0x45000000#32 (fun k : Fin 2048 => mem (ix3 p q k)) (fun k => g (ix1 k)) j

/-- That row times a matrix. -/
def memProj (mem : S8x256x2048.Idx → EReal) (g : S2048.Idx → EReal) (w : S2048x512.Idx → EReal) (p : Fin 8) (q : Fin 256) (k : Fin 512) : EReal :=
  ∑ j : Fin 2048, memNorm mem g p q j * w (ix2 j k)

variable (m : (ℓ : Loc nD τ sig) → Buf (Elt Ideal) ℓ) (c : Dev nD)

abbrev argM : S8x256x2048.Idx → EReal := m ((c.tc : Thread nD τ).loc main_arg0)
abbrev argG : S2048.Idx → EReal := m ((c.tc : Thread nD τ).loc main_arg1)
abbrev argWk : S2048x512.Idx → EReal := m ((c.tc : Thread nD τ).loc main_arg2)
abbrev argWv : S2048x512.Idx → EReal := m ((c.tc : Thread nD τ).loc main_arg3)
abbrev argKg : S128.Idx → EReal := m ((c.tc : Thread nD τ).loc main_arg4)

set_option maxHeartbeats 4000000 in
theorem V_v0 : (V m c main_v0 : S2048x2048.Idx → EReal) = shapeCast S2048x2048 (argM m c) shapeCasts_S8x256x2048_S2048x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v1 : (V m c main_v1 : S1x2048.Idx → EReal) = shapeCast S1x2048 (argG m c) shapeCasts_S2048_S1x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v2 : (V m c main_v2 : S2048x512.Idx → EReal) = argWk m c := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v3 : (V m c main_v3 : S2048x512.Idx → EReal) = argWv m c := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v4 : (V m c main_v4 : S1x128.Idx → EReal) = shapeCast S1x128 (argKg m c) shapeCasts_S128_S1x128 := by
  simp only [V, hostOps0, StableHlo.reshape, StableHlo.TRef.binary, StableHlo.TRef.unary, StableHlo.TRef.toBuf, StableHlo.TRef.ofBuf, cast_eq]
  after_results_simp <;> rfl

theorem blk_x (t : Fin cfg0.N) (r : Fin 512) (k : Fin 2048) (p : Fin 8) (q : Fin 256) (h : 512 * t.val + r.val = p.val * 256 + q.val) :
    (iblk m c 0 t : S512x2048.Idx → EReal) (ix2 r k) = argM m c (ix3 p q k) := by
  show (V m c main_v0 : S2048x2048.Idx → EReal) (((cfg0.win 0).blk t).view.emb (ix2 r k)) = _
  rw [V_v0]
  have e0 : ((((cfg0.win 0).blk t).view.emb (ix2 r k)) 0).val = win0_0.index t 0 * 512 + 1 * r.val := rfl
  have e1 : ((((cfg0.win 0).blk t).view.emb (ix2 r k)) 1).val = win0_0.index t 1 * 2048 + 1 * k.val := rfl
  rw [(idx_in t).1] at e0 e1
  have hN : t.val < 4 := lt_of_lt_of_eq t.isLt N_0
  have e : ((cfg0.win 0).blk t).view.emb (ix2 r k) = (ix2 ⟨512 * t.val + r.val, by omega⟩ k : S2048x2048.Idx) :=
    (eq_ix2 _).trans (congrArg₂ ix2 (Fin.ext (e0.trans (by show t.val * 512 + 1 * r.val = 512 * t.val + r.val; omega)))
      (Fin.ext (e1.trans (by show 0 * 2048 + 1 * k.val = k.val; omega))))
  rw [e]
  exact flat_apply (argM m c) _ _ k p q h

theorem blk_g (t : Fin cfg0.N) (k : Fin 2048) :
    (iblk m c 1 t : S1x2048.Idx → EReal) (ix2 (0 : Fin 1) k) = argG m c (ix1 k) := by
  show (V m c main_v1 : S1x2048.Idx → EReal) (((cfg0.win 1).blk t).view.emb (ix2 (0 : Fin 1) k)) = _
  have e0 : ((((cfg0.win 1).blk t).view.emb (ix2 (0 : Fin 1) k)) 0).val = win0_1.index t 0 * 1 + 1 * 0 := rfl
  have e1 : ((((cfg0.win 1).blk t).view.emb (ix2 (0 : Fin 1) k)) 1).val = win0_1.index t 1 * 2048 + 1 * k.val := rfl
  rw [(idx_in t).2.1] at e0 e1
  have e : ((cfg0.win 1).blk t).view.emb (ix2 (0 : Fin 1) k) = (ix2 (0 : Fin 1) k : S1x2048.Idx) :=
    (eq_ix2 _).trans (congrArg₂ ix2 (Fin.ext (e0.trans (by show 0 * 1 + 1 * 0 = 0; omega)))
      (Fin.ext (e1.trans (by show 0 * 2048 + 1 * k.val = k.val; omega))))
  rw [e, V_v1]
  refine (shapeCast_addUnit_apply ![2048] (argG m c) _ (ix2 (0 : Fin 1) k)).trans (congrArg (argG m c) ?_)
  funext a
  match a with
  | ⟨0, _⟩ => rfl

theorem blk_wk (t : Fin cfg0.N) (j : Fin 2048) (k : Fin 512) :
    (iblk m c 2 t : S2048x512.Idx → EReal) (ix2 j k) = argWk m c (ix2 j k) := by
  show (V m c main_v2 : S2048x512.Idx → EReal) (((cfg0.win 2).blk t).view.emb (ix2 j k)) = _
  rw [V_v2]
  refine congrArg (argWk m c) (eq_ix2 _ |>.trans ?_)
  have e0 : ((((cfg0.win 2).blk t).view.emb (ix2 j k)) 0).val = win0_2.index t 0 * 2048 + 1 * j.val := rfl
  have e1 : ((((cfg0.win 2).blk t).view.emb (ix2 j k)) 1).val = win0_2.index t 1 * 512 + 1 * k.val := rfl
  rw [(idx_in t).2.2.1] at e0 e1
  refine congrArg₂ ix2 (Fin.ext ?_) (Fin.ext ?_)
  · exact e0.trans (by show 0 * 2048 + 1 * j.val = j.val; omega)
  · exact e1.trans (by show 0 * 512 + 1 * k.val = k.val; omega)

theorem blk_wv (t : Fin cfg0.N) (j : Fin 2048) (k : Fin 512) :
    (iblk m c 3 t : S2048x512.Idx → EReal) (ix2 j k) = argWv m c (ix2 j k) := by
  show (V m c main_v3 : S2048x512.Idx → EReal) (((cfg0.win 3).blk t).view.emb (ix2 j k)) = _
  rw [V_v3]
  refine congrArg (argWv m c) (eq_ix2 _ |>.trans ?_)
  have e0 : ((((cfg0.win 3).blk t).view.emb (ix2 j k)) 0).val = win0_3.index t 0 * 2048 + 1 * j.val := rfl
  have e1 : ((((cfg0.win 3).blk t).view.emb (ix2 j k)) 1).val = win0_3.index t 1 * 512 + 1 * k.val := rfl
  rw [(idx_in t).2.2.2.1] at e0 e1
  refine congrArg₂ ix2 (Fin.ext ?_) (Fin.ext ?_)
  · exact e0.trans (by show 0 * 2048 + 1 * j.val = j.val; omega)
  · exact e1.trans (by show 0 * 512 + 1 * k.val = k.val; omega)

theorem blk_kg (t : Fin cfg0.N) (k : Fin 128) :
    (iblk m c 4 t : S1x128.Idx → EReal) (ix2 (0 : Fin 1) k) = argKg m c (ix1 k) := by
  show (V m c main_v4 : S1x128.Idx → EReal) (((cfg0.win 4).blk t).view.emb (ix2 (0 : Fin 1) k)) = _
  have e0 : ((((cfg0.win 4).blk t).view.emb (ix2 (0 : Fin 1) k)) 0).val = win0_4.index t 0 * 1 + 1 * 0 := rfl
  have e1 : ((((cfg0.win 4).blk t).view.emb (ix2 (0 : Fin 1) k)) 1).val = win0_4.index t 1 * 128 + 1 * k.val := rfl
  rw [(idx_in t).2.2.2.2.1] at e0 e1
  have e : ((cfg0.win 4).blk t).view.emb (ix2 (0 : Fin 1) k) = (ix2 (0 : Fin 1) k : S1x128.Idx) :=
    (eq_ix2 _).trans (congrArg₂ ix2 (Fin.ext (e0.trans (by show 0 * 1 + 1 * 0 = 0; omega)))
      (Fin.ext (e1.trans (by show 0 * 128 + 1 * k.val = k.val; omega))))
  rw [e, V_v4]
  refine (shapeCast_addUnit_apply ![128] (argKg m c) _ (ix2 (0 : Fin 1) k)).trans (congrArg (argKg m c) ?_)
  funext a
  match a with
  | ⟨0, _⟩ => rfl

theorem norm_blk (t : Fin cfg0.N) (r : Fin 512) (p : Fin 8) (q : Fin 256) (h : 512 * t.val + r.val = p.val * 256 + q.val) (j : Fin 2048) :
    normBlk (iblk m c 0 t : S512x2048.Idx → EReal) (iblk m c 1 t : S1x2048.Idx → EReal) (ix2 r j) = memNorm (argM m c) (argG m c) p q j :=
  congrArg₂ (fun u v => rms 0x45000000#32 u v j) (funext fun k => blk_x m c t r k p q h) (funext fun k => blk_g m c t k)

theorem emb5 (t : Fin cfg0.N) (r k : Fin 512) (R : Fin 2048) (h : R.val = 512 * t.val + r.val) :
    ((cfg0.win 5).blk t).view.emb (ix2 r k) = (ix2 R k : S2048x512.Idx) := by
  have e0 : ((((cfg0.win 5).blk t).view.emb (ix2 r k)) 0).val = win0_5.index t 0 * 512 + 1 * r.val := rfl
  have e1 : ((((cfg0.win 5).blk t).view.emb (ix2 r k)) 1).val = win0_5.index t 1 * 512 + 1 * k.val := rfl
  rw [(idx_in t).2.2.2.2.2.1] at e0 e1
  exact (eq_ix2 _).trans (congrArg₂ ix2 (Fin.ext (e0.trans (by show t.val * 512 + 1 * r.val = R.val; omega)))
    (Fin.ext (e1.trans (by show 0 * 512 + 1 * k.val = k.val; omega))))

theorem emb6 (t : Fin cfg0.N) (r k : Fin 512) (R : Fin 2048) (h : R.val = 512 * t.val + r.val) :
    ((cfg0.win 6).blk t).view.emb (ix2 r k) = (ix2 R k : S2048x512.Idx) := by
  have e0 : ((((cfg0.win 6).blk t).view.emb (ix2 r k)) 0).val = win0_6.index t 0 * 512 + 1 * r.val := rfl
  have e1 : ((((cfg0.win 6).blk t).view.emb (ix2 r k)) 1).val = win0_6.index t 1 * 512 + 1 * k.val := rfl
  rw [(idx_in t).2.2.2.2.2.2] at e0 e1
  exact (eq_ix2 _).trans (congrArg₂ ix2 (Fin.ext (e0.trans (by show t.val * 512 + 1 * r.val = R.val; omega)))
    (Fin.ext (e1.trans (by show 0 * 512 + 1 * k.val = k.val; omega))))

/-- The keys: each memory row normed, projected, and its heads normed. -/
theorem keys_eq (R : Fin 2048) (k : Fin 512) (p : Fin 8) (q : Fin 256) (h : R.val = p.val * 256 + q.val) :
    ((dats m 0 c).arrAt 5 cfg0.N : S2048x512.Idx → EReal) (ix2 R k)
      = headRms (by decide : 128 ∣ 512) (memProj (argM m c) (argG m c) (argWk m c) p q) (fun k => argKg m c (ix1 k)) k := by
  have hR := R.isLt
  let t : Fin cfg0.N := ⟨R.val / 512, lt_of_lt_of_eq (by omega) N_0.symm⟩
  let r : Fin 512 := ⟨R.val % 512, Nat.mod_lt _ (by decide)⟩
  have hr : R.val = 512 * t.val + r.val := by show R.val = 512 * (R.val / 512) + R.val % 512; omega
  have hb := congrFun (blocks5 (F := Ideal) m c t (flush_out t).1) (ix2 r k)
  rw [flushed5, out5_eq] at hb
  rw [← emb5 t r k R hr]
  refine Eq.trans hb ?_
  show keyBlk _ _ _ _ (ix2 r k) = _
  unfold keyBlk
  refine congrArg₂ (fun u v => headRms (by decide : 128 ∣ 512) u v k) (funext fun i => ?_) (funext fun i => blk_kg m c t i)
  unfold projBlk memProj
  exact Finset.sum_congr rfl fun j _ => congrArg₂ (· * ·) (norm_blk m c t r p q (by omega) j) (blk_wk m c t j i)

/-- The values: each memory row normed and projected. -/
theorem values_eq (R : Fin 2048) (k : Fin 512) (p : Fin 8) (q : Fin 256) (h : R.val = p.val * 256 + q.val) :
    ((dats m 0 c).arrAt 6 cfg0.N : S2048x512.Idx → EReal) (ix2 R k) = memProj (argM m c) (argG m c) (argWv m c) p q k := by
  have hR := R.isLt
  let t : Fin cfg0.N := ⟨R.val / 512, lt_of_lt_of_eq (by omega) N_0.symm⟩
  let r : Fin 512 := ⟨R.val % 512, Nat.mod_lt _ (by decide)⟩
  have hr : R.val = 512 * t.val + r.val := by show R.val = 512 * (R.val / 512) + R.val % 512; omega
  have hb := congrFun (blocks6 (F := Ideal) m c t (flush_out t).2) (ix2 r k)
  rw [flushed6] at hb
  rw [← emb6 t r k R hr]
  have e : projBlk (iblk m c 0 t : S512x2048.Idx → EReal) (iblk m c 1 t : S1x2048.Idx → EReal) (iblk m c 3 t : S2048x512.Idx → EReal) r k
      = memProj (argM m c) (argG m c) (argWv m c) p q k := by
    unfold projBlk memProj
    exact Finset.sum_congr rfl fun j _ => congrArg₂ (· * ·) (norm_blk m c t r p q (by omega) j) (blk_wv m c t j k)
  exact hb.trans ((out6_eq _ _ _ _ _ r k).trans e)

end Cert.Memkv

end
-- ==== Proof.MemkvRef.lean ====
/-
  The reference of the memory's keys and values, read at an index, and that the call's results are the reference's.
-/
module

public import proofs.«01_k».proof.Proof.MemkvValue
public import proofs.«01_k».proof.Proof.Gen.MemkvRefIdeal.Read

@[expose] public section

set_option maxRecDepth 16384

noncomputable section

open scoped BigOperators

namespace Cert.Memkv

open Cert.MemkvRefIdeal Cert.MemkvRefIdeal.Read Cert.Rows Idealize.ShloMosaic Idealize.ShloMosaic.ValueIdx

variable (x0 : (⟨S8x256x2048, .f32⟩ : BufTy).Contents (Elt Ideal)) (x1 : (⟨S2048, .f32⟩ : BufTy).Contents (Elt Ideal))
  (x2 x3 : (⟨S2048x512, .f32⟩ : BufTy).Contents (Elt Ideal)) (x4 : (⟨S128, .f32⟩ : BufTy).Contents (Elt Ideal))

theorem ref_norm (p : Fin 8) (q : Fin 256) (j : Fin 2048) : val_main_v12 (F := Ideal) x0 x1 (ix3 p q j) = memNorm x0 x1 p q j := by
  rw [val_main_v12_apply, val_main_v9_apply, val_main_v8_apply, show idx_main_v8 (ix3 p q j) = ix3 p q (0 : Fin 1) from eq_ix3 _,
    val_main_v7_apply, val_main_v6_apply, val_main_v4_apply, val_main_v2_apply,
    show idx_main_v2 (ix3 p q (0 : Fin 1)) = ix2 p q from eq_ix2 _, val_main_v1_apply, val_main_v3_apply, val_main_v5_apply,
    val_main_v11_apply, show idx_main_v11 (ix3 p q j) = ix3 (0 : Fin 1) (0 : Fin 1) j from eq_ix3 _, val_main_v10_apply,
    show idx_main_v10 (ix3 (0 : Fin 1) (0 : Fin 1) j) = ix1 j from eq_ix1 _]
  have e : ∀ k : Fin 2048, val_main_v0 (F := Ideal) x0 (idx_main_v1 (ix2 p q) k) = x0 (ix3 p q k) * x0 (ix3 p q k) := fun k => by
    rw [show idx_main_v1 (ix2 p q) k = ix3 p q k from eq_ix3 _, val_main_v0_apply]
    rfl
  simp only [e]
  rw [show (val_main_cst (F := Ideal)) (Shape.Idx.first Gen.h_S_) = 0 from Ideal.ofBits_zero_f32, zero_add]
  rfl

theorem ref_key (p : Fin 8) (q : Fin 256) (k : Fin 512) : val_main_v13 (F := Ideal) x0 x1 x2 (ix3 p q k) = memProj x0 x1 x2 p q k := by
  rw [val_main_v13_apply]
  refine Finset.sum_congr rfl fun j _ => ?_
  rw [show lidx_main_v13 (ix3 p q k) j = ix3 p q j from eq_ix3 _, show ridx_main_v13 (ix3 p q k) j = ix2 j k from eq_ix2 _, ref_norm]

theorem ref_value (p : Fin 8) (q : Fin 256) (k : Fin 512) : val_main_v28 (F := Ideal) x0 x1 x3 (ix3 p q k) = memProj x0 x1 x3 p q k := by
  rw [val_main_v28_apply]
  refine Finset.sum_congr rfl fun j _ => ?_
  rw [show lidx_main_v28 (ix3 p q k) j = ix3 p q j from eq_ix3 _, show ridx_main_v28 (ix3 p q k) j = ix2 j k from eq_ix2 _, ref_norm]

theorem ref_split (p : Fin 8) (q : Fin 256) (h : Fin 4) (d : Fin 128) :
    val_main_v14 (F := Ideal) x0 x1 x2 (ix4 p q h d) = memProj x0 x1 x2 p q ⟨128 * h.val + d.val, by omega⟩ := by
  rw [val_main_v14_apply, show idx_main_v14 (ix4 p q h d) = ix3 p q ⟨128 * h.val + d.val, by omega⟩ from
    (eq_ix3 _).trans (by
      have hp := p.isLt; have hq := q.isLt; have hh := h.isLt; have hd := d.isLt
      refine congr (congrArg₂ ix3 (Fin.ext ?_) (Fin.ext ?_)) (Fin.ext ?_)
      · show (((p.val * 256 + q.val) * 4 + h.val) * 128 + d.val) / 131072 = p.val; omega
      · show (((p.val * 256 + q.val) * 4 + h.val) * 128 + d.val) / 512 % 256 = q.val; omega
      · show (((p.val * 256 + q.val) * 4 + h.val) * 128 + d.val) % 512 = 128 * h.val + d.val; omega), ref_key]

theorem ref_head (p : Fin 8) (q : Fin 256) (h : Fin 4) (d : Fin 128) :
    val_main_v27 (F := Ideal) x0 x1 x2 x4 (ix4 p q h d)
      = rms 0x43000000#32 (fun k : Fin 128 => memProj x0 x1 x2 p q ⟨128 * h.val + k.val, by omega⟩) (fun k => x4 (ix1 k)) d := by
  rw [val_main_v27_apply, val_main_v24_apply, ref_split, val_main_v23_apply,
    show idx_main_v23 (ix4 p q h d) = ix4 p q h (0 : Fin 1) from eq_ix4 _,
    val_main_v22_apply, val_main_v21_apply, val_main_v19_apply, val_main_v17_apply,
    show idx_main_v17 (ix4 p q h (0 : Fin 1)) = ix3 p q h from eq_ix3 _, val_main_v16_apply, val_main_v18_apply, val_main_v20_apply,
    val_main_v26_apply, show idx_main_v26 (ix4 p q h d) = ix4 (0 : Fin 1) (0 : Fin 1) (0 : Fin 1) d from eq_ix4 _, val_main_v25_apply,
    show idx_main_v25 (ix4 (0 : Fin 1) (0 : Fin 1) (0 : Fin 1) d) = ix1 d from eq_ix1 _]
  have e : ∀ k : Fin 128, val_main_v15 (F := Ideal) x0 x1 x2 (idx_main_v16 (ix3 p q h) k)
      = memProj x0 x1 x2 p q ⟨128 * h.val + k.val, by omega⟩ * memProj x0 x1 x2 p q ⟨128 * h.val + k.val, by omega⟩ := fun k => by
    rw [show idx_main_v16 (ix3 p q h) k = ix4 p q h k from eq_ix4 _, val_main_v15_apply, ref_split]
    rfl
  simp only [e]
  rw [show (val_main_cst_2 (F := Ideal)) (Shape.Idx.first Gen.h_S_) = 0 from Ideal.ofBits_zero_f32, zero_add]
  rfl

section
variable (m : (ℓ : Loc nD τ Cert.MemkvIdeal.sig) → Buf (Elt Ideal) ℓ) (c : Dev nD)

/-- The call's keys are the reference's. -/
theorem keys_value :
    ((Cert.MemkvIdeal.Gen.dats m 0 c).arrAt 5 Cert.MemkvIdeal.cfg0.N : S2048x512.Idx → EReal)
      = val_main_v30 (F := Ideal) (argM m c) (argG m c) (argWk m c) (argKg m c) := by
  funext y
  obtain ⟨R, k, rfl⟩ : ∃ (R : Fin 2048) (k : Fin 512), y = ix2 R k := ⟨y 0, y 1, eq_ix2 y⟩
  have hR := R.isLt
  have hk := k.isLt
  rw [val_main_v30_apply, show idx_main_v30 (ix2 R k)
    = ix4 ⟨R.val / 256, by omega⟩ ⟨R.val % 256, by omega⟩ ⟨k.val / 128, by omega⟩ ⟨k.val % 128, by omega⟩ from (eq_ix4 _).trans (by
      refine congr (congr (congrArg₂ ix4 (Fin.ext ?_) (Fin.ext ?_)) (Fin.ext ?_)) (Fin.ext ?_)
      · show (R.val * 512 + k.val) / 131072 = R.val / 256; omega
      · show (R.val * 512 + k.val) / 512 % 256 = R.val % 256; omega
      · show (R.val * 512 + k.val) / 128 % 4 = k.val / 128; omega
      · show (R.val * 512 + k.val) % 128 = k.val % 128; omega), ref_head]
  exact keys_eq m c R k ⟨R.val / 256, by omega⟩ ⟨R.val % 256, by omega⟩ (by show R.val = R.val / 256 * 256 + R.val % 256; omega)

/-- The call's values are the reference's. -/
theorem values_value :
    ((Cert.MemkvIdeal.Gen.dats m 0 c).arrAt 6 Cert.MemkvIdeal.cfg0.N : S2048x512.Idx → EReal)
      = val_main_v31 (F := Ideal) (argM m c) (argG m c) (argWv m c) := by
  funext y
  obtain ⟨R, k, rfl⟩ : ∃ (R : Fin 2048) (k : Fin 512), y = ix2 R k := ⟨y 0, y 1, eq_ix2 y⟩
  have hR := R.isLt
  have hk := k.isLt
  rw [val_main_v31_apply, val_main_v29_apply, show idx_main_v29 (idx_main_v31 (ix2 R k)) = ix3 ⟨R.val / 256, by omega⟩ ⟨R.val % 256, by omega⟩ k from (eq_ix3 _).trans (by
      refine congr (congrArg₂ ix3 (Fin.ext ?_) (Fin.ext ?_)) (Fin.ext ?_)
      · show ((((R.val * 512 + k.val) / 131072 * 256 + (R.val * 512 + k.val) / 512 % 256) * 4 + (R.val * 512 + k.val) / 128 % 4) * 128
          + (R.val * 512 + k.val) % 128) / 131072 = R.val / 256
        omega
      · show ((((R.val * 512 + k.val) / 131072 * 256 + (R.val * 512 + k.val) / 512 % 256) * 4 + (R.val * 512 + k.val) / 128 % 4) * 128
          + (R.val * 512 + k.val) % 128) / 512 % 256 = R.val % 256
        omega
      · show ((((R.val * 512 + k.val) / 131072 * 256 + (R.val * 512 + k.val) / 512 % 256) * 4 + (R.val * 512 + k.val) / 128 % 4) * 128
          + (R.val * 512 + k.val) % 128) % 512 = k.val
        omega), ref_value]
  exact values_eq m c R k ⟨R.val / 256, by omega⟩ ⟨R.val % 256, by omega⟩ (by show R.val = R.val / 256 * 256 + R.val % 256; omega)

end

end Cert.Memkv

end
-- ==== Proof.MergeValue.lean ====
/-
  The gated merge's result in terms of its arguments: each row plus the output projection of its merged units.
-/
module

public import proofs.«01_k».proof.Proof.Heads
public import proofs.«01_k».proof.Proof.Gen.MergeIdeal.Value

@[expose] public section

set_option maxRecDepth 16384

noncomputable section

open scoped BigOperators

namespace Cert.Merge

open Cert.MergeIdeal Cert.MergeIdeal.Gen Cert.MergeIdeal.Value Cert.Rows Idealize.ShloMosaic Idealize.ShloMosaic.ValueIdx Idealize.ShloMosaic.TcCoe

/-! ## One block -/

/-- A unit of the merge: two projections, each times the gate that the normed row gives it, added. -/
def gated (xn : Fin 2048 → EReal) (ga gb : Fin 2048 → EReal) (a r : Fin 1024 → EReal) (pa pb : Fin 1024 → EReal) : EReal :=
  Ideal.logistic (∑ j, xn j * ga j) * (∑ j, a j * pa j) + Ideal.logistic (∑ j, xn j * gb j) * (∑ j, r j * pb j)

section
variable (xn : Vec Ideal S512x2048 .bf16) (ga : Vec Ideal S2048x512 .bf16) (a : Vec Ideal S512x1024 .bf16) (pa : Vec Ideal S1024x512 .bf16)
  (gb : Vec Ideal S2048x512 .bf16) (r : Vec Ideal S512x1024 .bf16) (pb : Vec Ideal S1024x512 .bf16) (wo : Vec Ideal S512x2048 .bf16)

/-- The units of a block. -/
def gatedBlk (i k : Fin 512) : EReal :=
  gated (fun j => xn (ix2 i j)) (fun j => ga (ix2 j k)) (fun j => gb (ix2 j k)) (fun j => a (ix2 i j)) (fun j => r (ix2 i j))
    (fun j => pa (ix2 j k)) (fun j => pb (ix2 j k))

theorem pay4_apply (i : Fin 512) (c : Fin 2048) :
    k0_pay4 (F := Ideal) xn ga a pa gb r pb wo (ix2 i c) = ∑ k : Fin 512, gatedBlk xn ga a pa gb r pb i k * wo (ix2 k c) := by
  unfold k0_pay4
  simp only [shapeCast_self]
  refine (Dots.matmul_nn (φ₁ := .bf16) (φ₂ := .bf16) _ rfl rfl rfl rfl rfl rfl none _ wo i c).trans ?_
  refine Finset.sum_congr rfl fun k _ => congrArg (fun z : EReal => z * wo (ix2 k c)) ?_
  have e1 := Dots.matmul_nn (φ₁ := .bf16) (φ₂ := .bf16) dot_S512x2048_S2048x512_S512x512_1_0_0_1_n_n rfl rfl rfl rfl rfl rfl none xn ga i k
  have e2 := Dots.matmul_nn (φ₁ := .bf16) (φ₂ := .bf16) dot_S512x1024_S1024x512_S512x512_1_0_0_1_n_n rfl rfl rfl rfl rfl rfl none a pa i k
  have e3 := Dots.matmul_nn (φ₁ := .bf16) (φ₂ := .bf16) dot_S512x2048_S2048x512_S512x512_1_0_0_1_n_n rfl rfl rfl rfl rfl rfl none xn gb i k
  have e4 := Dots.matmul_nn (φ₁ := .bf16) (φ₂ := .bf16) dot_S512x1024_S1024x512_S512x512_1_0_0_1_n_n rfl rfl rfl rfl rfl rfl none r pb i k
  exact congrArg₂ (fun u v : EReal => u + v) (congrArg₂ (fun u v : EReal => u * v) (congrArg Ideal.logistic e1) e2)
    (congrArg₂ (fun u v : EReal => u * v) (congrArg Ideal.logistic e3) e4)

theorem step_apply (acc : Vec Ideal S512x2048 .f32) (i : Fin 512) (c : Fin 2048) :
    k0_pay1 (F := Ideal) (k0_pay3 acc) (k0_pay4 xn ga a pa gb r pb wo) (ix2 i c)
      = acc (ix2 i c) + ∑ k : Fin 512, gatedBlk xn ga a pa gb r pb i k * wo (ix2 k c) := by
  unfold k0_pay1 k0_pay3
  rw [shapeCast_self]
  exact congrArg (fun z : EReal => acc (ix2 i c) + z) (pay4_apply xn ga a pa gb r pb wo i c)

end

/-! ## What the call is given -/

theorem idx_in : ∀ t : Fin grid0.N,
    win0_0.index t = ![t.val / 4, 0] ∧ win0_1.index t = ![t.val / 4, 0] ∧ win0_2.index t = ![t.val / 4, 0] ∧ win0_3.index t = ![t.val / 4, 0]
      ∧ win0_4.index t = ![0, 10 + t.val % 4] ∧ win0_5.index t = ![0, 14 + t.val % 4] ∧ win0_6.index t = ![0, t.val % 4]
      ∧ win0_7.index t = ![0, t.val % 4] ∧ win0_8.index t = ![t.val % 4, 0] := by
  decide +kernel

variable (m : (ℓ : Loc nD τ sig) → Buf (Elt Ideal) ℓ) (c : Dev nD)

abbrev argX : S8x4096x2048.Idx → EReal := m ((c.tc : Thread nD τ).loc main_arg0)
abbrev argN : S8x4096x2048.Idx → EReal := m ((c.tc : Thread nD τ).loc main_arg1)
abbrev argA : S8x4096x1024.Idx → EReal := m ((c.tc : Thread nD τ).loc main_arg2)
abbrev argR : S8x4096x1024.Idx → EReal := m ((c.tc : Thread nD τ).loc main_arg3)
abbrev argWi : S2048x9216.Idx → EReal := m ((c.tc : Thread nD τ).loc main_arg4)
abbrev argPa : S1024x2048.Idx → EReal := m ((c.tc : Thread nD τ).loc main_arg5)
abbrev argPb : S1024x2048.Idx → EReal := m ((c.tc : Thread nD τ).loc main_arg6)
abbrev argWo : S2048x2048.Idx → EReal := m ((c.tc : Thread nD τ).loc main_arg7)

set_option maxHeartbeats 4000000 in
theorem V_v0 : (V m c main_v0 : S32768x2048.Idx → EReal) = shapeCast S32768x2048 (argX m c) shapeCasts_S8x4096x2048_S32768x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v1 : (V m c main_v1 : S32768x2048.Idx → EReal) = shapeCast S32768x2048 (argN m c) shapeCasts_S8x4096x2048_S32768x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v2 : (V m c main_v2 : S32768x1024.Idx → EReal) = shapeCast S32768x1024 (argA m c) shapeCasts_S8x4096x1024_S32768x1024 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v3 : (V m c main_v3 : S32768x1024.Idx → EReal) = shapeCast S32768x1024 (argR m c) shapeCasts_S8x4096x1024_S32768x1024 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v4 : (V m c main_v4 : S2048x9216.Idx → EReal) = argWi m c := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v5 : (V m c main_v5 : S1024x2048.Idx → EReal) = argPa m c := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v6 : (V m c main_v6 : S1024x2048.Idx → EReal) = argPb m c := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v7 : (V m c main_v7 : S2048x2048.Idx → EReal) = argWo m c := by
  simp only [V, hostOps0, StableHlo.reshape, StableHlo.TRef.binary, StableHlo.TRef.unary, StableHlo.TRef.toBuf, StableHlo.TRef.ofBuf, cast_eq]
  after_results_simp <;> rfl

/-! ## The blocks of a point -/

/-- Row `i` of the row tile of point `t`. -/
def rowOf (t : Fin cfg0.N) (i : Fin 512) : Fin 32768 :=
  ⟨512 * (t.val / 4) + i.val, by have := lt_of_lt_of_eq t.isLt N_0; omega⟩

/-- Sequence and place of a flattened row. -/
def seqOf (R : Fin 32768) : Fin 8 := ⟨R.val / 4096, by omega⟩
def posOf (R : Fin 32768) : Fin 4096 := ⟨R.val % 4096, Nat.mod_lt _ (by decide)⟩

theorem row_split (R : Fin 32768) : R.val = (seqOf R).val * 4096 + (posOf R).val := by
  show R.val = R.val / 4096 * 4096 + R.val % 4096
  omega

theorem blk_x (t : Fin cfg0.N) (i : Fin 512) (k : Fin 2048) :
    (iblk m c 0 t : S512x2048.Idx → EReal) (ix2 i k) = argX m c (ix3 (seqOf (rowOf t i)) (posOf (rowOf t i)) k) := by
  show (V m c main_v0 : S32768x2048.Idx → EReal) (((cfg0.win 0).blk t).view.emb (ix2 i k)) = _
  rw [V_v0]
  have e0 : ((((cfg0.win 0).blk t).view.emb (ix2 i k)) 0).val = win0_0.index t 0 * 512 + 1 * i.val := rfl
  have e1 : ((((cfg0.win 0).blk t).view.emb (ix2 i k)) 1).val = win0_0.index t 1 * 2048 + 1 * k.val := rfl
  rw [(idx_in t).1] at e0 e1
  have e : ((cfg0.win 0).blk t).view.emb (ix2 i k) = (ix2 (rowOf t i) k : S32768x2048.Idx) :=
    (eq_ix2 _).trans (congrArg₂ ix2 (Fin.ext (e0.trans (by show t.val / 4 * 512 + 1 * i.val = 512 * (t.val / 4) + i.val; omega)))
      (Fin.ext (e1.trans (by show 0 * 2048 + 1 * k.val = k.val; omega))))
  rw [e]
  exact flat_apply (argX m c) _ _ k _ _ (row_split _)

theorem blk_n (t : Fin cfg0.N) (i : Fin 512) (k : Fin 2048) :
    (iblk m c 1 t : S512x2048.Idx → EReal) (ix2 i k) = argN m c (ix3 (seqOf (rowOf t i)) (posOf (rowOf t i)) k) := by
  show (V m c main_v1 : S32768x2048.Idx → EReal) (((cfg0.win 1).blk t).view.emb (ix2 i k)) = _
  rw [V_v1]
  have e0 : ((((cfg0.win 1).blk t).view.emb (ix2 i k)) 0).val = win0_1.index t 0 * 512 + 1 * i.val := rfl
  have e1 : ((((cfg0.win 1).blk t).view.emb (ix2 i k)) 1).val = win0_1.index t 1 * 2048 + 1 * k.val := rfl
  rw [(idx_in t).2.1] at e0 e1
  have e : ((cfg0.win 1).blk t).view.emb (ix2 i k) = (ix2 (rowOf t i) k : S32768x2048.Idx) :=
    (eq_ix2 _).trans (congrArg₂ ix2 (Fin.ext (e0.trans (by show t.val / 4 * 512 + 1 * i.val = 512 * (t.val / 4) + i.val; omega)))
      (Fin.ext (e1.trans (by show 0 * 2048 + 1 * k.val = k.val; omega))))
  rw [e]
  exact flat_apply (argN m c) _ _ k _ _ (row_split _)

theorem blk_a (t : Fin cfg0.N) (i : Fin 512) (k : Fin 1024) :
    (iblk m c 2 t : S512x1024.Idx → EReal) (ix2 i k) = argA m c (ix3 (seqOf (rowOf t i)) (posOf (rowOf t i)) k) := by
  show (V m c main_v2 : S32768x1024.Idx → EReal) (((cfg0.win 2).blk t).view.emb (ix2 i k)) = _
  rw [V_v2]
  have e0 : ((((cfg0.win 2).blk t).view.emb (ix2 i k)) 0).val = win0_2.index t 0 * 512 + 1 * i.val := rfl
  have e1 : ((((cfg0.win 2).blk t).view.emb (ix2 i k)) 1).val = win0_2.index t 1 * 1024 + 1 * k.val := rfl
  rw [(idx_in t).2.2.1] at e0 e1
  have e : ((cfg0.win 2).blk t).view.emb (ix2 i k) = (ix2 (rowOf t i) k : S32768x1024.Idx) :=
    (eq_ix2 _).trans (congrArg₂ ix2 (Fin.ext (e0.trans (by show t.val / 4 * 512 + 1 * i.val = 512 * (t.val / 4) + i.val; omega)))
      (Fin.ext (e1.trans (by show 0 * 1024 + 1 * k.val = k.val; omega))))
  rw [e]
  exact flat_apply (argA m c) _ _ k _ _ (row_split _)

theorem blk_r (t : Fin cfg0.N) (i : Fin 512) (k : Fin 1024) :
    (iblk m c 3 t : S512x1024.Idx → EReal) (ix2 i k) = argR m c (ix3 (seqOf (rowOf t i)) (posOf (rowOf t i)) k) := by
  show (V m c main_v3 : S32768x1024.Idx → EReal) (((cfg0.win 3).blk t).view.emb (ix2 i k)) = _
  rw [V_v3]
  have e0 : ((((cfg0.win 3).blk t).view.emb (ix2 i k)) 0).val = win0_3.index t 0 * 512 + 1 * i.val := rfl
  have e1 : ((((cfg0.win 3).blk t).view.emb (ix2 i k)) 1).val = win0_3.index t 1 * 1024 + 1 * k.val := rfl
  rw [(idx_in t).2.2.2.1] at e0 e1
  have e : ((cfg0.win 3).blk t).view.emb (ix2 i k) = (ix2 (rowOf t i) k : S32768x1024.Idx) :=
    (eq_ix2 _).trans (congrArg₂ ix2 (Fin.ext (e0.trans (by show t.val / 4 * 512 + 1 * i.val = 512 * (t.val / 4) + i.val; omega)))
      (Fin.ext (e1.trans (by show 0 * 1024 + 1 * k.val = k.val; omega))))
  rw [e]
  exact flat_apply (argR m c) _ _ k _ _ (row_split _)

/-- Unit `k` of the column tile of point `t`. -/
def unitOf (f : Nat) (hf : f < 4) (k : Fin 512) : Fin 2048 := ⟨512 * f + k.val, by omega⟩

/-- The columns of the input projection that hold the two gates of a unit. -/
def gateA (k : Fin 2048) : Fin 9216 := ⟨5120 + k.val, by omega⟩
def gateB (k : Fin 2048) : Fin 9216 := ⟨7168 + k.val, by omega⟩

theorem mod4 (t : Fin cfg0.N) : t.val % 4 < 4 := Nat.mod_lt _ (by decide)

theorem blk_ga (t : Fin cfg0.N) (j : Fin 2048) (k : Fin 512) :
    (iblk m c 4 t : S2048x512.Idx → EReal) (ix2 j k) = argWi m c (ix2 j (gateA (unitOf (t.val % 4) (mod4 t) k))) := by
  show (V m c main_v4 : S2048x9216.Idx → EReal) (((cfg0.win 4).blk t).view.emb (ix2 j k)) = _
  rw [V_v4]
  refine congrArg (argWi m c) (eq_ix2 _ |>.trans ?_)
  have e0 : ((((cfg0.win 4).blk t).view.emb (ix2 j k)) 0).val = win0_4.index t 0 * 2048 + 1 * j.val := rfl
  have e1 : ((((cfg0.win 4).blk t).view.emb (ix2 j k)) 1).val = win0_4.index t 1 * 512 + 1 * k.val := rfl
  rw [(idx_in t).2.2.2.2.1] at e0 e1
  refine congrArg₂ ix2 (Fin.ext ?_) (Fin.ext ?_)
  · exact e0.trans (by show 0 * 2048 + 1 * j.val = j.val; omega)
  · exact e1.trans (by show (10 + t.val % 4) * 512 + 1 * k.val = 5120 + (512 * (t.val % 4) + k.val); omega)

theorem blk_gb (t : Fin cfg0.N) (j : Fin 2048) (k : Fin 512) :
    (iblk m c 5 t : S2048x512.Idx → EReal) (ix2 j k) = argWi m c (ix2 j (gateB (unitOf (t.val % 4) (mod4 t) k))) := by
  show (V m c main_v4 : S2048x9216.Idx → EReal) (((cfg0.win 5).blk t).view.emb (ix2 j k)) = _
  rw [V_v4]
  refine congrArg (argWi m c) (eq_ix2 _ |>.trans ?_)
  have e0 : ((((cfg0.win 5).blk t).view.emb (ix2 j k)) 0).val = win0_5.index t 0 * 2048 + 1 * j.val := rfl
  have e1 : ((((cfg0.win 5).blk t).view.emb (ix2 j k)) 1).val = win0_5.index t 1 * 512 + 1 * k.val := rfl
  rw [(idx_in t).2.2.2.2.2.1] at e0 e1
  refine congrArg₂ ix2 (Fin.ext ?_) (Fin.ext ?_)
  · exact e0.trans (by show 0 * 2048 + 1 * j.val = j.val; omega)
  · exact e1.trans (by show (14 + t.val % 4) * 512 + 1 * k.val = 7168 + (512 * (t.val % 4) + k.val); omega)

theorem blk_pa (t : Fin cfg0.N) (j : Fin 1024) (k : Fin 512) :
    (iblk m c 6 t : S1024x512.Idx → EReal) (ix2 j k) = argPa m c (ix2 j (unitOf (t.val % 4) (mod4 t) k)) := by
  show (V m c main_v5 : S1024x2048.Idx → EReal) (((cfg0.win 6).blk t).view.emb (ix2 j k)) = _
  rw [V_v5]
  refine congrArg (argPa m c) (eq_ix2 _ |>.trans ?_)
  have e0 : ((((cfg0.win 6).blk t).view.emb (ix2 j k)) 0).val = win0_6.index t 0 * 1024 + 1 * j.val := rfl
  have e1 : ((((cfg0.win 6).blk t).view.emb (ix2 j k)) 1).val = win0_6.index t 1 * 512 + 1 * k.val := rfl
  rw [(idx_in t).2.2.2.2.2.2.1] at e0 e1
  refine congrArg₂ ix2 (Fin.ext ?_) (Fin.ext ?_)
  · exact e0.trans (by show 0 * 1024 + 1 * j.val = j.val; omega)
  · exact e1.trans (by show t.val % 4 * 512 + 1 * k.val = 512 * (t.val % 4) + k.val; omega)

theorem blk_pb (t : Fin cfg0.N) (j : Fin 1024) (k : Fin 512) :
    (iblk m c 7 t : S1024x512.Idx → EReal) (ix2 j k) = argPb m c (ix2 j (unitOf (t.val % 4) (mod4 t) k)) := by
  show (V m c main_v6 : S1024x2048.Idx → EReal) (((cfg0.win 7).blk t).view.emb (ix2 j k)) = _
  rw [V_v6]
  refine congrArg (argPb m c) (eq_ix2 _ |>.trans ?_)
  have e0 : ((((cfg0.win 7).blk t).view.emb (ix2 j k)) 0).val = win0_7.index t 0 * 1024 + 1 * j.val := rfl
  have e1 : ((((cfg0.win 7).blk t).view.emb (ix2 j k)) 1).val = win0_7.index t 1 * 512 + 1 * k.val := rfl
  rw [(idx_in t).2.2.2.2.2.2.2.1] at e0 e1
  refine congrArg₂ ix2 (Fin.ext ?_) (Fin.ext ?_)
  · exact e0.trans (by show 0 * 1024 + 1 * j.val = j.val; omega)
  · exact e1.trans (by show t.val % 4 * 512 + 1 * k.val = 512 * (t.val % 4) + k.val; omega)

theorem blk_wo (t : Fin cfg0.N) (k : Fin 512) (j : Fin 2048) :
    (iblk m c 8 t : S512x2048.Idx → EReal) (ix2 k j) = argWo m c (ix2 (unitOf (t.val % 4) (mod4 t) k) j) := by
  show (V m c main_v7 : S2048x2048.Idx → EReal) (((cfg0.win 8).blk t).view.emb (ix2 k j)) = _
  rw [V_v7]
  refine congrArg (argWo m c) (eq_ix2 _ |>.trans ?_)
  have e0 : ((((cfg0.win 8).blk t).view.emb (ix2 k j)) 0).val = win0_8.index t 0 * 512 + 1 * k.val := rfl
  have e1 : ((((cfg0.win 8).blk t).view.emb (ix2 k j)) 1).val = win0_8.index t 1 * 2048 + 1 * j.val := rfl
  rw [(idx_in t).2.2.2.2.2.2.2.2] at e0 e1
  refine congrArg₂ ix2 (Fin.ext ?_) (Fin.ext ?_)
  · exact e0.trans (by show t.val % 4 * 512 + 1 * k.val = 512 * (t.val % 4) + k.val; omega)
  · exact e1.trans (by show 0 * 2048 + 1 * j.val = j.val; omega)

/-! ## The stream, 512 units at a time -/

/-- Unit `k` of the merge of row `q` of sequence `p`. -/
def unit (xn : S8x4096x2048.Idx → EReal) (a r : S8x4096x1024.Idx → EReal) (wi : S2048x9216.Idx → EReal) (pa pb : S1024x2048.Idx → EReal)
    (p : Fin 8) (q : Fin 4096) (k : Fin 2048) : EReal :=
  gated (fun j => xn (ix3 p q j)) (fun j => wi (ix2 j (gateA k))) (fun j => wi (ix2 j (gateB k))) (fun j => a (ix3 p q j))
    (fun j => r (ix3 p q j)) (fun j => pa (ix2 j k)) (fun j => pb (ix2 j k))

/-- What unit `k` gives to column `j` of row `R`. -/
def term (R : Fin 32768) (j : Fin 2048) (k : Fin 2048) : EReal :=
  unit (argN m c) (argA m c) (argR m c) (argWi m c) (argPa m c) (argPb m c) (seqOf R) (posOf R) k * argWo m c (ix2 k j)

/-- Row `R` plus what its first `n` units give it. -/
def stream (R : Fin 32768) (j : Fin 2048) (n : Nat) : EReal :=
  argX m c (ix3 (seqOf R) (posOf R) j) + ∑ k ∈ Finset.range n, ext (term m c R j) k

theorem stream_zero (R : Fin 32768) (j : Fin 2048) : stream m c R j 0 = argX m c (ix3 (seqOf R) (posOf R) j) := by
  unfold stream
  rw [Finset.range_zero, Finset.sum_empty, add_zero]

theorem step_at (t : Fin cfg0.N) (acc : S512x2048.Idx → EReal)
    (ha : ∀ i j, acc (ix2 i j) = stream m c (rowOf t i) j (512 * (t.val % 4))) (i : Fin 512) (j : Fin 2048) :
    step9 (F := Ideal) m c t.val t.isLt acc (ix2 i j) = stream m c (rowOf t i) j (512 * (t.val % 4 + 1)) := by
  have hm := mod4 t
  have e : stream m c (rowOf t i) j (512 * (t.val % 4 + 1)) = stream m c (rowOf t i) j (512 * (t.val % 4))
      + ∑ k : Fin 512, term m c (rowOf t i) j (unitOf (t.val % 4) hm k) := by
    unfold stream
    rw [sum_block (term m c (rowOf t i) j) 512 (t.val % 4) (by omega), add_assoc]
    rfl
  rw [e, ← ha]
  refine (step_apply _ _ _ _ _ _ _ _ acc i j).trans ?_
  refine congrArg (fun z : EReal => acc (ix2 i j) + z) (Finset.sum_congr rfl fun k _ => ?_)
  unfold term unit gatedBlk
  simp only [Fin.eta]
  simp only [blk_n, blk_ga, blk_gb, blk_a, blk_r, blk_pa, blk_pb, blk_wo]

theorem reset_at (t : Fin cfg0.N) (h0 : t.val % 4 = 0) (i : Fin 512) (j : Fin 2048) :
    reset9 (F := Ideal) m c t.val t.isLt (ix2 i j) = stream m c (rowOf t i) j (512 * (t.val % 4 + 1)) := by
  have e : reset9 (F := Ideal) m c t.val t.isLt = step9 (F := Ideal) m c t.val t.isLt (iblk m c 0 t : S512x2048.Idx → EReal) := by
    unfold reset9 step9 k0_pay2
    rw [shapeCast_self]
  rw [e]
  refine step_at m c t _ (fun i j => ?_) i j
  rw [h0]
  exact (blk_x m c t i j).trans (stream_zero m c _ _).symm

/-- What the fold holds after column tile `f` of row tile `b`. -/
theorem acc_at (b f : Nat) (hf : f < 4) (h : 4 * b + f < cfg0.N) (i : Fin 512) (j : Fin 2048) :
    Pipeline.accAt (reset9 (F := Ideal) m c) (step9 m c) (4 * b) f h (ix2 i j)
      = stream m c (rowOf ⟨4 * b + f, h⟩ i) j (512 * (f + 1)) := by
  induction f generalizing i j with
  | zero =>
    have hm : (4 * b + 0) % 4 = 0 := by omega
    refine (reset_at m c ⟨4 * b + 0, h⟩ hm i j).trans ?_
    show stream m c _ j (512 * ((4 * b + 0) % 4 + 1)) = _
    rw [hm]
  | succ f ih =>
    have hm : (4 * b + (f + 1)) % 4 = f + 1 := by omega
    rw [Pipeline.accAt_succ]
    refine (step_at m c ⟨4 * b + (f + 1), h⟩ _ (fun i j => ?_) i j).trans ?_
    · refine (ih (by omega) (by omega) i j).trans ?_
      have hr : rowOf ⟨4 * b + f, by omega⟩ i = rowOf ⟨4 * b + (f + 1), h⟩ i := Fin.ext (by
        show 512 * ((4 * b + f) / 4) + i.val = 512 * ((4 * b + (f + 1)) / 4) + i.val
        omega)
      show _ = stream m c _ j (512 * ((4 * b + (f + 1)) % 4))
      rw [hr, hm]
    · show stream m c _ j (512 * ((4 * b + (f + 1)) % 4 + 1)) = _
      rw [hm]

/-- The call's result: each row plus the output projection of its merged units. -/
theorem result_eq (R : Fin 32768) (j : Fin 2048) :
    (G9 m c : S32768x2048.Idx → EReal) (ix2 R j)
      = argX m c (ix3 (seqOf R) (posOf R) j)
        + ∑ k, unit (argN m c) (argA m c) (argR m c) (argWi m c) (argPa m c) (argPb m c) (seqOf R) (posOf R) k * argWo m c (ix2 k j) := by
  have hp : run9Of (ix2 R j : S32768x2048.Idx) = R.val / 512 := by
    show 1 * (R.val / 512 - 0) + 1 * (j.val / 2048 - 0) = _
    omega
  have hlt : 4 * run9Of (ix2 R j : S32768x2048.Idx) + 3 < cfg0.N := by
    rw [hp]; exact lt_of_lt_of_eq (by omega) N_0.symm
  have hl : loc9Of (ix2 R j : S32768x2048.Idx) = ix2 ⟨R.val % 512, Nat.mod_lt _ (by decide)⟩ j := by
    refine (eq_ix2 _).trans (congrArg₂ ix2 (Fin.ext ?_) (Fin.ext ?_))
    · rfl
    · show j.val % 2048 = j.val
      omega
  unfold G9
  rw [dif_pos hlt, hl, acc_at m c _ 3 (by decide) hlt]
  have hr : rowOf ⟨4 * run9Of (ix2 R j : S32768x2048.Idx) + 3, hlt⟩ ⟨R.val % 512, Nat.mod_lt _ (by decide)⟩ = R := Fin.ext (by
    show 512 * ((4 * run9Of (ix2 R j : S32768x2048.Idx) + 3) / 4) + R.val % 512 = R.val
    rw [hp]; omega)
  rw [hr]
  unfold stream
  rw [show 512 * (3 + 1) = 2048 from rfl, sum_ext]
  rfl

end Cert.Merge

end
-- ==== Proof.MergeRef.lean ====
/-
  The reference of the gated merge, read at an index, and that the call's result is the reference's.
-/
module

public import proofs.«01_k».proof.Proof.MergeValue
public import proofs.«01_k».proof.Proof.Gen.MergeRefIdeal.Read
public import Idealize.ShloMosaic.Lib.IdealHost

@[expose] public section

set_option maxRecDepth 16384

noncomputable section

open scoped BigOperators

namespace Cert.Merge

open Cert.MergeRefIdeal Cert.MergeRefIdeal.Read Cert.Rows Idealize.ShloMosaic Idealize.ShloMosaic.ValueIdx

variable (x0 : (⟨S8x4096x2048, .f32⟩ : BufTy).Contents (Elt Ideal)) (x1 : (⟨S8x4096x2048, .bf16⟩ : BufTy).Contents (Elt Ideal))
  (x2 x3 : (⟨S8x4096x1024, .bf16⟩ : BufTy).Contents (Elt Ideal)) (x4 : (⟨S2048x9216, .f32⟩ : BufTy).Contents (Elt Ideal))
  (x5 x6 : (⟨S1024x2048, .f32⟩ : BufTy).Contents (Elt Ideal)) (x7 : (⟨S2048x2048, .f32⟩ : BufTy).Contents (Elt Ideal))

theorem ref_gateA (p : Fin 8) (q : Fin 4096) (k : Fin 2048) :
    val_main_v4 (F := Ideal) x1 x4 (ix3 p q k) = ∑ j, x1 (ix3 p q j) * x4 (ix2 j (gateA k)) := by
  rw [val_main_v4_apply]
  refine Finset.sum_congr rfl fun j _ => ?_
  rw [show lidx_main_v4 (ix3 p q k) j = ix3 p q j from eq_ix3 _, show ridx_main_v4 (ix3 p q k) j = ix2 j k from eq_ix2 _,
    val_main_v0_apply, val_main_v3_apply, show idx_main_v3 (ix2 j k) = ix2 j (gateA k) from
      (eq_ix2 _).trans (congrArg₂ ix2 (Fin.ext (by show j.val = j.val; rfl)) (Fin.ext (by show _ = 5120 + k.val; first | rfl | exact Nat.add_comm _ _)))]
  rfl

theorem ref_gateB (p : Fin 8) (q : Fin 4096) (k : Fin 2048) :
    val_main_v6 (F := Ideal) x1 x4 (ix3 p q k) = ∑ j, x1 (ix3 p q j) * x4 (ix2 j (gateB k)) := by
  rw [val_main_v6_apply]
  refine Finset.sum_congr rfl fun j _ => ?_
  rw [show lidx_main_v6 (ix3 p q k) j = ix3 p q j from eq_ix3 _, show ridx_main_v6 (ix3 p q k) j = ix2 j k from eq_ix2 _,
    val_main_v0_apply, val_main_v5_apply, show idx_main_v5 (ix2 j k) = ix2 j (gateB k) from
      (eq_ix2 _).trans (congrArg₂ ix2 (Fin.ext (by show j.val = j.val; rfl)) (Fin.ext (by show _ = 7168 + k.val; first | rfl | exact Nat.add_comm _ _)))]
  rfl

theorem ref_projA (p : Fin 8) (q : Fin 4096) (k : Fin 2048) :
    val_main_v13 (F := Ideal) x2 x5 (ix3 p q k) = ∑ j, x2 (ix3 p q j) * x5 (ix2 j k) := by
  rw [val_main_v13_apply]
  refine Finset.sum_congr rfl fun j _ => ?_
  rw [show lidx_main_v13 (ix3 p q k) j = ix3 p q j from eq_ix3 _, show ridx_main_v13 (ix3 p q k) j = ix2 j k from eq_ix2 _, val_main_v1_apply]
  rfl

theorem ref_projB (p : Fin 8) (q : Fin 4096) (k : Fin 2048) :
    val_main_v21 (F := Ideal) x3 x6 (ix3 p q k) = ∑ j, x3 (ix3 p q j) * x6 (ix2 j k) := by
  rw [val_main_v21_apply]
  refine Finset.sum_congr rfl fun j _ => ?_
  rw [show lidx_main_v21 (ix3 p q k) j = ix3 p q j from eq_ix3 _, show ridx_main_v21 (ix3 p q k) j = ix2 j k from eq_ix2 _, val_main_v2_apply]
  rfl

theorem ref_unit (p : Fin 8) (q : Fin 4096) (k : Fin 2048) :
    val_main_v23 (F := Ideal) x1 x2 x3 x4 x5 x6 (ix3 p q k) = unit x1 x2 x3 x4 x5 x6 p q k := by
  rw [val_main_v23_apply, val_main_v14_apply, val_main_v22_apply, val_main_v12_apply, val_main_v11_apply, val_main_v10_apply,
    val_main_v9_apply, val_main_v8_apply, val_main_v7_apply, val_main_v20_apply, val_main_v19_apply, val_main_v18_apply,
    val_main_v17_apply, val_main_v16_apply, val_main_v15_apply, val_main_cst_apply, val_main_cst_0_apply, val_main_cst_1_apply,
    val_main_cst_2_apply, show FloatOps.ofBits (F := Ideal) .f32 0x3F800000#32 = (1 : EReal) from Ideal.ofBits_one_f32,
    ref_gateA, ref_gateB, ref_projA, ref_projB]
  rfl

theorem ref_stream (p : Fin 8) (q : Fin 4096) (j : Fin 2048) :
    val_main_v25 (F := Ideal) x0 x1 x2 x3 x4 x5 x6 x7 (ix3 p q j)
      = x0 (ix3 p q j) + ∑ k, unit x1 x2 x3 x4 x5 x6 p q k * x7 (ix2 k j) := by
  rw [val_main_v25_apply, val_main_v24_apply]
  refine congrArg (fun z : EReal => x0 (ix3 p q j) + z) (Finset.sum_congr rfl fun k _ => ?_)
  rw [show lidx_main_v24 (ix3 p q j) k = ix3 p q k from eq_ix3 _, show ridx_main_v24 (ix3 p q j) k = ix2 k j from eq_ix2 _, ref_unit]

/-- The call's result is the reference's. -/
theorem value_eq (m : (ℓ : Loc nD τ Cert.MergeIdeal.sig) → Buf (Elt Ideal) ℓ) (c : Dev nD) :
    (Cert.MergeIdeal.Value.G9 m c : S32768x2048.Idx → EReal)
      = val_main_v26 (F := Ideal) (argX m c) (argN m c) (argA m c) (argR m c) (argWi m c) (argPa m c) (argPb m c) (argWo m c) := by
  funext y
  obtain ⟨R, j, rfl⟩ : ∃ (R : Fin 32768) (j : Fin 2048), y = ix2 R j := ⟨y 0, y 1, eq_ix2 y⟩
  have hR := R.isLt
  have hj := j.isLt
  rw [val_main_v26_apply, show idx_main_v26 (ix2 R j) = ix3 (seqOf R) (posOf R) j from (eq_ix3 _).trans (by
      refine congr (congrArg₂ ix3 (Fin.ext ?_) (Fin.ext ?_)) (Fin.ext ?_)
      · show (R.val * 2048 + j.val) / 8388608 = R.val / 4096; omega
      · show (R.val * 2048 + j.val) / 2048 % 4096 = R.val % 4096; omega
      · show (R.val * 2048 + j.val) % 2048 = j.val; omega), ref_stream]
  exact result_eq m c R j

end Cert.Merge

end
-- ==== Proof.InprojCases.lean ====
/-
  The body of the call that projects the normed rows, run at each kind of grid point: the first column group of a row
  tile (the norm and the queries), the second (the keys), and the later ones (the plain columns).
-/
module

public import proofs.«01_k».proof.Proof.Gen.InprojIdeal.Frame
public import proofs.«01_k».proof.Proof.Gen.InprojIdeal.Skeleton
public import Idealize.ShloMosaic.Lib.Pipeline.Value

@[expose] public section

set_option maxRecDepth 16384

noncomputable section

namespace Cert.Inproj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Which point does what -/

/-- The conditions of a point's four branches. -/
abbrev isNorm (i : grid0.Coords) : Prop := k0_cond1 i = 1#1
abbrev isQuery (i : grid0.Coords) : Prop := k0_cond2 i = 1#1
abbrev isKey (i : grid0.Coords) : Prop := k0_cond3 i = 1#1
abbrev isPlain (i : grid0.Coords) : Prop := k0_cond4 i = 1#1

theorem branches : ∀ t : Fin grid0.N,
    (isNorm (grid0.coords t) ↔ t.val % 5 = 0) ∧ (isQuery (grid0.coords t) ↔ t.val % 5 = 0)
      ∧ (isKey (grid0.coords t) ↔ t.val % 5 = 1) ∧ (isPlain (grid0.coords t) ↔ 2 ≤ t.val % 5) := by
  decide +kernel

/-! ## The three runs, on any staging buffers -/

section
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S1x128 .f32) (h5 : a5.IsWhole)
  (a6 : Memref sig .tc .vmem S1x128 .f32) (h6 : a6.IsWhole) (a7 : Memref sig .tc .vmem S1024x1024 .bf16) (h7 : a7.IsWhole)
  (a8 : Memref sig .tc .vmem S1024x1024 .f32) (h8 : a8.IsWhole) (a9 : Memref sig .tc .vmem S1024x2048 .bf16) (h9 : a9.IsWhole)
  (x : Vec F S1024x2048 .f32) (g : Vec F S1x2048 .f32) (w : Vec F S2048x1024 .bf16) (qg : Vec F S1x128 .f32) (kg : Vec F S1x128 .f32)

/-- The five inputs' staging buffers at their contents. -/
abbrev inputs : sProp 𝕄 :=
  iprop(owns (c : Thread nD τ) a2 fullShare x ∗ owns (c : Thread nD τ) a3 fullShare g ∗ owns (c : Thread nD τ) a4 fullShare w
    ∗ owns (c : Thread nD τ) a5 fullShare qg ∗ owns (c : Thread nD τ) a6 fullShare kg)

/-- A buffer after stores into it. -/
abbrev stored {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- A whole buffer at the contents a value is read from holds that value. -/
theorem kept {s : Shape} {e : EltTy} (a : Memref sig .tc .vmem s e) (h : a.IsWhole) (X : Vec F s e) :
    (a.view.loc (c : Thread nD τ) ↦[a.view.set]{fullShare} h.unread X : sProp 𝕄)
      ⊢ iprop(∃ f, ⌜a.view.read (Elt F) f = X⌝ ∗ a.view.loc (c : Thread nD τ) ↦[a.view.set]{fullShare} f) := by
  iintro H
  iexists _
  isplitr; · ipureintro; exact h.read_unread _
  iexact H

set_option maxHeartbeats 4000000 in
/-- A row tile's first point stores the normed rows and the queries, and leaves the projections' buffer alone. -/
def firstRun (b1 : isNorm i) (b2 : isQuery i) (b3 : ¬ isKey i) (b4 : ¬ isPlain i) :
    { L : List (View.Piece (Elt F) S1024x1024 .bf16) × List (View.Piece (Elt F) S1024x2048 .bf16) //
      ∀ (E : Set ℕ) (K : PUnit → sProp 𝕄),
        iprop(inputs c a2 a3 a4 a5 a6 x g w qg kg ∗ (∃ d, owns (c : Thread nD τ) a7 fullShare d) ∗ (∃ d, owns (c : Thread nD τ) a9 fullShare d)
            ∗ (iprop(inputs c a2 a3 a4 a5 a6 x g w qg kg ∗ stored c a7 L.1 ∗ stored c a9 L.2) -∗ K ⟨⟩))
          ⊢ wp frame (wpE (defs₀ (F := F)) Variants.none c none) E (cc0_inproj i a2 h2 a3 h3 a4 h4 a5 h5 a6 h6 a7 h7 a8 h8 a9 h9) K } := by
  refine ⟨(?_, ?_), fun E K => ?run⟩
  case run =>
    simp only [cc0_inproj_eq_skeleton]; unfold cc0_inproj_skel
    simp only [k0_part1_eq_skeleton, k0_part2_eq_skeleton, k0_part3_eq_skeleton, k0_part4_eq_skeleton]
    unfold inputs stored owns
    iintro ⟨⟨⟨%f2, %e2, H2⟩, ⟨%f3, %e3, H3⟩, ⟨%f4, %e4, H4⟩, ⟨%f5, %e5, H5⟩, ⟨%f6, %e6, H6⟩⟩, ⟨%d7, %f7, -, H7⟩, ⟨%d9, %f9, -, H9⟩, Hk⟩
    obtain rfl := h2.eq_unread e2; obtain rfl := h3.eq_unread e3; obtain rfl := h4.eq_unread e4
    obtain rfl := h5.eq_unread e5; obtain rfl := h6.eq_unread e6
    sl_exec (disch := first | sl_exact b1 | sl_exact b2 | sl_exact b3 | sl_exact b4)
    sl_step
    iapply Hk
    isplitl [H2 H3 H4 H5 H6]
    · isplitl [H2]; · iapply (kept c a2 h2 x); iexact H2
      isplitl [H3]; · iapply (kept c a3 h3 g); iexact H3
      isplitl [H4]; · iapply (kept c a4 h4 w); iexact H4
      isplitl [H5]; · iapply (kept c a5 h5 qg); iexact H5
      iapply (kept c a6 h6 kg); iexact H6
    isplitl [H7]
    · iexists _; iexact H7
    iexists _; iexact H9

variable (n : Vec F S1024x2048 .bf16)

set_option maxHeartbeats 4000000 in
/-- Its second point reads the normed rows and stores the keys. -/
def keyRun (b1 : ¬ isNorm i) (b2 : ¬ isQuery i) (b3 : isKey i) (b4 : ¬ isPlain i) :
    { L : List (View.Piece (Elt F) S1024x1024 .f32) //
      ∀ (E : Set ℕ) (K : PUnit → sProp 𝕄),
        iprop(inputs c a2 a3 a4 a5 a6 x g w qg kg ∗ (∃ d, owns (c : Thread nD τ) a8 fullShare d) ∗ owns (c : Thread nD τ) a9 fullShare n
            ∗ (iprop(inputs c a2 a3 a4 a5 a6 x g w qg kg ∗ stored c a8 L ∗ owns (c : Thread nD τ) a9 fullShare n) -∗ K ⟨⟩))
          ⊢ wp frame (wpE (defs₀ (F := F)) Variants.none c none) E (cc0_inproj i a2 h2 a3 h3 a4 h4 a5 h5 a6 h6 a7 h7 a8 h8 a9 h9) K } := by
  refine ⟨?_, fun E K => ?run⟩
  case run =>
    simp only [cc0_inproj_eq_skeleton]; unfold cc0_inproj_skel
    simp only [k0_part5_eq_skeleton, k0_part6_eq_skeleton, k0_part7_eq_skeleton]
    unfold inputs stored owns
    iintro ⟨⟨⟨%f2, %e2, H2⟩, ⟨%f3, %e3, H3⟩, ⟨%f4, %e4, H4⟩, ⟨%f5, %e5, H5⟩, ⟨%f6, %e6, H6⟩⟩, ⟨%d8, %f8, -, H8⟩, ⟨%f9, %e9, H9⟩, Hk⟩
    obtain rfl := h2.eq_unread e2; obtain rfl := h3.eq_unread e3; obtain rfl := h4.eq_unread e4
    obtain rfl := h5.eq_unread e5; obtain rfl := h6.eq_unread e6; obtain rfl := h9.eq_unread e9
    sl_exec (disch := first | sl_exact b1 | sl_exact b2 | sl_exact b3 | sl_exact b4)
    sl_step
    iapply Hk
    isplitl [H2 H3 H4 H5 H6]
    · isplitl [H2]; · iapply (kept c a2 h2 x); iexact H2
      isplitl [H3]; · iapply (kept c a3 h3 g); iexact H3
      isplitl [H4]; · iapply (kept c a4 h4 w); iexact H4
      isplitl [H5]; · iapply (kept c a5 h5 qg); iexact H5
      iapply (kept c a6 h6 kg); iexact H6
    isplitl [H8]
    · iexists _; iexact H8
    iapply (kept c a9 h9 n); iexact H9

set_option maxHeartbeats 4000000 in
/-- Each later point reads the normed rows and stores their projection. -/
def plainRun (b1 : ¬ isNorm i) (b2 : ¬ isQuery i) (b3 : ¬ isKey i) (b4 : isPlain i) :
    { L : List (View.Piece (Elt F) S1024x1024 .f32) //
      ∀ (E : Set ℕ) (K : PUnit → sProp 𝕄),
        iprop(inputs c a2 a3 a4 a5 a6 x g w qg kg ∗ (∃ d, owns (c : Thread nD τ) a8 fullShare d) ∗ owns (c : Thread nD τ) a9 fullShare n
            ∗ (iprop(inputs c a2 a3 a4 a5 a6 x g w qg kg ∗ stored c a8 L ∗ owns (c : Thread nD τ) a9 fullShare n) -∗ K ⟨⟩))
          ⊢ wp frame (wpE (defs₀ (F := F)) Variants.none c none) E (cc0_inproj i a2 h2 a3 h3 a4 h4 a5 h5 a6 h6 a7 h7 a8 h8 a9 h9) K } := by
  refine ⟨?_, fun E K => ?run⟩
  case run =>
    simp only [cc0_inproj_eq_skeleton]; unfold cc0_inproj_skel
    unfold inputs stored owns
    iintro ⟨⟨⟨%f2, %e2, H2⟩, ⟨%f3, %e3, H3⟩, ⟨%f4, %e4, H4⟩, ⟨%f5, %e5, H5⟩, ⟨%f6, %e6, H6⟩⟩, ⟨%d8, %f8, -, H8⟩, ⟨%f9, %e9, H9⟩, Hk⟩
    obtain rfl := h2.eq_unread e2; obtain rfl := h3.eq_unread e3; obtain rfl := h4.eq_unread e4
    obtain rfl := h5.eq_unread e5; obtain rfl := h6.eq_unread e6; obtain rfl := h9.eq_unread e9
    sl_exec (disch := first | sl_exact b1 | sl_exact b2 | sl_exact b3 | sl_exact b4)
    sl_step
    iapply Hk
    isplitl [H2 H3 H4 H5 H6]
    · isplitl [H2]; · iapply (kept c a2 h2 x); iexact H2
      isplitl [H3]; · iapply (kept c a3 h3 g); iexact H3
      isplitl [H4]; · iapply (kept c a4 h4 w); iexact H4
      isplitl [H5]; · iapply (kept c a5 h5 qg); iexact H5
      iapply (kept c a6 h6 kg); iexact H6
    isplitl [H8]
    · iexists _; iexact H8
    iapply (kept c a9 h9 n); iexact H9

/-! ## What the stores leave -/

theorem query_cover (b1 : isNorm i) (b2 : isQuery i) (b3 : ¬ isKey i) (b4 : ¬ isPlain i) :
    ∀ y : S1024x1024.Idx, ∃ p ∈ (firstRun (F := F) c i a2 h2 a3 h3 a4 h4 a5 h5 a6 h6 a7 h7 a8 h8 a9 h9 x g w qg kg b1 b2 b3 b4).1.1, y ∈ p.1.set :=
  View.cover_of_tiledL _ S1024x128.size (by sl_kernel_rfl)

theorem norm_cover (b1 : isNorm i) (b2 : isQuery i) (b3 : ¬ isKey i) (b4 : ¬ isPlain i) :
    ∀ y : S1024x2048.Idx, ∃ p ∈ (firstRun (F := F) c i a2 h2 a3 h3 a4 h4 a5 h5 a6 h6 a7 h7 a8 h8 a9 h9 x g w qg kg b1 b2 b3 b4).1.2, y ∈ p.1.set :=
  View.cover_of_tiledL _ S1024x2048.size (by sl_kernel_rfl)

theorem key_cover (b1 : ¬ isNorm i) (b2 : ¬ isQuery i) (b3 : isKey i) (b4 : ¬ isPlain i) :
    ∀ y : S1024x1024.Idx, ∃ p ∈ (keyRun (F := F) c i a2 h2 a3 h3 a4 h4 a5 h5 a6 h6 a7 h7 a8 h8 a9 h9 x g w qg kg n b1 b2 b3 b4).1, y ∈ p.1.set :=
  View.cover_of_tiledL _ S1024x128.size (by sl_kernel_rfl)

theorem plain_cover (b1 : ¬ isNorm i) (b2 : ¬ isQuery i) (b3 : ¬ isKey i) (b4 : isPlain i) :
    ∀ y : S1024x1024.Idx, ∃ p ∈ (plainRun (F := F) c i a2 h2 a3 h3 a4 h4 a5 h5 a6 h6 a7 h7 a8 h8 a9 h9 x g w qg kg n b1 b2 b3 b4).1, y ∈ p.1.set :=
  View.cover_of_tiledL _ S1024x1024.size (by sl_kernel_rfl)

theorem origin : (![0, 0] : Fin 2 → Nat) = fun _ => 0 := funext fun a => by fin_cases a <;> rfl

end

/-- A tile's queries from its normed rows, as its first point stores them: head by head, the last stored first. -/
def queryHeads (n : Vec F S1024x2048 .bf16) (w : Vec F S2048x1024 .bf16) (gain : Vec F S1x128 .f32) :
    List (View.Piece (Elt F) S1024x1024 .bf16) :=
    [⟨Rect.unit ![0, 896] ![1024, 128] inb_S1024x1024_S1024x128_0_896, k0_pay17 n (View.ld w (Rect.unit ![0, 768] ![2048, 256] inb_S2048x1024_S2048x256_0_768)) gain⟩,
     ⟨Rect.unit ![0, 768] ![1024, 128] inb_S1024x1024_S1024x128_0_768, k0_pay16 n (View.ld w (Rect.unit ![0, 768] ![2048, 256] inb_S2048x1024_S2048x256_0_768)) gain⟩,
     ⟨Rect.unit ![0, 640] ![1024, 128] inb_S1024x1024_S1024x128_0_640, k0_pay14 n (View.ld w (Rect.unit ![0, 512] ![2048, 256] inb_S2048x1024_S2048x256_0_512)) gain⟩,
     ⟨Rect.unit ![0, 512] ![1024, 128] inb_S1024x1024_S1024x128_0_512, k0_pay13 n (View.ld w (Rect.unit ![0, 512] ![2048, 256] inb_S2048x1024_S2048x256_0_512)) gain⟩,
     ⟨Rect.unit ![0, 384] ![1024, 128] inb_S1024x1024_S1024x128_0_384, k0_pay11 n (View.ld w (Rect.unit ![0, 256] ![2048, 256] inb_S2048x1024_S2048x256_0_256)) gain⟩,
     ⟨Rect.unit ![0, 256] ![1024, 128] inb_S1024x1024_S1024x128_0_256, k0_pay10 n (View.ld w (Rect.unit ![0, 256] ![2048, 256] inb_S2048x1024_S2048x256_0_256)) gain⟩,
     ⟨Rect.unit ![0, 128] ![1024, 128] inb_S1024x1024_S1024x128_0_128, k0_pay8 n (View.ld w (Rect.unit ![0, 0] ![2048, 256] inb_S2048x1024_S2048x256_0_0)) gain⟩,
     ⟨Rect.unit ![0, 0] ![1024, 128] inb_S1024x1024_S1024x128_0_0, k0_pay7 n (View.ld w (Rect.unit ![0, 0] ![2048, 256] inb_S2048x1024_S2048x256_0_0)) gain⟩]

/-- A tile's keys, as its second point stores them. -/
def keyHeads (n : Vec F S1024x2048 .bf16) (w : Vec F S2048x1024 .bf16) (gain : Vec F S1x128 .f32) :
    List (View.Piece (Elt F) S1024x1024 .f32) :=
    [⟨Rect.unit ![0, 896] ![1024, 128] inb_S1024x1024_S1024x128_0_896, k0_pay4 (k0_pay28 n) (View.ld w (Rect.unit ![0, 768] ![2048, 256] inb_S2048x1024_S2048x256_0_768)) gain⟩,
     ⟨Rect.unit ![0, 768] ![1024, 128] inb_S1024x1024_S1024x128_0_768, k0_pay3 (k0_pay28 n) (View.ld w (Rect.unit ![0, 768] ![2048, 256] inb_S2048x1024_S2048x256_0_768)) gain⟩,
     ⟨Rect.unit ![0, 640] ![1024, 128] inb_S1024x1024_S1024x128_0_640, k0_pay27 (k0_pay24 n) (View.ld w (Rect.unit ![0, 512] ![2048, 256] inb_S2048x1024_S2048x256_0_512)) gain⟩,
     ⟨Rect.unit ![0, 512] ![1024, 128] inb_S1024x1024_S1024x128_0_512, k0_pay26 (k0_pay24 n) (View.ld w (Rect.unit ![0, 512] ![2048, 256] inb_S2048x1024_S2048x256_0_512)) gain⟩,
     ⟨Rect.unit ![0, 384] ![1024, 128] inb_S1024x1024_S1024x128_0_384, k0_pay23 n (View.ld w (Rect.unit ![0, 256] ![2048, 256] inb_S2048x1024_S2048x256_0_256)) gain⟩,
     ⟨Rect.unit ![0, 256] ![1024, 128] inb_S1024x1024_S1024x128_0_256, k0_pay22 n (View.ld w (Rect.unit ![0, 256] ![2048, 256] inb_S2048x1024_S2048x256_0_256)) gain⟩,
     ⟨Rect.unit ![0, 128] ![1024, 128] inb_S1024x1024_S1024x128_0_128, k0_pay20 n (View.ld w (Rect.unit ![0, 0] ![2048, 256] inb_S2048x1024_S2048x256_0_0)) gain⟩,
     ⟨Rect.unit ![0, 0] ![1024, 128] inb_S1024x1024_S1024x128_0_0, k0_pay19 n (View.ld w (Rect.unit ![0, 0] ![2048, 256] inb_S2048x1024_S2048x256_0_0)) gain⟩]

section
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S1x128 .f32) (h5 : a5.IsWhole)
  (a6 : Memref sig .tc .vmem S1x128 .f32) (h6 : a6.IsWhole) (a7 : Memref sig .tc .vmem S1024x1024 .bf16) (h7 : a7.IsWhole)
  (a8 : Memref sig .tc .vmem S1024x1024 .f32) (h8 : a8.IsWhole) (a9 : Memref sig .tc .vmem S1024x2048 .bf16) (h9 : a9.IsWhole)
  (x : Vec F S1024x2048 .f32) (g : Vec F S1x2048 .f32) (w : Vec F S2048x1024 .bf16) (qg : Vec F S1x128 .f32) (kg : Vec F S1x128 .f32)
  (n : Vec F S1024x2048 .bf16)

theorem first_queries (b1 : isNorm i) (b2 : isQuery i) (b3 : ¬ isKey i) (b4 : ¬ isPlain i) :
    (firstRun (F := F) c i a2 h2 a3 h3 a4 h4 a5 h5 a6 h6 a7 h7 a8 h8 a9 h9 x g w qg kg b1 b2 b3 b4).1.1
      = queryHeads (k0_pay1 x g) w qg := by
  unfold firstRun queryHeads
  dsimp only
  sl_unfold_words
  simp only [View.readAt_eq_ld, h2.read_unread, h3.read_unread, h4.read_unread, h5.read_unread, h6.read_unread]
  simp only [View.ld_unit_zero (S := S1024x2048) origin, View.ld_unit_zero (S := S1x2048) origin, View.ld_unit_zero (S := S2048x1024) origin, View.ld_unit_zero (S := S1x128) origin, View.readCov_unit_zero (S := S1024x2048) _ origin]

theorem first_normed (b1 : isNorm i) (b2 : isQuery i) (b3 : ¬ isKey i) (b4 : ¬ isPlain i) :
    View.canon (firstRun (F := F) c i a2 h2 a3 h3 a4 h4 a5 h5 a6 h6 a7 h7 a8 h8 a9 h9 x g w qg kg b1 b2 b3 b4).1.2
      = k0_pay1 x g := by
  unfold firstRun
  dsimp only
  sl_unfold_words
  simp only [View.readAt_eq_ld, h2.read_unread, h3.read_unread, h4.read_unread, h5.read_unread, h6.read_unread]
  simp only [View.ld_unit_zero (S := S1024x2048) origin, View.ld_unit_zero (S := S1x2048) origin, View.ld_unit_zero (S := S2048x1024) origin, View.ld_unit_zero (S := S1x128) origin, View.canon_unit_zero (S := S1024x2048) origin]

theorem key_keys (b1 : ¬ isNorm i) (b2 : ¬ isQuery i) (b3 : isKey i) (b4 : ¬ isPlain i) :
    (keyRun (F := F) c i a2 h2 a3 h3 a4 h4 a5 h5 a6 h6 a7 h7 a8 h8 a9 h9 x g w qg kg n b1 b2 b3 b4).1
      = keyHeads n w kg := by
  unfold keyRun keyHeads
  dsimp only
  sl_unfold_words
  simp only [View.readAt_eq_ld, h2.read_unread, h3.read_unread, h4.read_unread, h5.read_unread, h6.read_unread, h9.read_unread]
  simp only [View.ld_unit_zero (S := S1024x2048) origin, View.ld_unit_zero (S := S1x2048) origin, View.ld_unit_zero (S := S2048x1024) origin, View.ld_unit_zero (S := S1x128) origin]

theorem plain_columns (b1 : ¬ isNorm i) (b2 : ¬ isQuery i) (b3 : ¬ isKey i) (b4 : isPlain i) :
    View.canon (plainRun (F := F) c i a2 h2 a3 h3 a4 h4 a5 h5 a6 h6 a7 h7 a8 h8 a9 h9 x g w qg kg n b1 b2 b3 b4).1
      = k0_pay5 n w := by
  unfold plainRun
  dsimp only
  sl_unfold_words
  simp only [View.readAt_eq_ld, h2.read_unread, h3.read_unread, h4.read_unread, h5.read_unread, h6.read_unread, h9.read_unread]
  simp only [View.ld_unit_zero (S := S1024x2048) origin, View.ld_unit_zero (S := S1x2048) origin, View.ld_unit_zero (S := S2048x1024) origin, View.ld_unit_zero (S := S1x128) origin, View.canon_unit_zero (S := S1024x1024) origin]

end

end Cert.Inproj

end
-- ==== Proof.InprojRun.lean ====
/-
  The call that projects the normed rows: what its three outputs' buffers hold after each grid point, the body's triple
  at every point, and the run of the whole program, over any float values.

  A row tile takes five points. The first stores the tile's normed rows and queries, which are written back only after
  the fifth; the second stores the keys and each later one its plain columns, written back after the point itself.
-/
module

public import proofs.«01_k».proof.Proof.InprojCases
public import Idealize.ShloMosaic.Lib.Pipeline.TableIdle
public import Idealize.ShloMosaic.Lib.Claim

@[expose] public section

set_option maxRecDepth 16384

noncomputable section

namespace Cert.Inproj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem points (t : Fin cfg0.N) : t.val < 160 := lt_of_lt_of_eq t.isLt (show cfg0.N = 160 from N_0)

theorem flush0_6 : ∀ t : Fin cfg0.N, (cfg0.win 6).flush t = true ↔ t.val % 5 ≠ 0 := fun t => by
  rw [Pipeline.Window.flush_eq_flushF]
  revert t
  decide +kernel

/-- Where the body stores into each output. -/
theorem stores : ∀ t : Fin cfg0.N,
    (cfg0.idle 5 (cfg0.grid.coords t) = false ↔ t.val % 5 = 0) ∧ (cfg0.idle 6 (cfg0.grid.coords t) = false ↔ t.val % 5 ≠ 0)
      ∧ (cfg0.idle 7 (cfg0.grid.coords t) = false ↔ t.val % 5 = 0) := by
  decide +kernel

/-- The queries' and the normed rows' buffers hold nothing stored exactly when a row tile begins. -/
theorem fresh_iff (w : Fin cfg0.W) (hw : ∀ t : Fin cfg0.N, (cfg0.win w).flush t = true ↔ t.val % 5 = 4)
    (hs : ∀ t : Fin cfg0.N, cfg0.idle w (cfg0.grid.coords t) = false ↔ t.val % 5 = 0) (t : Fin cfg0.N) :
    cfg0.fresh w t.val = decide (t.val % 5 = 0) := by
  refine cfg0.fresh_tab w (fun n => decide (n % 5 = 0)) rfl (fun t => ?_) t.val t.isLt.le
  by_cases h4 : t.val % 5 = 4
  · rw [(hw t).mpr h4, Bool.true_or]
    exact decide_eq_true (by omega)
  · have hf : (cfg0.win w).flush t = false := Bool.eq_false_iff.mpr fun h => h4 ((hw t).mp h)
    rw [hf, Bool.false_or]
    have e : decide ((t.val + 1) % 5 = 0) = false := decide_eq_false (by omega)
    refine e.trans ?_
    by_cases h0 : t.val % 5 = 0
    · rw [(hs t).mpr h0, Bool.false_and]
    · show false = (_ && decide (t.val % 5 = 0))
      rw [decide_eq_false h0, Bool.and_false]

/-- The first point of a point's row tile. -/
def tileStart (t : Fin cfg0.N) : Fin cfg0.N := ⟨5 * (t.val / 5), lt_of_le_of_lt (Nat.mul_div_le _ _) t.isLt⟩

theorem tileStart_self (t : Fin cfg0.N) (h : t.val % 5 = 0) : tileStart t = t := Fin.ext (by show 5 * (t.val / 5) = t.val; omega)

theorem tileStart_pred (t : Fin cfg0.N) (h : t.val % 5 ≠ 0) (hp : t.val - 1 < cfg0.N) : tileStart ⟨t.val - 1, hp⟩ = tileStart t :=
  Fin.ext (by show 5 * ((t.val - 1) / 5) = 5 * (t.val / 5); omega)

/-! ## What the outputs' buffers hold -/

/-- The tile's normed rows, its queries, and a point's projected columns. -/
def rowsAt (c : Dev nD) (t : Fin cfg0.N) : Vec F S1024x2048 .bf16 := k0_pay1 (iblk m c 0 (tileStart t)) (iblk m c 1 (tileStart t))

def queriesAt (c : Dev nD) (t : Fin cfg0.N) : Vec F S1024x1024 .bf16 :=
  View.canon (queryHeads (rowsAt m c t) (iblk m c 2 (tileStart t)) (iblk m c 3 (tileStart t)))

def columnsAt (c : Dev nD) (t : Fin cfg0.N) : Vec F S1024x1024 .f32 :=
  if t.val % 5 = 1 then View.canon (keyHeads (rowsAt m c t) (iblk m c 2 t) (iblk m c 4 t)) else k0_pay5 (rowsAt m c t) (iblk m c 2 t)

theorem rowsAt_pred (c : Dev nD) (t : Fin cfg0.N) (h : t.val % 5 ≠ 0) (hp : t.val - 1 < cfg0.N) : rowsAt m c ⟨t.val - 1, hp⟩ = rowsAt m c t := by
  unfold rowsAt; rw [tileStart_pred t h hp]

theorem queriesAt_pred (c : Dev nD) (t : Fin cfg0.N) (h : t.val % 5 ≠ 0) (hp : t.val - 1 < cfg0.N) :
    queriesAt m c ⟨t.val - 1, hp⟩ = queriesAt m c t := by
  unfold queriesAt; rw [rowsAt_pred m c t h hp, tileStart_pred t h hp]

/-- The pipeline's proof data: each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => queriesAt m c t
    | ⟨6, _⟩ => columnsAt m c t
    | ⟨7, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = queriesAt m c t := by dsimp only [dats]
theorem after_6 (c : Dev nD) (t : Fin cfg0.N) : (dats m 0 c).after 6 t = columnsAt m c t := by dsimp only [dats]
theorem after_7 (c : Dev nD) (t : Fin cfg0.N) : (dats m 0 c).after 7 t = rowsAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- After a row tile's first point the body finds the tile's queries in their buffer, and its normed rows in theirs. -/
theorem before_5 (c : Dev nD) (t : Fin cfg0.N) (h : t.val % 5 ≠ 0) (d) : (dats m 0 c).before 5 t d = queriesAt m c t := by
  have hs : ∀ t : Fin cfg0.N, cfg0.idle 5 (cfg0.grid.coords t) = false ↔ t.val % 5 = 0 := fun t => (stores t).1
  rw [Dat.before_out_traj (dats m 0 c) 5 rfl (fun _ _ => rfl) (fun s _ hi _ => by
      have h' : s.val % 5 ≠ 0 := fun h => absurd ((hs s).mpr h) (by rw [hi]; decide)
      rw [after_5, after_5, queriesAt_pred m c s h' _]) t.val t rfl d,
    fresh_iff 5 flush0_5 hs t, decide_eq_false h, if_neg Bool.false_ne_true, after_5, queriesAt_pred m c t h _]

theorem before_7 (c : Dev nD) (t : Fin cfg0.N) (h : t.val % 5 ≠ 0) (d) : (dats m 0 c).before 7 t d = rowsAt m c t := by
  have hs : ∀ t : Fin cfg0.N, cfg0.idle 7 (cfg0.grid.coords t) = false ↔ t.val % 5 = 0 := fun t => (stores t).2.2
  rw [Dat.before_out_traj (dats m 0 c) 7 rfl (fun _ _ => rfl) (fun s _ hi _ => by
      have h' : s.val % 5 ≠ 0 := fun h => absurd ((hs s).mpr h) (by rw [hi]; decide)
      rw [after_7, after_7, rowsAt_pred m c s h' _]) t.val t rfl d,
    fresh_iff 7 flush0_7 hs t, decide_eq_false h, if_neg Bool.false_ne_true, after_7, rowsAt_pred m c t h _]

/-! ## What the body must leave in the outputs' buffers -/

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- Where the body stores nothing into an output, its buffer comes back as it was found; where that is then written
    back, the buffer already held what is due. -/
theorem leaves_kept (c : Dev nD) (w : Fin cfg0.W) (t : Fin cfg0.N) (hi : cfg0.idle w (cfg0.grid.coords t) = true)
    (hb : ∀ d, (cfg0.win w).flush t = true → (dats m 0 c).before w t d = (dats m 0 c).after w t) (d) :
    owns (c : Thread nD τ) ((cfg0.win w).stage (cfg0.slots t w)) fullShare ((dats m 0 c).before w t d)
      ⊢ ((dats m 0 c).leavesExact w t : sProp 𝕄) := by
  unfold Dat.leavesExact; rw [hi]
  cases hf : (cfg0.win w).flush t
  · iintro H; iexists d; iexact H
  · rw [hb d hf]

theorem idle_of_not {b : Bool} (h : ¬ b = false) : b = true := by cases b <;> simp_all

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t)

/-- A buffer covered by stores holds what they add up to. -/
theorem covered {s : Shape} {e : EltTy} (c : Dev nD) (a : Memref sig .tc .vmem s e) (L : List (View.Piece (Elt F) s e)) (X : Vec F s e)
    (hc : ∀ y, ∃ p ∈ L, y ∈ p.1.set) (hX : View.canon L = X) : stored c a L ⊢ (owns (c : Thread nD τ) a fullShare X : sProp 𝕄) := by
  subst hX
  unfold stored owns
  iintro ⟨%f, H⟩
  iexists _
  isplitr; swap; · iexact H
  ipureintro; exact View.read_writes_eq_canon _ _ _ hc

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl, after_0, after_1, after_2, after_3, after_4]
  obtain ⟨c1, c2, c3, c4⟩ := branches t
  obtain ⟨s5, s6, s7⟩ := stores t
  by_cases h0 : t.val % 5 = 0
  · have b1 := c1.mpr h0
    have b2 := c2.mpr h0
    have b3 : ¬ isKey (grid0.coords t) := fun h => by have := c3.mp h; omega
    have b4 : ¬ isPlain (grid0.coords t) := fun h => by have := c4.mp h; omega
    rw [leaves_live m c 5 t (s5.mpr h0), leaves_live m c 7 t (s7.mpr h0), after_5, after_7]
    have hq : queriesAt m c t = View.canon (queryHeads (k0_pay1 (iblk m c 0 t) (iblk m c 1 t)) (iblk m c 2 t) (iblk m c 3 t)) := by
      unfold queriesAt rowsAt; rw [tileStart_self t h0]
    have hr : rowsAt m c t = k0_pay1 (iblk m c 0 t) (iblk m c 1 t) := by unfold rowsAt; rw [tileStart_self t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRun c (grid0.coords t) _ _ _ _ _ _ _ _ _ _ _ _ _ _ _ _ (iblk m c 0 t) (iblk m c 1 t) (iblk m c 2 t) (iblk m c 3 t) (iblk m c 4 t) b1 b2 b3 b4).2 Set.univ _)
    isplitl [H0 H1 H2 H3 H4]
    · unfold inputs
      isplitl [H0]; · iexact H0
      isplitl [H1]; · iexact H1
      isplitl [H2]; · iexact H2
      isplitl [H3]; · iexact H3
      iexact H4
    isplitl [H5]; · iexists _; iexact H5
    isplitl [H7]; · iexists _; iexact H7
    iintro ⟨⟨H0, H1, H2, H3, H4⟩, H5, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (covered c _ _ _ (query_cover c _ _ _ _ _ _ _ _ _ _ _ _ _ _ _ _ _ _ _ _ _ _ b1 b2 b3 b4)
        ((congrArg View.canon (first_queries c _ _ _ _ _ _ _ _ _ _ _ _ _ _ _ _ _ _ _ _ _ _ b1 b2 b3 b4)).trans hq.symm))
      iexact H5
    isplitl [H6]
    · iapply (leaves_kept m c 6 t (idle_of_not fun h => s6.mp h h0) (fun _ hf => absurd h0 ((flush0_6 t).mp hf)) d6)
      iexact H6
    iapply (covered c _ _ _ (norm_cover c _ _ _ _ _ _ _ _ _ _ _ _ _ _ _ _ _ _ _ _ _ _ b1 b2 b3 b4)
      ((first_normed c _ _ _ _ _ _ _ _ _ _ _ _ _ _ _ _ _ _ _ _ _ _ b1 b2 b3 b4).trans hr.symm))
    iexact H7
  · have b1 : ¬ isNorm (grid0.coords t) := fun h => h0 (c1.mp h)
    have b2 : ¬ isQuery (grid0.coords t) := fun h => h0 (c2.mp h)
    have k5 := leaves_kept m c 5 t (idle_of_not fun h => h0 (s5.mp h)) (fun d _ => (before_5 m c t h0 d).trans (after_5 m c t).symm)
    have k7 := leaves_kept m c 7 t (idle_of_not fun h => h0 (s7.mp h)) (fun d _ => (before_7 m c t h0 d).trans (after_7 m c t).symm)
    rw [leaves_live m c 6 t (s6.mpr h0), after_6]
    by_cases h1 : t.val % 5 = 1
    · have b3 := c3.mpr h1
      have b4 : ¬ isPlain (grid0.coords t) := fun h => by have := c4.mp h; omega
      have hk : columnsAt m c t = View.canon (keyHeads (rowsAt m c t) (iblk m c 2 t) (iblk m c 4 t)) := by
        unfold columnsAt; rw [if_pos h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((keyRun c (grid0.coords t) _ _ _ _ _ _ _ _ _ _ _ _ _ _ _ _ (iblk m c 0 t) (iblk m c 1 t) (iblk m c 2 t) (iblk m c 3 t) (iblk m c 4 t) ((dats m 0 c).before 7 t d7) b1 b2 b3 b4).2 Set.univ _)
      isplitl [H0 H1 H2 H3 H4]
      · unfold inputs
        isplitl [H0]; · iexact H0
        isplitl [H1]; · iexact H1
        isplitl [H2]; · iexact H2
        isplitl [H3]; · iexact H3
        iexact H4
      isplitl [H6]; · iexists _; iexact H6
      isplitl [H7]; · iexact H7
      iintro ⟨⟨H0, H1, H2, H3, H4⟩, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iapply (k5 d5); iexact H5
      isplitl [H6]
      · iapply (covered c _ _ _ (key_cover c _ _ _ _ _ _ _ _ _ _ _ _ _ _ _ _ _ _ _ _ _ _ _ b1 b2 b3 b4)
          ((congrArg View.canon ((key_keys c _ _ _ _ _ _ _ _ _ _ _ _ _ _ _ _ _ _ _ _ _ _ _ b1 b2 b3 b4).trans
            (congrArg (fun n => keyHeads n (iblk m c 2 t) (iblk m c 4 t)) (before_7 m c t h0 d7)))).trans hk.symm))
        iexact H6
      iapply (k7 d7); iexact H7
    · have b3 : ¬ isKey (grid0.coords t) := fun h => h1 (c3.mp h)
      have b4 : isPlain (grid0.coords t) := c4.mpr (by omega)
      have hk : columnsAt m c t = k0_pay5 (rowsAt m c t) (iblk m c 2 t) := by
        unfold columnsAt; rw [if_neg h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((plainRun c (grid0.coords t) _ _ _ _ _ _ _ _ _ _ _ _ _ _ _ _ (iblk m c 0 t) (iblk m c 1 t) (iblk m c 2 t) (iblk m c 3 t) (iblk m c 4 t) ((dats m 0 c).before 7 t d7) b1 b2 b3 b4).2 Set.univ _)
      isplitl [H0 H1 H2 H3 H4]
      · unfold inputs
        isplitl [H0]; · iexact H0
        isplitl [H1]; · iexact H1
        isplitl [H2]; · iexact H2
        isplitl [H3]; · iexact H3
        iexact H4
      isplitl [H6]; · iexists _; iexact H6
      isplitl [H7]; · iexact H7
      iintro ⟨⟨H0, H1, H2, H3, H4⟩, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iapply (k5 d5); iexact H5
      isplitl [H6]
      · iapply (covered c _ _ _ (plain_cover c _ _ _ _ _ _ _ _ _ _ _ _ _ _ _ _ _ _ _ _ _ _ _ b1 b2 b3 b4)
          ((plain_columns c _ _ _ _ _ _ _ _ _ _ _ _ _ _ _ _ _ _ _ _ _ _ _ b1 b2 b3 b4).trans
            ((congrArg (fun n => k0_pay5 n (iblk m c 2 t)) (before_7 m c t h0 d7)).trans hk.symm)))
        iexact H6
      iapply (k7 d7); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends, with every array of the pipeline at what the proof data say, every other unscoped buffer as it
    was, and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What is left of the arguments after the run: what was given. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Inproj

end
-- ==== Proof.InprojValue.lean ====
/-
  The results of the call that projects the normed rows, in terms of its arguments: the queries and the keys with their
  heads normed, the plain columns, and the normed rows themselves.
-/
module

public import proofs.«01_k».proof.Proof.Heads
public import proofs.«01_k».proof.Proof.InprojRun

@[expose] public section

set_option maxRecDepth 16384

noncomputable section

open scoped BigOperators

namespace Cert.Inproj

open Cert.InprojIdeal Cert.InprojIdeal.Gen Cert.Rows Idealize.ShloMosaic Idealize.ShloMosaic.ValueIdx Idealize.ShloMosaic.TcCoe

/-! ## One block -/

theorem rows_apply (x : Vec Ideal S1024x2048 .f32) (g : Vec Ideal S1x2048 .f32) (r : Fin 1024) (c : Fin 2048) :
    k0_pay1 (F := Ideal) x g (ix2 r c) = normBlk x g (ix2 r c) := by
  unfold k0_pay1
  rw [shapeCast_self, shapeCast_self]
  exact norm_apply (by decide) (by decide) _ x g _ _ _ _ _ _ r c

/-- A block's rows times a block of columns. -/
def colsBlk (n : S1024x2048.Idx → EReal) (w : S2048x1024.Idx → EReal) (y : S1024x1024.Idx) : EReal :=
  ∑ j : Fin 2048, n (ix2 (y 0) j) * w (ix2 j (y 1))

theorem plain_apply (n : Vec Ideal S1024x2048 .bf16) (w : Vec Ideal S2048x1024 .bf16) (r c : Fin 1024) :
    k0_pay5 (F := Ideal) n w (ix2 r c) = colsBlk n w (ix2 r c) := by
  unfold k0_pay5
  rw [shapeCast_self, shapeCast_self]
  exact Dots.matmul_nn (φ₁ := .bf16) (φ₂ := .bf16) _ rfl rfl rfl rfl rfl rfl none n w r c

/-- Those products with their heads normed. -/
def headsBlk (n : S1024x2048.Idx → EReal) (w : S2048x1024.Idx → EReal) (gain : S1x128.Idx → EReal) (y : S1024x1024.Idx) : EReal :=
  headRms (by decide : 128 ∣ 1024) (fun c => colsBlk n w (ix2 (y 0) c)) (fun k => gain (ix2 (0 : Fin 1) k)) (y 1)

section
variable (n : Vec Ideal S1024x2048 .bf16) (w : Vec Ideal S2048x1024 .bf16) (gain : Vec Ideal S1x128 .f32)

/-- The products with two heads' columns, as the call forms them before it splits the two. -/
def pairCols (o : Nat) (inb : ∀ a, (![0, o] : Fin 2 → Nat) a + S2048x256.size a ≤ S2048x1024.size a) : FVec Ideal S1024x256 .f32 :=
  matmul (F := Ideal) (φ₁ := .bf16) (φ₂ := .bf16) dot_S1024x2048_S2048x256_S1024x256_1_0_0_1_n_n none n (View.ld w (Rect.unit (s := S2048x1024) ![0, o] S2048x256.size inb)) (constant S1024x256 .f32 0x00000000#32)

theorem pairCols_apply (o : Nat) (inb) (r : Fin 1024) (k : Fin 256) (h : o + k.val < 1024) :
    pairCols n w o inb (ix2 r k) = colsBlk n w (ix2 r ⟨o + k.val, h⟩) := by
  unfold pairCols
  refine (Dots.matmul_nn (φ₁ := .bf16) (φ₂ := .bf16) _ rfl rfl rfl rfl rfl rfl none n _ r k).trans ?_
  unfold colsBlk
  refine Finset.sum_congr rfl fun j _ => congrArg (fun z : EReal => n (ix2 r j) * z) ?_
  show w ((Rect.unit (s := S2048x1024) ![0, o] S2048x256.size inb).emb (ix2 j k)) = _
  rw [emb_cols _ _ j k h]

/-- One head as the call forms it, from the two heads' columns `v`. -/
def headOf (s : Nat) (hs : S1024x256.Slices ![0, s] S1024x128) (v : FVec Ideal S1024x256 .f32) : FVec Ideal S1024x128 .f32 :=
  mulf (mulf (extractStridedSlice S1024x128 ![0, s] v hs) (broadcastTo S1024x128 (rsqrt (addf (divf
      (shapeCast S1024x1 (multiReduction (F := Ideal) FKind.add [1] S1024
        (mulf (extractStridedSlice S1024x128 ![0, s] v hs) (extractStridedSlice S1024x128 ![0, s] v hs)) 0x00000000#32 reduces_S1024x128_S1024 (.inl rfl) rfl) shapeCasts_S1024_S1024x1)
      (broadcast S1024x1 (Scalar.ofBits (F := Ideal) .f32 0x43000000#32)))
      (broadcast S1024x1 (Scalar.ofBits (F := Ideal) .f32 0x358637BD#32)))) broadcasts_S1024x1_S1024x128))
    (broadcastTo S1024x128 gain broadcasts_S1x128_S1024x128)

/-- Head `i` of the block is what the call makes of its columns. -/
theorem head_eq (i o s : Nat) (hi : o + s = 128 * i) (hb : 128 * i + 128 ≤ 1024) (inb) (hs : S1024x256.Slices ![0, s] S1024x128) (hs' : s + 128 ≤ 256)
    (inb' : ∀ a, (![0, 128 * i] : Fin 2 → Nat) a + S1024x128.size a ≤ S1024x1024.size a) (z : S1024x128.Idx) :
    headOf gain s hs (pairCols n w o inb) z = headsBlk n w gain ((Rect.unit (s := S1024x1024) ![0, 128 * i] S1024x128.size inb').emb z) := by
  obtain ⟨r, c, rfl⟩ : ∃ (r : Fin 1024) (c : Fin 128), z = ix2 r c := ⟨z 0, z 1, eq_ix2 z⟩
  rw [emb_cols _ _ r c (by omega)]
  unfold headOf
  refine (head_apply (by decide : 128 ∣ 1024) (by decide) i (colsBlk n w) _ gain hb (fun r k => ?_) _ _ _ _ _ _ r c).trans rfl
  rw [slice_apply s _ hs r k (by omega), pairCols_apply n w o inb r _ (by show o + (s + k.val) < 1024; omega)]
  exact congrArg (fun j => colsBlk n w (ix2 r j)) (Fin.ext (by show o + (s + k.val) = 128 * i + k.val; omega))

/-- The eight heads stored are the block of queries. -/
theorem queries_block : View.canon (queryHeads (F := Ideal) n w gain) = headsBlk n w gain := by
  have cover : ∀ y, ∃ p ∈ queryHeads (F := Ideal) n w gain, y ∈ p.1.set := View.cover_of_tiledL _ S1024x128.size (by sl_kernel_rfl)
  funext y
  refine View.canon_apply_of_pieces (headsBlk n w gain) _ ?_ y (cover y)
  intro p hp
  unfold queryHeads at hp
  simp only [List.mem_cons, List.not_mem_nil, or_false] at hp
  rcases hp with rfl | rfl | rfl | rfl | rfl | rfl | rfl | rfl <;> intro z <;>
    simp only [k0_pay6, k0_pay7, k0_pay8, k0_pay9, k0_pay10, k0_pay11, k0_pay12, k0_pay13, k0_pay14, k0_pay15, k0_pay16, k0_pay17, shapeCast_self]
  exacts [head_eq n w gain 7 768 128 rfl (by decide) _ _ (by decide) _ z,
    head_eq n w gain 6 768 0 rfl (by decide) _ _ (by decide) _ z,
    head_eq n w gain 5 512 128 rfl (by decide) _ _ (by decide) _ z,
    head_eq n w gain 4 512 0 rfl (by decide) _ _ (by decide) _ z,
    head_eq n w gain 3 256 128 rfl (by decide) _ _ (by decide) _ z,
    head_eq n w gain 2 256 0 rfl (by decide) _ _ (by decide) _ z,
    head_eq n w gain 1 0 128 rfl (by decide) _ _ (by decide) _ z,
    head_eq n w gain 0 0 0 rfl (by decide) _ _ (by decide) _ z]

/-- The eight heads stored are the block of keys. -/
theorem keys_block : View.canon (keyHeads (F := Ideal) n w gain) = headsBlk n w gain := by
  have cover : ∀ y, ∃ p ∈ keyHeads (F := Ideal) n w gain, y ∈ p.1.set := View.cover_of_tiledL _ S1024x128.size (by sl_kernel_rfl)
  funext y
  refine View.canon_apply_of_pieces (headsBlk n w gain) _ ?_ y (cover y)
  intro p hp
  unfold keyHeads at hp
  simp only [List.mem_cons, List.not_mem_nil, or_false] at hp
  rcases hp with rfl | rfl | rfl | rfl | rfl | rfl | rfl | rfl <;> intro z <;>
    simp only [k0_pay2, k0_pay3, k0_pay4, k0_pay18, k0_pay19, k0_pay20, k0_pay21, k0_pay22, k0_pay23, k0_pay24, k0_pay25, k0_pay26, k0_pay27, k0_pay28, shapeCast_self]
  exacts [head_eq n w gain 7 768 128 rfl (by decide) _ _ (by decide) _ z,
    head_eq n w gain 6 768 0 rfl (by decide) _ _ (by decide) _ z,
    head_eq n w gain 5 512 128 rfl (by decide) _ _ (by decide) _ z,
    head_eq n w gain 4 512 0 rfl (by decide) _ _ (by decide) _ z,
    head_eq n w gain 3 256 128 rfl (by decide) _ _ (by decide) _ z,
    head_eq n w gain 2 256 0 rfl (by decide) _ _ (by decide) _ z,
    head_eq n w gain 1 0 128 rfl (by decide) _ _ (by decide) _ z,
    head_eq n w gain 0 0 0 rfl (by decide) _ _ (by decide) _ z]

end

/-! ## The arguments, and their blocks at a point -/

theorem idx_in : ∀ t : Fin grid0.N,
    win0_0.index t = ![t.val / 5, 0] ∧ win0_1.index t = ![0, 0] ∧ win0_2.index t = ![0, t.val % 5]
      ∧ win0_3.index t = ![0, 0] ∧ win0_4.index t = ![0, 0] ∧ win0_5.index t = ![t.val / 5, 0]
      ∧ win0_6.index t = ![t.val / 5, t.val % 5 - 1] ∧ win0_7.index t = ![t.val / 5, 0] := by
  decide +kernel

/-- Row `q` of sequence `p`, normed. -/
def rowNorm (x : S8x4096x2048.Idx → EReal) (g : S2048.Idx → EReal) (p : Fin 8) (q : Fin 4096) (j : Fin 2048) : EReal :=
  rms 0x45000000#32 (fun k : Fin 2048 => x (ix3 p q k)) (fun k => g (ix1 k)) j

/-- That row times a column of the matrix. -/
def proj (x : S8x4096x2048.Idx → EReal) (g : S2048.Idx → EReal) (w : S2048x9216.Idx → EReal) (p : Fin 8) (q : Fin 4096) (k : Fin 9216) : EReal :=
  ∑ j : Fin 2048, rowNorm x g p q j * w (ix2 j k)

/-- The 1024 columns from `o` on, their heads normed. -/
def headProj (o : Nat) (ho : o + 1024 ≤ 9216) (x : S8x4096x2048.Idx → EReal) (g : S2048.Idx → EReal) (w : S2048x9216.Idx → EReal)
    (hg : S128.Idx → EReal) (p : Fin 8) (q : Fin 4096) (k : Fin 1024) : EReal :=
  headRms (by decide : 128 ∣ 1024) (fun i : Fin 1024 => proj x g w p q ⟨o + i.val, by omega⟩) (fun i => hg (ix1 i)) k

variable (m : (ℓ : Loc nD τ sig) → Buf (Elt Ideal) ℓ) (c : Dev nD)

abbrev argX : S8x4096x2048.Idx → EReal := m ((c.tc : Thread nD τ).loc main_arg0)
abbrev argG : S2048.Idx → EReal := m ((c.tc : Thread nD τ).loc main_arg1)
abbrev argW : S2048x9216.Idx → EReal := m ((c.tc : Thread nD τ).loc main_arg2)
abbrev argQg : S128.Idx → EReal := m ((c.tc : Thread nD τ).loc main_arg3)
abbrev argKg : S128.Idx → EReal := m ((c.tc : Thread nD τ).loc main_arg4)

set_option maxHeartbeats 4000000 in
theorem V_v0 : (V m c main_v0 : S32768x2048.Idx → EReal) = shapeCast S32768x2048 (argX m c) shapeCasts_S8x4096x2048_S32768x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v1 : (V m c main_v1 : S1x2048.Idx → EReal) = shapeCast S1x2048 (argG m c) shapeCasts_S2048_S1x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v2 : (V m c main_v2 : S2048x9216.Idx → EReal) = argW m c := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v3 : (V m c main_v3 : S1x128.Idx → EReal) = shapeCast S1x128 (argQg m c) shapeCasts_S128_S1x128 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v4 : (V m c main_v4 : S1x128.Idx → EReal) = shapeCast S1x128 (argKg m c) shapeCasts_S128_S1x128 := by
  simp only [V, hostOps0, StableHlo.reshape, StableHlo.TRef.binary, StableHlo.TRef.unary, StableHlo.TRef.toBuf, StableHlo.TRef.ofBuf, cast_eq]
  after_results_simp <;> rfl

theorem blk_x (t : Fin cfg0.N) (r : Fin 1024) (k : Fin 2048) (p : Fin 8) (q : Fin 4096) (h : 1024 * (t.val / 5) + r.val = p.val * 4096 + q.val) :
    (iblk m c 0 t : S1024x2048.Idx → EReal) (ix2 r k) = argX m c (ix3 p q k) := by
  show (V m c main_v0 : S32768x2048.Idx → EReal) (((cfg0.win 0).blk t).view.emb (ix2 r k)) = _
  rw [V_v0]
  have e0 : ((((cfg0.win 0).blk t).view.emb (ix2 r k)) 0).val = win0_0.index t 0 * 1024 + 1 * r.val := rfl
  have e1 : ((((cfg0.win 0).blk t).view.emb (ix2 r k)) 1).val = win0_0.index t 1 * 2048 + 1 * k.val := rfl
  rw [(idx_in t).1] at e0 e1
  have hN := points t
  have e : ((cfg0.win 0).blk t).view.emb (ix2 r k) = (ix2 ⟨1024 * (t.val / 5) + r.val, by omega⟩ k : S32768x2048.Idx) :=
    (eq_ix2 _).trans (congrArg₂ ix2 (Fin.ext (e0.trans (by show t.val / 5 * 1024 + 1 * r.val = 1024 * (t.val / 5) + r.val; omega)))
      (Fin.ext (e1.trans (by show 0 * 2048 + 1 * k.val = k.val; omega))))
  rw [e]
  exact flat_apply (argX m c) _ _ k p q h

theorem blk_w (t : Fin cfg0.N) (j : Fin 2048) (k : Fin 1024) (K : Fin 9216) (h : K.val = 1024 * (t.val % 5) + k.val) :
    (iblk m c 2 t : S2048x1024.Idx → EReal) (ix2 j k) = argW m c (ix2 j K) := by
  show (V m c main_v2 : S2048x9216.Idx → EReal) (((cfg0.win 2).blk t).view.emb (ix2 j k)) = _
  rw [V_v2]
  refine congrArg (argW m c) (eq_ix2 _ |>.trans ?_)
  have e0 : ((((cfg0.win 2).blk t).view.emb (ix2 j k)) 0).val = win0_2.index t 0 * 2048 + 1 * j.val := rfl
  have e1 : ((((cfg0.win 2).blk t).view.emb (ix2 j k)) 1).val = win0_2.index t 1 * 1024 + 1 * k.val := rfl
  rw [(idx_in t).2.2.1] at e0 e1
  refine congrArg₂ ix2 (Fin.ext ?_) (Fin.ext ?_)
  · exact e0.trans (by show 0 * 2048 + 1 * j.val = j.val; omega)
  · exact e1.trans (by show t.val % 5 * 1024 + 1 * k.val = K.val; omega)

/-- The one row of a gain is the gain. -/
theorem gain_row (n : Nat) (g : (⟨1, ![n]⟩ : Shape).Idx → EReal) (h : (⟨1, ![n]⟩ : Shape).ShapeCasts ⟨2, ![1, n]⟩) (y : (⟨2, ![1, n]⟩ : Shape).Idx) (k : Fin n)
    (h0 : (y 1).val = k.val) : (shapeCast ⟨2, ![1, n]⟩ g h : (⟨2, ![1, n]⟩ : Shape).Idx → EReal) y = g (ix1 k) := by
  refine (shapeCast_addUnit_apply ![n] g _ y).trans (congrArg g ?_)
  funext a
  match a with
  | ⟨0, _⟩ => exact Fin.ext h0

theorem blk_g (t : Fin cfg0.N) (k : Fin 2048) : (iblk m c 1 t : S1x2048.Idx → EReal) (ix2 (0 : Fin 1) k) = argG m c (ix1 k) := by
  show (V m c main_v1 : S1x2048.Idx → EReal) (((cfg0.win 1).blk t).view.emb (ix2 (0 : Fin 1) k)) = _
  have e1 : ((((cfg0.win 1).blk t).view.emb (ix2 (0 : Fin 1) k)) 1).val = win0_1.index t 1 * 2048 + 1 * k.val := rfl
  rw [(idx_in t).2.1] at e1
  rw [V_v1]
  exact gain_row 2048 (argG m c) _ _ k (e1.trans (by show 0 * 2048 + 1 * k.val = k.val; omega))

theorem blk_qg (t : Fin cfg0.N) (k : Fin 128) : (iblk m c 3 t : S1x128.Idx → EReal) (ix2 (0 : Fin 1) k) = argQg m c (ix1 k) := by
  show (V m c main_v3 : S1x128.Idx → EReal) (((cfg0.win 3).blk t).view.emb (ix2 (0 : Fin 1) k)) = _
  have e1 : ((((cfg0.win 3).blk t).view.emb (ix2 (0 : Fin 1) k)) 1).val = win0_3.index t 1 * 128 + 1 * k.val := rfl
  rw [(idx_in t).2.2.2.1] at e1
  rw [V_v3]
  exact gain_row 128 (argQg m c) _ _ k (e1.trans (by show 0 * 128 + 1 * k.val = k.val; omega))

theorem blk_kg (t : Fin cfg0.N) (k : Fin 128) : (iblk m c 4 t : S1x128.Idx → EReal) (ix2 (0 : Fin 1) k) = argKg m c (ix1 k) := by
  show (V m c main_v4 : S1x128.Idx → EReal) (((cfg0.win 4).blk t).view.emb (ix2 (0 : Fin 1) k)) = _
  have e1 : ((((cfg0.win 4).blk t).view.emb (ix2 (0 : Fin 1) k)) 1).val = win0_4.index t 1 * 128 + 1 * k.val := rfl
  rw [(idx_in t).2.2.2.2.1] at e1
  rw [V_v4]
  exact gain_row 128 (argKg m c) _ _ k (e1.trans (by show 0 * 128 + 1 * k.val = k.val; omega))

/-! ## What a point's buffers hold, in terms of the arguments -/

theorem rowsAt_apply (t : Fin cfg0.N) (r : Fin 1024) (j : Fin 2048) (p : Fin 8) (q : Fin 4096) (h : 1024 * (t.val / 5) + r.val = p.val * 4096 + q.val) :
    rowsAt m c t (ix2 r j) = rowNorm (argX m c) (argG m c) p q j := by
  unfold rowsAt
  have ht : 1024 * ((tileStart t).val / 5) + r.val = p.val * 4096 + q.val := by
    show 1024 * (5 * (t.val / 5) / 5) + r.val = _
    omega
  exact (rows_apply _ _ r j).trans
    (congrArg₂ (fun u v => rms 0x45000000#32 u v j) (funext fun k => blk_x m c (tileStart t) r k p q ht) (funext fun k => blk_g m c (tileStart t) k))

/-- A point's rows times the columns that point `s` stages. -/
theorem cols_apply (t s : Fin cfg0.N) (r k : Fin 1024) (p : Fin 8) (q : Fin 4096) (h : 1024 * (t.val / 5) + r.val = p.val * 4096 + q.val)
    (K : Fin 9216) (hK : K.val = 1024 * (s.val % 5) + k.val) :
    colsBlk (rowsAt m c t) (iblk m c 2 s : S2048x1024.Idx → EReal) (ix2 r k) = proj (argX m c) (argG m c) (argW m c) p q K := by
  unfold colsBlk proj
  exact Finset.sum_congr rfl fun j _ => congrArg₂ (· * ·) (rowsAt_apply m c t r j p q h) (blk_w m c s j k K hK)

theorem queriesAt_apply (t : Fin cfg0.N) (r k : Fin 1024) (p : Fin 8) (q : Fin 4096) (h : 1024 * (t.val / 5) + r.val = p.val * 4096 + q.val) :
    queriesAt m c t (ix2 r k) = headProj 0 (by decide) (argX m c) (argG m c) (argW m c) (argQg m c) p q k := by
  unfold queriesAt
  rw [queries_block]
  unfold headsBlk headProj
  exact congrArg₂ (fun u v => headRms (by decide : 128 ∣ 1024) u v k)
    (funext fun i => cols_apply m c t (tileStart t) r i p q h _ (by show 0 + i.val = 1024 * (5 * (t.val / 5) % 5) + i.val; omega))
    (funext fun i => blk_qg m c (tileStart t) i)

theorem keysAt_apply (t : Fin cfg0.N) (ht : t.val % 5 = 1) (r k : Fin 1024) (p : Fin 8) (q : Fin 4096) (h : 1024 * (t.val / 5) + r.val = p.val * 4096 + q.val) :
    columnsAt m c t (ix2 r k) = headProj 1024 (by decide) (argX m c) (argG m c) (argW m c) (argKg m c) p q k := by
  unfold columnsAt
  rw [if_pos ht, keys_block]
  unfold headsBlk headProj
  exact congrArg₂ (fun u v => headRms (by decide : 128 ∣ 1024) u v k)
    (funext fun i => cols_apply m c t t r i p q h _ (by show 1024 + i.val = 1024 * (t.val % 5) + i.val; omega))
    (funext fun i => blk_kg m c t i)

theorem plainAt_apply (t : Fin cfg0.N) (ht : t.val % 5 ≠ 1) (r k : Fin 1024) (p : Fin 8) (q : Fin 4096) (h : 1024 * (t.val / 5) + r.val = p.val * 4096 + q.val)
    (K : Fin 9216) (hK : K.val = 1024 * (t.val % 5) + k.val) :
    columnsAt m c t (ix2 r k) = proj (argX m c) (argG m c) (argW m c) p q K := by
  unfold columnsAt
  rw [if_neg ht, plain_apply]
  exact cols_apply m c t t r k p q h K hK

/-! ## The results -/

/-- A block written back is found in the final array as it was written, if no other block written back meets it. -/
theorem written (w : Fin cfg0.W) (hk : (cfg0.win w).kind = Pipeline.WinKind.blocked) (hd : ∀ t t' : Fin cfg0.N, (cfg0.win w).flush t = true → (cfg0.win w).flush t' = true → t ≠ t' →
      (cfg0.win w).index t ≠ (cfg0.win w).index t') (t : Fin cfg0.N) (hf : (cfg0.win w).flush t = true) :
    ((cfg0.win w).blk t).view.read (Elt Ideal) ((dats m 0 c).arrAt w cfg0.N) = (cfg0.win w).cut (grid0.coords t) ((dats m 0 c).after w t) :=
  (dats m 0 c).read_blk_arrAt_eq_flushed w (fun t t' h h' hne => (cfg0.win w).disjoint_blk (hd t t' h h' hne) hk) cfg0.N t t.isLt hf

theorem apart5 : ∀ t t' : Fin cfg0.N, (cfg0.win 5).flush t = true → (cfg0.win 5).flush t' = true → t ≠ t' → (cfg0.win 5).index t ≠ (cfg0.win 5).index t' := by
  intro t t' h h' hne e
  have h0 := (flush0_5 t).mp h
  have h1 := (flush0_5 t').mp h'
  have e' : win0_5.index t = win0_5.index t' := e
  rw [(idx_in t).2.2.2.2.2.1, (idx_in t').2.2.2.2.2.1] at e'
  have e0 : t.val / 5 = t'.val / 5 := congrFun e' 0
  exact hne (Fin.ext (by omega))

theorem apart7 : ∀ t t' : Fin cfg0.N, (cfg0.win 7).flush t = true → (cfg0.win 7).flush t' = true → t ≠ t' → (cfg0.win 7).index t ≠ (cfg0.win 7).index t' := by
  intro t t' h h' hne e
  have h0 := (flush0_7 t).mp h
  have h1 := (flush0_7 t').mp h'
  have e' : win0_7.index t = win0_7.index t' := e
  rw [(idx_in t).2.2.2.2.2.2.2, (idx_in t').2.2.2.2.2.2.2] at e'
  have e0 : t.val / 5 = t'.val / 5 := congrFun e' 0
  exact hne (Fin.ext (by omega))

theorem apart6 : ∀ t t' : Fin cfg0.N, (cfg0.win 6).flush t = true → (cfg0.win 6).flush t' = true → t ≠ t' → (cfg0.win 6).index t ≠ (cfg0.win 6).index t' := by
  intro t t' h h' hne e
  have h0 := (flush0_6 t).mp h
  have h1 := (flush0_6 t').mp h'
  have e' : win0_6.index t = win0_6.index t' := e
  rw [(idx_in t).2.2.2.2.2.2.1, (idx_in t').2.2.2.2.2.2.1] at e'
  have e0 : t.val / 5 = t'.val / 5 := congrFun e' 0
  have e1 : t.val % 5 - 1 = t'.val % 5 - 1 := congrFun e' 1
  exact hne (Fin.ext (by omega))

theorem emb5 (t : Fin cfg0.N) (r k : Fin 1024) (R : Fin 32768) (h : R.val = 1024 * (t.val / 5) + r.val) :
    ((cfg0.win 5).blk t).view.emb (ix2 r k) = (ix2 R k : S32768x1024.Idx) := by
  have e0 : ((((cfg0.win 5).blk t).view.emb (ix2 r k)) 0).val = win0_5.index t 0 * 1024 + 1 * r.val := rfl
  have e1 : ((((cfg0.win 5).blk t).view.emb (ix2 r k)) 1).val = win0_5.index t 1 * 1024 + 1 * k.val := rfl
  rw [(idx_in t).2.2.2.2.2.1] at e0 e1
  exact (eq_ix2 _).trans (congrArg₂ ix2 (Fin.ext (e0.trans (by show t.val / 5 * 1024 + 1 * r.val = R.val; omega)))
    (Fin.ext (e1.trans (by show 0 * 1024 + 1 * k.val = k.val; omega))))

theorem emb6 (t : Fin cfg0.N) (r k : Fin 1024) (R : Fin 32768) (K : Fin 4096) (h : R.val = 1024 * (t.val / 5) + r.val)
    (hK : K.val = 1024 * (t.val % 5 - 1) + k.val) :
    ((cfg0.win 6).blk t).view.emb (ix2 r k) = (ix2 R K : S32768x4096.Idx) := by
  have e0 : ((((cfg0.win 6).blk t).view.emb (ix2 r k)) 0).val = win0_6.index t 0 * 1024 + 1 * r.val := rfl
  have e1 : ((((cfg0.win 6).blk t).view.emb (ix2 r k)) 1).val = win0_6.index t 1 * 1024 + 1 * k.val := rfl
  rw [(idx_in t).2.2.2.2.2.2.1] at e0 e1
  exact (eq_ix2 _).trans (congrArg₂ ix2 (Fin.ext (e0.trans (by show t.val / 5 * 1024 + 1 * r.val = R.val; omega)))
    (Fin.ext (e1.trans (by show (t.val % 5 - 1) * 1024 + 1 * k.val = K.val; omega))))

theorem emb7 (t : Fin cfg0.N) (r : Fin 1024) (k : Fin 2048) (R : Fin 32768) (h : R.val = 1024 * (t.val / 5) + r.val) :
    ((cfg0.win 7).blk t).view.emb (ix2 r k) = (ix2 R k : S32768x2048.Idx) := by
  have e0 : ((((cfg0.win 7).blk t).view.emb (ix2 r k)) 0).val = win0_7.index t 0 * 1024 + 1 * r.val := rfl
  have e1 : ((((cfg0.win 7).blk t).view.emb (ix2 r k)) 1).val = win0_7.index t 1 * 2048 + 1 * k.val := rfl
  rw [(idx_in t).2.2.2.2.2.2.2] at e0 e1
  exact (eq_ix2 _).trans (congrArg₂ ix2 (Fin.ext (e0.trans (by show t.val / 5 * 1024 + 1 * r.val = R.val; omega)))
    (Fin.ext (e1.trans (by show 0 * 2048 + 1 * k.val = k.val; omega))))

section
variable (R : Fin 32768)

/-- The point at place `i` in the row tile of row `R`, and the row's place in the tile. -/
def pointOf (i : Fin 5) : Fin cfg0.N := ⟨5 * (R.val / 1024) + i.val, lt_of_lt_of_eq (by omega) (show 160 = cfg0.N from N_0.symm)⟩

def placeOf : Fin 1024 := ⟨R.val % 1024, Nat.mod_lt _ (by decide)⟩

theorem pointOf_mod (i : Fin 5) : (pointOf R i).val % 5 = i.val := by show (5 * (R.val / 1024) + i.val) % 5 = i.val; omega

theorem placeOf_eq (i : Fin 5) : R.val = 1024 * ((pointOf R i).val / 5) + (placeOf R).val := by
  show R.val = 1024 * ((5 * (R.val / 1024) + i.val) / 5) + R.val % 1024
  omega

variable (p : Fin 8) (q : Fin 4096) (h : R.val = p.val * 4096 + q.val)

include h

/-- The queries: each row normed, projected, and its heads normed. -/
theorem queries_eq (k : Fin 1024) :
    ((dats m 0 c).arrAt 5 cfg0.N : S32768x1024.Idx → EReal) (ix2 R k) = headProj 0 (by decide) (argX m c) (argG m c) (argW m c) (argQg m c) p q k := by
  have hr := placeOf_eq R 4
  have hb := congrFun (written m c 5 rfl apart5 (pointOf R 4) ((flush0_5 _).mpr (pointOf_mod R 4))) (ix2 (placeOf R) k)
  rw [after_5] at hb
  rw [← emb5 (pointOf R 4) (placeOf R) k R hr]
  exact hb.trans (queriesAt_apply m c (pointOf R 4) (placeOf R) k p q (hr.symm.trans h))

/-- The keys, in the second result's first 1024 columns. -/
theorem keys_eq (k : Fin 1024) (K : Fin 4096) (hK : K.val = k.val) :
    ((dats m 0 c).arrAt 6 cfg0.N : S32768x4096.Idx → EReal) (ix2 R K) = headProj 1024 (by decide) (argX m c) (argG m c) (argW m c) (argKg m c) p q k := by
  have hr := placeOf_eq R 1
  have hm := pointOf_mod R 1
  have hb := congrFun (written m c 6 rfl apart6 (pointOf R 1) ((flush0_6 _).mpr (by rw [hm]; decide))) (ix2 (placeOf R) k)
  rw [after_6] at hb
  rw [← emb6 (pointOf R 1) (placeOf R) k R K hr (by rw [hm, hK]; show k.val = 1024 * (1 - 1) + k.val; omega)]
  exact hb.trans (keysAt_apply m c (pointOf R 1) hm (placeOf R) k p q (hr.symm.trans h))

/-- The plain columns, in its others. -/
theorem rest_eq (k : Fin 3072) (K : Fin 4096) (hK : K.val = 1024 + k.val) :
    ((dats m 0 c).arrAt 6 cfg0.N : S32768x4096.Idx → EReal) (ix2 R K) = proj (argX m c) (argG m c) (argW m c) p q ⟨2048 + k.val, by omega⟩ := by
  let i : Fin 5 := ⟨k.val / 1024 + 2, by omega⟩
  have hr := placeOf_eq R i
  have hm : (pointOf R i).val % 5 = k.val / 1024 + 2 := pointOf_mod R i
  let k' : Fin 1024 := ⟨k.val % 1024, Nat.mod_lt _ (by decide)⟩
  have hb := congrFun (written m c 6 rfl apart6 (pointOf R i) ((flush0_6 _).mpr (by omega))) (ix2 (placeOf R) k')
  rw [after_6] at hb
  rw [← emb6 (pointOf R i) (placeOf R) k' R K hr (by rw [hm, hK]; show 1024 + k.val = 1024 * (k.val / 1024 + 2 - 1) + k.val % 1024; omega)]
  exact hb.trans (plainAt_apply m c (pointOf R i) (by omega) (placeOf R) k' p q (hr.symm.trans h) _
    (by rw [hm]; show 2048 + k.val = 1024 * (k.val / 1024 + 2) + k.val % 1024; omega))

/-- The normed rows. -/
theorem normed_eq (j : Fin 2048) :
    ((dats m 0 c).arrAt 7 cfg0.N : S32768x2048.Idx → EReal) (ix2 R j) = rowNorm (argX m c) (argG m c) p q j := by
  have hr := placeOf_eq R 4
  have hb := congrFun (written m c 7 rfl apart7 (pointOf R 4) ((flush0_7 _).mpr (pointOf_mod R 4))) (ix2 (placeOf R) j)
  rw [after_7] at hb
  rw [← emb7 (pointOf R 4) (placeOf R) j R hr]
  exact hb.trans (rowsAt_apply m c (pointOf R 4) (placeOf R) j p q (hr.symm.trans h))

end

end Cert.Inproj

end
-- ==== Proof.InprojRef.lean ====
/-
  The reference of the projected rows, read at an index, and that the call's results are the reference's.
-/
module

public import proofs.«01_k».proof.Proof.InprojValue
public import proofs.«01_k».proof.Proof.Gen.InprojRefIdeal.Read

@[expose] public section

set_option maxRecDepth 16384

noncomputable section

open scoped BigOperators

namespace Cert.Inproj

open Cert.InprojRefIdeal Cert.InprojRefIdeal.Read Cert.Rows Idealize.ShloMosaic Idealize.ShloMosaic.ValueIdx

variable (x0 : (⟨S8x4096x2048, .f32⟩ : BufTy).Contents (Elt Ideal)) (x1 : (⟨S2048, .f32⟩ : BufTy).Contents (Elt Ideal))
  (x2 : (⟨S2048x9216, .f32⟩ : BufTy).Contents (Elt Ideal)) (x3 x4 : (⟨S128, .f32⟩ : BufTy).Contents (Elt Ideal))

theorem ref_norm (p : Fin 8) (q : Fin 4096) (j : Fin 2048) : val_main_v12 (F := Ideal) x0 x1 (ix3 p q j) = rowNorm x0 x1 p q j := by
  rw [val_main_v12_apply, val_main_v9_apply, val_main_v8_apply, show idx_main_v8 (ix3 p q j) = ix3 p q (0 : Fin 1) from eq_ix3 _,
    val_main_v7_apply, val_main_v6_apply, val_main_v4_apply, val_main_v2_apply,
    show idx_main_v2 (ix3 p q (0 : Fin 1)) = ix2 p q from eq_ix2 _, val_main_v1_apply, val_main_v3_apply, val_main_v5_apply,
    val_main_v11_apply, show idx_main_v11 (ix3 p q j) = ix3 (0 : Fin 1) (0 : Fin 1) j from eq_ix3 _, val_main_v10_apply,
    show idx_main_v10 (ix3 (0 : Fin 1) (0 : Fin 1) j) = ix1 j from eq_ix1 _]
  have e : ∀ k : Fin 2048, val_main_v0 (F := Ideal) x0 (idx_main_v1 (ix2 p q) k) = x0 (ix3 p q k) * x0 (ix3 p q k) := fun k => by
    rw [show idx_main_v1 (ix2 p q) k = ix3 p q k from eq_ix3 _, val_main_v0_apply]
    rfl
  simp only [e]
  rw [show (val_main_cst (F := Ideal)) (Shape.Idx.first Gen.h_S_) = 0 from Ideal.ofBits_zero_f32, zero_add]
  rfl

theorem ref_proj (p : Fin 8) (q : Fin 4096) (k : Fin 5120) :
    val_main_v14 (F := Ideal) x0 x1 x2 (ix3 p q k) = proj x0 x1 x2 p q ⟨k.val, by omega⟩ := by
  rw [val_main_v14_apply]
  refine Finset.sum_congr rfl fun j _ => ?_
  rw [show lidx_main_v14 (ix3 p q k) j = ix3 p q j from eq_ix3 _, show ridx_main_v14 (ix3 p q k) j = ix2 j k from eq_ix2 _, ref_norm,
    val_main_v13_apply, show idx_main_v13 (ix2 j k) = ix2 j (⟨k.val, by omega⟩ : Fin 9216) from eq_ix2 _]

/-- The sequence of a row, and its place there. -/
def seqOf (R : Fin 32768) : Fin 8 := ⟨R.val / 4096, by omega⟩

def posOf (R : Fin 32768) : Fin 4096 := ⟨R.val % 4096, Nat.mod_lt _ (by decide)⟩

theorem row_split (R : Fin 32768) : R.val = (seqOf R).val * 4096 + (posOf R).val := by
  show R.val = R.val / 4096 * 4096 + R.val % 4096
  omega

/-- Where an array of heads and one of rows, both cut into heads, hold the same element. -/
theorem split_index (p : Fin 8) (q : Fin 4096) (h : Fin 8) (d : Fin 128) :
    idx_main_v16 (ix4 p q h d) = ix3 p q (⟨128 * h.val + d.val, by omega⟩ : Fin 1024) :=
  (eq_ix3 _).trans (by
    have hp := p.isLt; have hq := q.isLt; have hh := h.isLt; have hd := d.isLt
    refine congr (congrArg₂ ix3 (Fin.ext ?_) (Fin.ext ?_)) (Fin.ext ?_)
    · show (((p.val * 4096 + q.val) * 8 + h.val) * 128 + d.val) / 4194304 = p.val; omega
    · show (((p.val * 4096 + q.val) * 8 + h.val) * 128 + d.val) / 1024 % 4096 = q.val; omega
    · show (((p.val * 4096 + q.val) * 8 + h.val) * 128 + d.val) % 1024 = 128 * h.val + d.val; omega)

theorem heads_index (R : Fin 32768) (k : Fin 1024) :
    idx_main_v46 (ix2 R k) = ix4 (seqOf R) (posOf R) (⟨k.val / 128, by omega⟩ : Fin 8) (⟨k.val % 128, by omega⟩ : Fin 128) :=
  (eq_ix4 _).trans (by
    have hR := R.isLt; have hk := k.isLt
    refine congr (congr (congrArg₂ ix4 (Fin.ext ?_) (Fin.ext ?_)) (Fin.ext ?_)) (Fin.ext ?_)
    · show (R.val * 1024 + k.val) / 4194304 = R.val / 4096; omega
    · show (R.val * 1024 + k.val) / 1024 % 4096 = R.val % 4096; omega
    · show (R.val * 1024 + k.val) / 128 % 8 = k.val / 128; omega
    · show (R.val * 1024 + k.val) % 128 = k.val % 128; omega)

theorem ref_query_split (p : Fin 8) (q : Fin 4096) (h : Fin 8) (d : Fin 128) :
    val_main_v16 (F := Ideal) x0 x1 x2 (ix4 p q h d) = proj x0 x1 x2 p q ⟨0 + (128 * h.val + d.val), by omega⟩ := by
  rw [val_main_v16_apply, split_index, val_main_v15_apply, show idx_main_v15 (ix3 p q (⟨128 * h.val + d.val, by omega⟩ : Fin 1024))
    = ix3 p q (⟨0 + (128 * h.val + d.val), by omega⟩ : Fin 5120) from (eq_ix3 _).trans
      (congrArg (ix3 p q) (Fin.ext (Nat.zero_add (128 * h.val + d.val)).symm)), ref_proj]

theorem ref_key_split (p : Fin 8) (q : Fin 4096) (h : Fin 8) (d : Fin 128) :
    val_main_v31 (F := Ideal) x0 x1 x2 (ix4 p q h d) = proj x0 x1 x2 p q ⟨1024 + (128 * h.val + d.val), by omega⟩ := by
  rw [val_main_v31_apply, show idx_main_v31 (ix4 p q h d) = ix3 p q (⟨128 * h.val + d.val, by omega⟩ : Fin 1024) from split_index p q h d,
    val_main_v30_apply, show idx_main_v30 (ix3 p q (⟨128 * h.val + d.val, by omega⟩ : Fin 1024))
    = ix3 p q (⟨1024 + (128 * h.val + d.val), by omega⟩ : Fin 5120) from (eq_ix3 _).trans
      (congrArg (ix3 p q) (Fin.ext (by show _ = 1024 + (128 * h.val + d.val); first | rfl | exact Nat.add_comm _ _))), ref_proj]

theorem ref_query (p : Fin 8) (q : Fin 4096) (h : Fin 8) (d : Fin 128) :
    val_main_v29 (F := Ideal) x0 x1 x2 x3 (ix4 p q h d)
      = rms 0x43000000#32 (fun k : Fin 128 => proj x0 x1 x2 p q ⟨0 + (128 * h.val + k.val), by omega⟩) (fun k => x3 (ix1 k)) d := by
  rw [val_main_v29_apply, val_main_v26_apply, ref_query_split, val_main_v25_apply,
    show idx_main_v25 (ix4 p q h d) = ix4 p q h (0 : Fin 1) from eq_ix4 _,
    val_main_v24_apply, val_main_v23_apply, val_main_v21_apply, val_main_v19_apply,
    show idx_main_v19 (ix4 p q h (0 : Fin 1)) = ix3 p q h from eq_ix3 _, val_main_v18_apply, val_main_v20_apply, val_main_v22_apply,
    val_main_v28_apply, show idx_main_v28 (ix4 p q h d) = ix4 (0 : Fin 1) (0 : Fin 1) (0 : Fin 1) d from eq_ix4 _, val_main_v27_apply,
    show idx_main_v27 (ix4 (0 : Fin 1) (0 : Fin 1) (0 : Fin 1) d) = ix1 d from eq_ix1 _]
  have e : ∀ k : Fin 128, val_main_v17 (F := Ideal) x0 x1 x2 (idx_main_v18 (ix3 p q h) k)
      = proj x0 x1 x2 p q ⟨0 + (128 * h.val + k.val), by omega⟩ * proj x0 x1 x2 p q ⟨0 + (128 * h.val + k.val), by omega⟩ := fun k => by
    rw [show idx_main_v18 (ix3 p q h) k = ix4 p q h k from eq_ix4 _, val_main_v17_apply, ref_query_split]
    rfl
  simp only [e]
  rw [show (val_main_cst_2 (F := Ideal)) (Shape.Idx.first Gen.h_S_) = 0 from Ideal.ofBits_zero_f32, zero_add (Finset.sum Finset.univ _)]
  rfl

theorem ref_key (p : Fin 8) (q : Fin 4096) (h : Fin 8) (d : Fin 128) :
    val_main_v44 (F := Ideal) x0 x1 x2 x4 (ix4 p q h d)
      = rms 0x43000000#32 (fun k : Fin 128 => proj x0 x1 x2 p q ⟨1024 + (128 * h.val + k.val), by omega⟩) (fun k => x4 (ix1 k)) d := by
  rw [val_main_v44_apply, val_main_v41_apply, ref_key_split, val_main_v40_apply,
    show idx_main_v40 (ix4 p q h d) = ix4 p q h (0 : Fin 1) from eq_ix4 _,
    val_main_v39_apply, val_main_v38_apply, val_main_v36_apply, val_main_v34_apply,
    show idx_main_v34 (ix4 p q h (0 : Fin 1)) = ix3 p q h from eq_ix3 _, val_main_v33_apply, val_main_v35_apply, val_main_v37_apply,
    val_main_v43_apply, show idx_main_v43 (ix4 p q h d) = ix4 (0 : Fin 1) (0 : Fin 1) (0 : Fin 1) d from eq_ix4 _, val_main_v42_apply,
    show idx_main_v42 (ix4 (0 : Fin 1) (0 : Fin 1) (0 : Fin 1) d) = ix1 d from eq_ix1 _]
  have e : ∀ k : Fin 128, val_main_v32 (F := Ideal) x0 x1 x2 (idx_main_v33 (ix3 p q h) k)
      = proj x0 x1 x2 p q ⟨1024 + (128 * h.val + k.val), by omega⟩ * proj x0 x1 x2 p q ⟨1024 + (128 * h.val + k.val), by omega⟩ := fun k => by
    rw [show idx_main_v33 (ix3 p q h) k = ix4 p q h k from eq_ix4 _, val_main_v32_apply, ref_key_split]
    rfl
  simp only [e]
  rw [show (val_main_cst_5 (F := Ideal)) (Shape.Idx.first Gen.h_S_) = 0 from Ideal.ofBits_zero_f32, zero_add (Finset.sum Finset.univ _)]
  rfl

/-- The columns that stay as they are, row by row. -/
theorem ref_rest (R : Fin 32768) (k : Fin 3072) :
    val_main_v49 (F := Ideal) x0 x1 x2 (ix2 R k) = proj x0 x1 x2 (seqOf R) (posOf R) ⟨2048 + k.val, by omega⟩ := by
  have hR := R.isLt
  have hk := k.isLt
  rw [val_main_v49_apply, show idx_main_v49 (ix2 R k) = ix3 (seqOf R) (posOf R) k from (eq_ix3 _).trans (by
      refine congr (congrArg₂ ix3 (Fin.ext ?_) (Fin.ext ?_)) (Fin.ext ?_)
      · show (R.val * 3072 + k.val) / 12582912 = R.val / 4096; omega
      · show (R.val * 3072 + k.val) / 3072 % 4096 = R.val % 4096; omega
      · show (R.val * 3072 + k.val) % 3072 = k.val; omega), val_main_v45_apply,
    show idx_main_v45 (ix3 (seqOf R) (posOf R) k)
      = ix3 (seqOf R) (posOf R) (⟨2048 + k.val, by omega⟩ : Fin 5120) from (eq_ix3 _).trans
      (congrArg (ix3 _ _) (Fin.ext (by show _ = 2048 + k.val; first | rfl | exact Nat.add_comm _ _))), ref_proj]

section
variable (m : (ℓ : Loc nD τ Cert.InprojIdeal.sig) → Buf (Elt Ideal) ℓ) (c : Dev nD)

/-- The call's queries are the reference's. -/
theorem queries_value :
    ((dats m 0 c).arrAt 5 Cert.InprojIdeal.cfg0.N : S32768x1024.Idx → EReal)
      = val_main_v47 (F := Ideal) (argX m c) (argG m c) (argW m c) (argQg m c) := by
  funext y
  obtain ⟨R, k, rfl⟩ : ∃ (R : Fin 32768) (k : Fin 1024), y = ix2 R k := ⟨y 0, y 1, eq_ix2 y⟩
  rw [val_main_v47_apply, val_main_v46_apply, heads_index, ref_query]
  exact queries_eq m c R (seqOf R) (posOf R) (row_split R) k

/-- The call's keys and plain columns are the reference's. -/
theorem columns_value :
    ((dats m 0 c).arrAt 6 Cert.InprojIdeal.cfg0.N : S32768x4096.Idx → EReal)
      = val_main_v50 (F := Ideal) (argX m c) (argG m c) (argW m c) (argKg m c) := by
  funext y
  obtain ⟨R, K, rfl⟩ : ∃ (R : Fin 32768) (K : Fin 4096), y = ix2 R K := ⟨y 0, y 1, eq_ix2 y⟩
  unfold val_main_v50
  by_cases hK : K.val < 1024
  · refine Eq.trans ?_ (concatenate_pair_apply_left (s₁ := S32768x1024) (s₂ := S32768x3072) (t := S32768x4096) 1 _ _ _ (ix2 R K) rfl
      (ix2 R (⟨K.val, hK⟩ : Fin 1024)) (fun b => match b with | ⟨0, _⟩ => rfl | ⟨1, _⟩ => rfl)).symm
    rw [val_main_v48_apply, show idx_main_v48 (ix2 R (⟨K.val, hK⟩ : Fin 1024)) = _ from heads_index R ⟨K.val, hK⟩, ref_key]
    exact keys_eq m c R (seqOf R) (posOf R) (row_split R) ⟨K.val, hK⟩ K rfl
  · have hlt := K.isLt
    refine Eq.trans ?_ (concatenate_pair_apply_right (s₁ := S32768x1024) (s₂ := S32768x3072) (t := S32768x4096) 1 _ _ _ (ix2 R K) rfl rfl
      (ix2 R (⟨K.val - 1024, by omega⟩ : Fin 3072)) (fun b hb => match b with | ⟨0, _⟩ => rfl | ⟨1, _⟩ => absurd rfl hb)
      (by show K.val - 1024 + 1024 = K.val; omega)).symm
    rw [ref_rest]
    exact rest_eq m c R (seqOf R) (posOf R) (row_split R) ⟨K.val - 1024, by omega⟩ K (by show K.val = 1024 + (K.val - 1024); omega)

/-- The call's normed rows are the reference's. -/
theorem normed_value :
    ((dats m 0 c).arrAt 7 Cert.InprojIdeal.cfg0.N : S32768x2048.Idx → EReal) = val_main_v52 (F := Ideal) (argX m c) (argG m c) := by
  funext y
  obtain ⟨R, j, rfl⟩ : ∃ (R : Fin 32768) (j : Fin 2048), y = ix2 R j := ⟨y 0, y 1, eq_ix2 y⟩
  have hR := R.isLt
  have hj := j.isLt
  rw [val_main_v52_apply, val_main_v51_apply, show idx_main_v51 (ix2 R j)
    = ix3 (seqOf R) (posOf R) j from (eq_ix3 _).trans (by
      refine congr (congrArg₂ ix3 (Fin.ext ?_) (Fin.ext ?_)) (Fin.ext ?_)
      · show (R.val * 2048 + j.val) / 8388608 = R.val / 4096; omega
      · show (R.val * 2048 + j.val) / 2048 % 4096 = R.val % 4096; omega
      · show (R.val * 2048 + j.val) % 2048 = j.val; omega), ref_norm]
  exact normed_eq m c R (seqOf R) (posOf R) (row_split R) j

end

end Cert.Inproj

end
-- ==== Proof.MemattnMath.lean ====
/-
  The arithmetic of the cross attention to the memory tokens, apart from any program: a row's queries from its norm, a
  head's scores over a memory, and that they are real numbers where rows, gains, weights and keys are.
-/
module

public import proofs.«01_k».proof.Proof.AttnMath
public import proofs.«01_k».proof.Proof.Heads

@[expose] public section

set_option maxRecDepth 16384

noncomputable section

open scoped BigOperators

namespace Cert.Memattn

open Cert.Rows Cert.Attn Idealize.ShloMosaic Idealize.ShloMosaic.ValueIdx

/-- A real number among the extended ones. -/
def IsReal (e : EReal) : Prop := e ≠ ⊥ ∧ e ≠ ⊤

theorem isReal_coe (r : ℝ) : IsReal (r : EReal) := ⟨EReal.coe_ne_bot r, EReal.coe_ne_top r⟩

theorem IsReal.out {e : EReal} (h : IsReal e) : ∃ r : ℝ, e = (r : EReal) := ⟨e.toReal, (EReal.coe_toReal h.2 h.1).symm⟩

theorem IsReal.mul {a b : EReal} (ha : IsReal a) (hb : IsReal b) : IsReal (a * b) := by
  obtain ⟨x, rfl⟩ := ha.out
  obtain ⟨y, rfl⟩ := hb.out
  rw [← EReal.coe_mul]
  exact isReal_coe _

theorem isReal_dot {n : Nat} {f g : Fin n → EReal} (hf : ∀ k, IsReal (f k)) (hg : ∀ k, IsReal (g k)) : IsReal (∑ k, f k * g k) := by
  obtain ⟨r, hr⟩ := dot_real f g hf hg
  rw [hr]
  exact isReal_coe r

/-- A sum of squares of real numbers is a real number that is not negative. -/
theorem square_sum {n : Nat} {f : Fin n → EReal} (hf : ∀ k, IsReal (f k)) : ∃ r : ℝ, 0 ≤ r ∧ ∑ k, f k * f k = (r : EReal) := by
  obtain ⟨r, hr⟩ := dot_real f f hf hf
  refine ⟨r, ?_, hr⟩
  have h0 : (0 : EReal) ≤ ∑ k, f k * f k := Finset.sum_nonneg fun k _ => by
    obtain ⟨x, hx⟩ := (hf k).out
    rw [hx, ← EReal.coe_mul]
    exact_mod_cast mul_self_nonneg x
  rw [hr] at h0
  exact_mod_cast h0

theorem eps_pos : ∃ r : ℝ, 0 < r ∧ Ideal.ofBits .f32 0x358637BD#32 = (r : EReal) := by
  refine ⟨_, ?_, by simp only [Ideal.ofBits, Ideal.ieee]; simp; norm_cast⟩
  positivity

/-- With an infinite number among them the sum of squares is infinite. -/
theorem square_sum_top {n : Nat} {f : Fin n → EReal} (k : Fin n) (hk : ¬ IsReal (f k)) : ∑ j, f j * f j = ⊤ := by
  have h0 : ∀ e : EReal, 0 ≤ e * e := fun e => by
    induction e with
    | bot => rw [EReal.bot_mul_bot]; exact le_top
    | top => rw [EReal.top_mul_top]; exact le_top
    | coe x => rw [← EReal.coe_mul]; exact_mod_cast mul_self_nonneg x
  have ht : f k * f k = ⊤ := by
    by_cases hb : f k = ⊥
    · rw [hb, EReal.bot_mul_bot]
    · have : f k = ⊤ := by
        by_contra hc
        exact hk ⟨hb, hc⟩
      rw [this, EReal.top_mul_top]
  exact top_le_iff.1 (ht ▸ Finset.single_le_sum (f := fun j => f j * f j) (fun j _ => h0 (f j)) (Finset.mem_univ k))

/-- The root mean square norm with real gains is real, whatever the row: one infinite number makes the factor zero. -/
theorem isReal_rms {n : Nat} (w : BitVec 32) (hw : ∃ r : ℝ, 0 < r ∧ Ideal.ofBits .f32 w = (r : EReal)) (x : Fin n → EReal) {g : Fin n → EReal}
    (hg : ∀ k, IsReal (g k)) (k : Fin n) : IsReal (rms w x g k) := by
  obtain ⟨d, hd, ed⟩ := hw
  obtain ⟨e, he, ee⟩ := eps_pos
  unfold rms
  refine IsReal.mul ?_ (hg k)
  rw [ed, ee, div_coe _ d hd]
  by_cases hx : ∀ j, IsReal (x j)
  · obtain ⟨s, hs, es⟩ := square_sum hx
    rw [es, ← EReal.coe_mul, ← EReal.coe_add]
    have hp : 0 < s * d⁻¹ + e := add_pos_of_nonneg_of_pos (mul_nonneg hs (inv_nonneg.mpr hd.le)) he
    refine (hx k).mul ?_
    rw [Ideal.rsqrt_coe, if_neg hp.not_gt, if_neg hp.ne']
    exact isReal_coe _
  · obtain ⟨j, hj⟩ := not_forall.1 hx
    rw [square_sum_top j hj, EReal.top_mul_coe_of_pos (inv_pos.mpr hd), EReal.top_add_coe, show Ideal.rsqrt ⊤ = 0 from rfl, mul_zero]
    exact isReal_coe 0

/-! ## A row's queries and a head's scores -/

section
variable (x : Fin 2048 → EReal) (g : Fin 2048 → EReal) (w : Fin 2048 → Fin 512 → EReal) (qg : Fin 128 → EReal)

/-- A row, normed and projected. -/
def proj (c : Fin 512) : EReal := ∑ j : Fin 2048, rms 0x45000000#32 x g j * w j c

/-- Its four heads normed. -/
def query (c : Fin 512) : EReal := headRms (by decide : 128 ∣ 512) (proj x g w) qg c

/-- Column `d` of head `h`. -/
def col (h : Fin 4) (d : Fin 128) : Fin 512 := ⟨128 * h.val + d.val, by omega⟩

/-- The scores of one head's query over a memory's keys. -/
def scores (q : Fin 512 → EReal) (k : Fin 256 → Fin 512 → EReal) (h : Fin 4) (n : Fin 256) : EReal :=
  (∑ d : Fin 128, q (col h d) * k n (col h d)) * Ideal.ofBits .f32 0x3DB504F3#32

/-- A query is real as soon as its gains are. -/
theorem isReal_query (hq : ∀ k, IsReal (qg k)) (c : Fin 512) : IsReal (query x g w qg c) := by
  unfold query headRms
  refine isReal_rms _ ⟨128, by norm_num, ?_⟩ _ hq _
  simp only [Ideal.ofBits, Ideal.ieee]
  simp
  norm_cast
  norm_num

theorem isReal_scores (q : Fin 512 → EReal) (k : Fin 256 → Fin 512 → EReal) (hq : ∀ c, IsReal (q c)) (hk : ∀ n c, IsReal (k n c))
    (h : Fin 4) (n : Fin 256) : IsReal (scores q k h n) := by
  refine (isReal_dot (fun d => hq _) (fun d => hk n _)).mul ?_
  have e : Ideal.ofBits .f32 0x3DB504F3#32 = (Ideal.ofBits .f32 0x3DB504F3#32).toReal := by
    simp only [Ideal.ofBits, Ideal.ieee]
    simp
    norm_cast
  rw [e]
  exact isReal_coe _

/-- Over real scores one division at the end is each weight divided first. -/
theorem order_eq (q : Fin 512 → EReal) (k : Fin 256 → Fin 512 → EReal) (hq : ∀ c, IsReal (q c)) (hk : ∀ n c, IsReal (k n c))
    (h : Fin 4) (v : Fin 256 → EReal) : lastDiv (scores q k h) v = firstDiv (scores q k h) v :=
  lastDiv_eq_firstDiv _ v (fun n => lt_top_iff_ne_top.mpr (isReal_scores q k hq hk h n).2) 0 (isReal_scores q k hq hk h 0).1

end

end Cert.Memattn

end
-- ==== Proof.MemattnBlock.lean ====
/-
  One grid point of the cross attention to the memory tokens, over the extended reals: the queries it keeps, the heads'
  attention over the memory's 256 rows, and the block of rows that it leaves.
-/
module

public import proofs.«01_k».proof.Proof.AttnPay
public import proofs.«01_k».proof.Proof.MemattnMath
public import proofs.«01_k».proof.Proof.Gen.MemattnIdeal.Value

@[expose] public section

set_option maxRecDepth 16384

noncomputable section

open scoped BigOperators

namespace Cert.Memattn

open Cert.MemattnIdeal Cert.MemattnIdeal.Gen Cert.Rows Cert.Attn Idealize.ShloMosaic Idealize.ShloMosaic.ValueIdx Idealize.ShloMosaic.TcCoe
  Idealize.ShloMosaic.Tactic

/-! ## The queries -/

theorem rows_apply (x : Vec Ideal S1024x2048 .f32) (g : Vec Ideal S1x2048 .f32) (w : Vec Ideal S2048x512 .bf16) (r : Fin 1024) (c : Fin 512) :
    k0_pay3 (F := Ideal) x g w (ix2 r c)
      = proj (fun k => x (ix2 r k)) (fun k => g (ix2 (0 : Fin 1) k)) (fun j c => w (ix2 j c)) c := by
  unfold k0_pay3 k0_pay2
  rw [shapeCast_self, shapeCast_self, shapeCast_self]
  refine (Dots.matmul_nn (φ₁ := .bf16) (φ₂ := .bf16) _ rfl rfl rfl rfl rfl rfl none _ w r c).trans ?_
  refine Finset.sum_congr rfl fun j _ => congrArg (· * w (ix2 j c)) ?_
  exact norm_apply (by decide) (by decide) _ x g _ _ _ _ _ _ r j

/-- The queries of a block of rows. -/
def queryBlk (x : S1024x2048.Idx → EReal) (g : S1x2048.Idx → EReal) (w : S2048x512.Idx → EReal) (qg : S1x128.Idx → EReal)
    (y : S1024x512.Idx) : EReal :=
  query (fun k => x (ix2 (y 0) k)) (fun k => g (ix2 (0 : Fin 1) k)) (fun j c => w (ix2 j c)) (fun k => qg (ix2 (0 : Fin 1) k)) (y 1)

/-- The four heads of queries as the call stores them, the last one first. -/
def queryHeads (x : Vec Ideal S1024x2048 .f32) (g : Vec Ideal S1x2048 .f32) (w : Vec Ideal S2048x512 .bf16) (qg : Vec Ideal S1x128 .f32) :
    List (View.Piece (Elt Ideal) S1024x512 .bf16) :=
  [⟨Rect.unit ![0, 384] ![1024, 128] inb_S1024x512_S1024x128_0_384, k0_pay11 (k0_pay10 (k0_pay3 x g w) (k0_pay4 qg))⟩,
   ⟨Rect.unit ![0, 256] ![1024, 128] inb_S1024x512_S1024x128_0_256, k0_pay9 (k0_pay3 x g w) (k0_pay4 qg)⟩,
   ⟨Rect.unit ![0, 128] ![1024, 128] inb_S1024x512_S1024x128_0_128, k0_pay8 (k0_pay4 qg) (k0_pay6 x g w) (k0_pay7 x g w)⟩,
   ⟨Rect.unit ![0, 0] ![1024, 128] inb_S1024x512_S1024x128_0_0, k0_pay5 x g w qg⟩]

section
variable (x : Vec Ideal S1024x2048 .f32) (g : Vec Ideal S1x2048 .f32) (w : Vec Ideal S2048x512 .bf16) (qg : Vec Ideal S1x128 .f32)

/-- One head of queries as the call forms it. -/
def headOf (o : Nat) (hs : S1024x512.Slices ![0, o] S1024x128) : FVec Ideal S1024x128 .f32 :=
  mulf (mulf (extractStridedSlice S1024x128 ![0, o] (k0_pay3 (F := Ideal) x g w) hs) (broadcastTo S1024x128 (rsqrt (addf (divf
      (shapeCast S1024x1 (multiReduction (F := Ideal) FKind.add [1] S1024
        (mulf (extractStridedSlice S1024x128 ![0, o] (k0_pay3 (F := Ideal) x g w) hs)
          (extractStridedSlice S1024x128 ![0, o] (k0_pay3 (F := Ideal) x g w) hs)) 0x00000000#32 reduces_S1024x128_S1024 (.inl rfl) rfl) shapeCasts_S1024_S1024x1)
      (broadcast S1024x1 (Scalar.ofBits (F := Ideal) .f32 0x43000000#32)))
      (broadcast S1024x1 (Scalar.ofBits (F := Ideal) .f32 0x358637BD#32)))) broadcasts_S1024x1_S1024x128))
    (broadcastTo S1024x128 qg broadcasts_S1x128_S1024x128)

theorem headOf_eq (i : Nat) (hb : 128 * i + 128 ≤ 512) (hs : S1024x512.Slices ![0, 128 * i] S1024x128)
    (inb : ∀ a, (![0, 128 * i] : Fin 2 → Nat) a + S1024x128.size a ≤ S1024x512.size a) (z : S1024x128.Idx) :
    headOf x g w qg (128 * i) hs z = queryBlk x g w qg ((Rect.unit (s := S1024x512) ![0, 128 * i] S1024x128.size inb).emb z) := by
  obtain ⟨r, c, rfl⟩ : ∃ (r : Fin 1024) (c : Fin 128), z = ix2 r c := ⟨z 0, z 1, eq_ix2 z⟩
  rw [emb_cols _ _ r c (by omega)]
  unfold headOf
  refine (head_apply (by decide : 128 ∣ 512) (by decide) i (k0_pay3 (F := Ideal) x g w) _ qg hb
    (fun r k => slice_apply _ _ hs r k (by omega)) _ _ _ _ _ _ r c).trans ?_
  unfold queryBlk query
  exact congrArg (fun f => headRms (by decide : 128 ∣ 512) f (fun k => qg (ix2 (0 : Fin 1) k)) ⟨128 * i + c.val, by omega⟩)
    (funext fun k => rows_apply x g w r k)

/-- The four heads stored are the block's queries. -/
theorem queries_block : View.canon (queryHeads x g w qg) = queryBlk x g w qg := by
  have cover : ∀ y, ∃ p ∈ queryHeads x g w qg, y ∈ p.1.set := View.cover_of_tiledL _ S1024x128.size (by sl_kernel_rfl)
  funext y
  refine View.canon_apply_of_pieces (queryBlk x g w qg) _ ?_ y (cover y)
  intro p hp
  unfold queryHeads at hp
  simp only [List.mem_cons, List.not_mem_nil, or_false] at hp
  rcases hp with rfl | rfl | rfl | rfl <;> intro z <;>
    simp only [k0_pay4, k0_pay5, k0_pay6, k0_pay7, k0_pay8, k0_pay9, k0_pay10, k0_pay11, shapeCast_self]
  exacts [headOf_eq x g w qg 3 (by decide) slices_S1024x512_o0_384_S1024x128 _ z,
    headOf_eq x g w qg 2 (by decide) slices_S1024x512_o0_256_S1024x128 _ z,
    headOf_eq x g w qg 1 (by decide) slices_S1024x512_o0_128_S1024x128 _ z,
    headOf_eq x g w qg 0 (by decide) slices_S1024x512_o0_0_S1024x128 _ z]

end

/-! ## The attention -/

/-- One head's attention over a memory's rows. -/
theorem attend_apply (q : Vec Ideal S1024x128 .bf16) (k v : Vec Ideal S1x256x128 .f32) (r : Fin 1024) (c : Fin 128) :
    k0_pay12 (F := Ideal) q k v (ix2 r c)
      = lastDiv (fun n : Fin 256 => (∑ d : Fin 128, q (ix2 r d) * k (ix3 (0 : Fin 1) n d)) * Ideal.ofBits .f32 0x3DB504F3#32)
          (fun n => v (ix3 (0 : Fin 1) n c)) := by
  generalize hS : (fun n : Fin 256 => (∑ d : Fin 128, q (ix2 r d) * k (ix3 (0 : Fin 1) n d)) * Ideal.ofBits .f32 0x3DB504F3#32) = S
  unfold k0_pay12
  rw [shapeCast_self]
  generalize h96 : mulf (matmul (F := Ideal) dot_S1024x128_S256x128_S1024x256_1_1_0_0_n_n none q _
    (constant S1024x256 FTy.f32 0x00000000#32)) _ = v96
  have e96 : ∀ n, v96 (ix2 r n) = S n := by
    intro n
    rw [← h96, ← hS]
    refine congrArg (· * Ideal.ofBits .f32 0x3DB504F3#32)
      ((Dots.matmul_nt (φ₁ := .bf16) (φ₂ := .bf16) _ rfl rfl rfl rfl rfl rfl none q _ r n).trans ?_)
    exact Finset.sum_congr rfl fun d _ => congrArg (q (ix2 r d) * ·) (drop_lead_apply k _ n d)
  have e97 : ∀ h₁ h₂, multiReduction (F := Ideal) FKind.maximumf [1] S1024 v96 0xFF800000#32 reduces_S1024x256_S1024 h₁ h₂ (ix1 r) = top S := by
    intro h₁ h₂
    rw [Ideal.multiReduction_maximumf_single, ofBits_ninf]
    exact congrArg (Finset.fold max ⊥ · Finset.univ) (funext fun n => (congrArg v96 (by
      funext a; apply Fin.ext; match a with | ⟨0, _⟩ => rfl | ⟨1, _⟩ => rfl)).trans (e96 n))
  generalize h101 : exp (subf v96 _) = v101
  have e101 : ∀ n, v101 (ix2 r n) = num S n := by
    intro n
    rw [← h101]
    exact congrArg Ideal.exp (congrArg₂ (· - ·) (e96 n) ((spread_apply (by decide) _ _ _ r n).trans (e97 _ _)))
  have e102 : ∀ h₁ h₂, multiReduction (F := Ideal) FKind.add [1] S1024 v101 0x00000000#32 reduces_S1024x256_S1024 h₁ h₂ (ix1 r) = ∑ n, num S n := by
    intro h₁ h₂
    rw [Ideal.multiReduction_add_single]
    exact Finset.sum_congr rfl fun n _ => (congrArg v101 (by
      funext a; apply Fin.ext; match a with | ⟨0, _⟩ => rfl | ⟨1, _⟩ => rfl)).trans (e101 n)
  refine (congrArg₂ Ideal.div (Dots.matmul_nn (φ₁ := .bf16) (φ₂ := .bf16) _ rfl rfl rfl rfl rfl rfl none (truncf .bf16 v101 bitsLt_bf16_f32) _ r c)
    ((spread_apply (by decide) _ _ _ r c).trans (e102 _ _))).trans ?_
  exact congrArg (Ideal.div · _) (Finset.sum_congr rfl fun n _ => congrArg₂ (· * ·) (e101 n) (drop_lead_apply v _ n c))

/-- The place in a memory's block of an index of its columns `o` and on. -/
theorem emb_cols3 {a b n : Nat} (o : Nat) (inb) (z : Fin 1) (r : Fin a) (k : Fin n) (h : o + k.val < b) :
    (Rect.unit (s := ⟨3, ![1, a, b]⟩) ![0, 0, o] (⟨3, ![1, a, n]⟩ : Shape).size inb).emb (ix3 z r k) = ix3 z r ⟨o + k.val, h⟩ := by
  funext d
  apply Fin.ext
  match d with
  | ⟨0, _⟩ => show 0 + 1 * z.val = z.val; omega
  | ⟨1, _⟩ => show 0 + 1 * r.val = r.val; omega
  | ⟨2, _⟩ => show o + 1 * k.val = o + k.val; omega

/-- The heads' attention for a block of queries. -/
def attBlk (q : S1024x512.Idx → EReal) (k v : S1x256x512.Idx → EReal) (y : S1024x512.Idx) : EReal :=
  lastDiv (scores (fun c => q (ix2 (y 0) c)) (fun n c => k (ix3 (0 : Fin 1) n c))
    (⟨(y 1).val / 128, by have := (y 1).isLt; change (y 1).val < 512 at this; omega⟩ : Fin 4)) (fun n => v (ix3 (0 : Fin 1) n (y 1)))

section
variable (q : Vec Ideal S1024x512 .bf16) (k v : Vec Ideal S1x256x512 .f32)

/-- Columns `o` and on of the queries, and of the memory's keys or values. -/
abbrev colsQ (o : Nat) (inb : ∀ a, (![0, o] : Fin 2 → Nat) a + S1024x128.size a ≤ S1024x512.size a) : Vec Ideal S1024x128 .bf16 :=
  View.ld q (Rect.unit (s := S1024x512) ![0, o] S1024x128.size inb)
abbrev colsM (k : Vec Ideal S1x256x512 .f32) (o : Nat) (inb : ∀ a, (![0, 0, o] : Fin 3 → Nat) a + S1x256x128.size a ≤ S1x256x512.size a) : Vec Ideal S1x256x128 .f32 :=
  View.ld k (Rect.unit (s := S1x256x512) ![0, 0, o] S1x256x128.size inb)

theorem head_att (i : Nat) (hi : 128 * i + 128 ≤ 512) (inb) (inb3) (z : S1024x128.Idx) :
    k0_pay12 (F := Ideal) (colsQ q (128 * i) inb) (colsM k (128 * i) inb3) (colsM v (128 * i) inb3) z
      = attBlk q k v ((Rect.unit (s := S1024x512) ![0, 128 * i] S1024x128.size inb).emb z) := by
  obtain ⟨r, c, rfl⟩ : ∃ (r : Fin 1024) (c : Fin 128), z = ix2 r c := ⟨z 0, z 1, eq_ix2 z⟩
  rw [emb_cols _ _ r c (by omega), attend_apply]
  have hq : ∀ d : Fin 128, colsQ q (128 * i) inb (ix2 r d) = q (ix2 r ⟨128 * i + d.val, by omega⟩) := fun d =>
    congrArg q (emb_cols _ _ r d (by omega))
  have hm : ∀ (u : Vec Ideal S1x256x512 .f32) (n : Fin 256) (d : Fin 128), colsM u (128 * i) inb3 (ix3 (0 : Fin 1) n d)
      = u (ix3 (0 : Fin 1) n ⟨128 * i + d.val, by omega⟩) := fun u n d =>
    congrArg u (emb_cols3 _ _ (0 : Fin 1) n d (by omega))
  refine congrArg₂ lastDiv (funext fun n => congrArg (· * Ideal.ofBits .f32 0x3DB504F3#32) (Finset.sum_congr rfl fun d _ => ?_))
    (funext fun n => hm v n c)
  have e : (⟨128 * i + d.val, by omega⟩ : Fin 512) = col (⟨(128 * i + c.val) / 128, by omega⟩ : Fin 4) d :=
    Fin.ext (by show 128 * i + d.val = 128 * ((128 * i + c.val) / 128) + d.val; omega)
  refine (congrArg₂ (· * ·) (hq d) (hm k n d)).trans ?_
  rw [e]

/-- The four heads of attention as the call stores them, the last one first. -/
def attHeads : List (View.Piece (Elt Ideal) S1024x512 .bf16) :=
  [⟨Rect.unit ![0, 384] ![1024, 128] inb_S1024x512_S1024x128_0_384,
      k0_pay20 (colsQ q 384 inb_S1024x512_S1024x128_0_384) (colsM k 384 inb_S1x256x512_S1x256x128_0_0_384) (colsM v 384 inb_S1x256x512_S1x256x128_0_0_384)⟩,
   ⟨Rect.unit ![0, 256] ![1024, 128] inb_S1024x512_S1024x128_0_256,
      k0_pay19 (k0_pay16 (colsQ q 256 inb_S1024x512_S1024x128_0_256) (colsM k 256 inb_S1x256x512_S1x256x128_0_0_256))
        (k0_pay17 (colsQ q 256 inb_S1024x512_S1024x128_0_256) (colsM k 256 inb_S1x256x512_S1x256x128_0_0_256))
        (k0_pay18 (colsM v 256 inb_S1x256x512_S1x256x128_0_0_256)) (constant S1024x128 FTy.f32 0#32)⟩,
   ⟨Rect.unit ![0, 128] ![1024, 128] inb_S1024x512_S1024x128_0_128,
      k0_pay14 (k0_pay13 (colsQ q 128 inb_S1024x512_S1024x128_0_128) (colsM k 128 inb_S1x256x512_S1x256x128_0_0_128))
        (FloatOps.ofBits FTy.f32 1035273459#32) (colsM v 128 inb_S1x256x512_S1x256x128_0_0_128)⟩,
   ⟨Rect.unit ![0, 0] ![1024, 128] inb_S1024x512_S1024x128_0_0,
      k0_pay12 (colsQ q 0 inb_S1024x512_S1024x128_0_0) (colsM k 0 inb_S1x256x512_S1x256x128_0_0_0) (colsM v 0 inb_S1x256x512_S1x256x128_0_0_0)⟩]

/-- The four heads stored are the block's attention. -/
theorem att_block : View.canon (attHeads q k v) = attBlk q k v := by
  have cover : ∀ y, ∃ p ∈ attHeads q k v, y ∈ p.1.set := View.cover_of_tiledL _ S1024x128.size (by sl_kernel_rfl)
  funext y
  refine View.canon_apply_of_pieces (attBlk q k v) _ ?_ y (cover y)
  intro p hp
  unfold attHeads at hp
  simp only [List.mem_cons, List.not_mem_nil, or_false] at hp
  rcases hp with rfl | rfl | rfl | rfl <;> intro z
  exacts [head_att q k v 3 (by decide) _ inb_S1x256x512_S1x256x128_0_0_384 z,
    head_att q k v 2 (by decide) _ inb_S1x256x512_S1x256x128_0_0_256 z,
    head_att q k v 1 (by decide) _ inb_S1x256x512_S1x256x128_0_0_128 z,
    head_att q k v 0 (by decide) _ inb_S1x256x512_S1x256x128_0_0_0 z]

end

/-! ## The block of rows that a point leaves -/

/-- A load of what stores over a whole buffer left. -/
theorem readCov_ld {s : Shape} {e : EltTy} {sp : Space} (v : View sig .tc sp s e) (L : List (View.Piece (Elt Ideal) s e)) (r : Rect s) :
    v.readCov L r.toLoadRect = View.ld (View.canon L) r := View.readCov_eq_canon' v L r.toLoadRect

section
variable (c : Dev nD) (i : grid0.Coords)
  (a1 : Memref sig .tc .vmem S1024x2048 .f32) (h1 : a1.IsWhole) (a2 : Memref sig .tc .vmem S1x2048 .f32) (h2 : a2.IsWhole)
  (a3 : Memref sig .tc .vmem S2048x512 .bf16) (h3 : a3.IsWhole) (a4 : Memref sig .tc .vmem S1x128 .f32) (h4 : a4.IsWhole)
  (a5 : Memref sig .tc .vmem S1x256x512 .f32) (h5 : a5.IsWhole) (a6 : Memref sig .tc .vmem S1x256x512 .f32) (h6 : a6.IsWhole)
  (a7 : Memref sig .tc .vmem S512x2048 .bf16) (h7 : a7.IsWhole) (a8 : Memref sig .tc .vmem S1024x2048 .f32) (h8 : a8.IsWhole)
  (a9 : Memref sig .tc .vmem S1024x512 .bf16) (h9 : a9.IsWhole) (a10 : Memref sig .tc .vmem S1024x512 .bf16) (h10 : a10.IsWhole)
  (x : Vec Ideal S1024x2048 .f32) (g : Vec Ideal S1x2048 .f32) (w : Vec Ideal S2048x512 .bf16) (qg : Vec Ideal S1x128 .f32)
  (k v : Vec Ideal S1x256x512 .f32) (wo : Vec Ideal S512x2048 .bf16)

theorem out_eq : out0_A_7 (F := Ideal) c i a1 h1 a2 h2 a3 h3 a4 h4 a5 h5 a6 h6 a7 h7 a8 h8 a9 h9 a10 h10 x g w qg k v wo
    = k0_pay1 (k0_pay2 x) (k0_pay21 (View.canon (attHeads (View.canon (queryHeads x g w qg)) k v)) wo) := by
  unfold out0_A_7 kernelRun0_A attHeads queryHeads colsQ colsM
  dsimp only
  sl_unfold_words
  rw [View.read_writes_junk_eq_canon]
  simp only [View.readAt_eq_ld, h1.read_unread, h2.read_unread, h3.read_unread, h4.read_unread, h5.read_unread, h6.read_unread, h7.read_unread, readCov_ld]
  simp only [View.ld_unit_zero (S := S1024x2048) origin2, View.ld_unit_zero (S := S1x2048) origin2, View.ld_unit_zero (S := S2048x512) origin2,
    View.ld_unit_zero (S := S1x128) origin2, View.ld_unit_zero (S := S512x2048) origin2, View.ld_unit_zero (S := S1024x512) origin2,
    View.canon_unit_zero (S := S1024x2048) origin2]

theorem out_apply (r : Fin 1024) (j : Fin 2048) :
    out0_A_7 (F := Ideal) c i a1 h1 a2 h2 a3 h3 a4 h4 a5 h5 a6 h6 a7 h7 a8 h8 a9 h9 a10 h10 x g w qg k v wo (ix2 r j)
      = x (ix2 r j) + ∑ l : Fin 512, attBlk (queryBlk x g w qg) k v (ix2 r l) * wo (ix2 l j) := by
  rw [out_eq, queries_block, att_block]
  unfold k0_pay1 k0_pay2 k0_pay21
  rw [shapeCast_self, shapeCast_self]
  exact congrArg (x (ix2 r j) + ·) (Dots.matmul_nn (φ₁ := .bf16) (φ₂ := .bf16) _ rfl rfl rfl rfl rfl rfl none (attBlk (queryBlk x g w qg) k v) wo r j)

end

end Cert.Memattn

end
-- ==== Proof.MemattnValue.lean ====
/-
  The result of the cross attention to the memory tokens, in terms of its arguments.
-/
module

public import proofs.«01_k».proof.Proof.MemattnBlock

@[expose] public section

set_option maxRecDepth 16384

noncomputable section

open scoped BigOperators

namespace Cert.Memattn

open Cert.MemattnIdeal Cert.MemattnIdeal.Gen Cert.MemattnIdeal.Value Cert.Rows Cert.Attn Idealize.ShloMosaic Idealize.ShloMosaic.ValueIdx
  Idealize.ShloMosaic.TcCoe

/-! ## The result, row by row -/

/-- The queries of row `q` of sequence `p`. -/
def rowQuery (x : S8x4096x2048.Idx → EReal) (g : S2048.Idx → EReal) (w : S2048x512.Idx → EReal) (qg : S128.Idx → EReal)
    (p : Fin 8) (q : Fin 4096) : Fin 512 → EReal :=
  query (fun k => x (ix3 p q k)) (fun k => g (ix1 k)) (fun j c => w (ix2 j c)) (fun k => qg (ix1 k))

/-- Column `l` of row `n` of memory `p`, the heads side by side. -/
def memRow (k : S8x256x4x128.Idx → EReal) (p : Fin 8) (n : Fin 256) (l : Fin 512) : EReal :=
  k (ix4 p n (⟨l.val / 128, by omega⟩ : Fin 4) (⟨l.val % 128, by omega⟩ : Fin 128))

/-- Column `l` of the attention of row `q` of sequence `p`, with one division at the end. -/
def rowAtt (x : S8x4096x2048.Idx → EReal) (g : S2048.Idx → EReal) (w : S2048x512.Idx → EReal) (qg : S128.Idx → EReal)
    (k v : S8x256x4x128.Idx → EReal) (p : Fin 8) (q : Fin 4096) (l : Fin 512) : EReal :=
  lastDiv (scores (rowQuery x g w qg p q) (memRow k p) (⟨l.val / 128, by omega⟩ : Fin 4)) (fun n => memRow v p n l)

theorem idx_in : ∀ t : Fin grid0.N,
    win0_0.index t = ![t.val, 0] ∧ win0_1.index t = ![0, 0] ∧ win0_2.index t = ![0, 0] ∧ win0_3.index t = ![0, 0]
      ∧ win0_4.index t = ![t.val / 4, 0, 0] ∧ win0_5.index t = ![t.val / 4, 0, 0] ∧ win0_6.index t = ![0, 0] ∧ win0_7.index t = ![t.val, 0] := by
  decide +kernel

theorem flush_out : ∀ t : Fin cfg0.N, (cfg0.win 7).flush t = true :=
  (by decide +kernel : ∀ t : Fin grid0.N, win0_7.flush t = true)

variable (m : (ℓ : Loc nD τ sig) → Buf (Elt Ideal) ℓ) (c : Dev nD)

abbrev argX : S8x4096x2048.Idx → EReal := m ((c.tc : Thread nD τ).loc main_arg0)
abbrev argG : S2048.Idx → EReal := m ((c.tc : Thread nD τ).loc main_arg1)
abbrev argWq : S2048x512.Idx → EReal := m ((c.tc : Thread nD τ).loc main_arg2)
abbrev argQg : S128.Idx → EReal := m ((c.tc : Thread nD τ).loc main_arg3)
abbrev argK : S8x256x4x128.Idx → EReal := m ((c.tc : Thread nD τ).loc main_arg4)
abbrev argV : S8x256x4x128.Idx → EReal := m ((c.tc : Thread nD τ).loc main_arg5)
abbrev argWo : S512x2048.Idx → EReal := m ((c.tc : Thread nD τ).loc main_arg6)

set_option maxHeartbeats 4000000 in
theorem V_v0 : (V m c main_v0 : S32768x2048.Idx → EReal) = shapeCast S32768x2048 (argX m c) shapeCasts_S8x4096x2048_S32768x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v1 : (V m c main_v1 : S1x2048.Idx → EReal) = shapeCast S1x2048 (argG m c) shapeCasts_S2048_S1x2048 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v2 : (V m c main_v2 : S2048x512.Idx → EReal) = argWq m c := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v3 : (V m c main_v3 : S1x128.Idx → EReal) = shapeCast S1x128 (argQg m c) shapeCasts_S128_S1x128 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v4 : (V m c main_v4 : S8x256x512.Idx → EReal) = shapeCast S8x256x512 (argK m c) shapeCasts_S8x256x4x128_S8x256x512 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v5 : (V m c main_v5 : S8x256x512.Idx → EReal) = shapeCast S8x256x512 (argV m c) shapeCasts_S8x256x4x128_S8x256x512 := by
  simp only [V, hostOps0, StableHlo.reshape, StableHlo.TRef.binary, StableHlo.TRef.unary, StableHlo.TRef.toBuf, StableHlo.TRef.ofBuf, cast_eq]
  after_results_simp <;> rfl

set_option maxHeartbeats 4000000 in
theorem V_v6 : (V m c main_v6 : S512x2048.Idx → EReal) = argWo m c := by
  simp only [V, hostOps0, StableHlo.reshape, StableHlo.TRef.binary, StableHlo.TRef.unary, StableHlo.TRef.toBuf, StableHlo.TRef.ofBuf, cast_eq]
  after_results_simp <;> rfl

/-- Joining the heads of a memory row. -/
theorem join_apply (k : S8x256x4x128.Idx → EReal) (hs : S8x256x4x128.ShapeCasts S8x256x512) (p : Fin 8) (n : Fin 256) (l : Fin 512) :
    shapeCast S8x256x512 k hs (ix3 p n l) = memRow k p n l := by
  refine shapeCast_apply _ hs _ (ix4 p n (⟨l.val / 128, by omega⟩ : Fin 4) (⟨l.val % 128, by omega⟩ : Fin 128)) ?_
  rw [Shape.rowMajor_val_four, Shape.rowMajor_val_three]
  show ((p.val * 256 + n.val) * 4 + l.val / 128) * 128 + l.val % 128 = (p.val * 256 + n.val) * 512 + l.val
  omega

theorem blk_x (t : Fin cfg0.N) (r : Fin 1024) (k : Fin 2048) (p : Fin 8) (q : Fin 4096) (h : 1024 * t.val + r.val = p.val * 4096 + q.val) :
    (iblk m c 0 t : S1024x2048.Idx → EReal) (ix2 r k) = argX m c (ix3 p q k) := by
  show (V m c main_v0 : S32768x2048.Idx → EReal) (((cfg0.win 0).blk t).view.emb (ix2 r k)) = _
  rw [V_v0]
  have e0 : ((((cfg0.win 0).blk t).view.emb (ix2 r k)) 0).val = win0_0.index t 0 * 1024 + 1 * r.val := rfl
  have e1 : ((((cfg0.win 0).blk t).view.emb (ix2 r k)) 1).val = win0_0.index t 1 * 2048 + 1 * k.val := rfl
  rw [(idx_in t).1] at e0 e1
  have hN : t.val < 32 := lt_of_lt_of_eq t.isLt N_0
  have e : ((cfg0.win 0).blk t).view.emb (ix2 r k) = (ix2 ⟨1024 * t.val + r.val, by omega⟩ k : S32768x2048.Idx) :=
    (eq_ix2 _).trans (congrArg₂ ix2 (Fin.ext (e0.trans (by show t.val * 1024 + 1 * r.val = 1024 * t.val + r.val; omega)))
      (Fin.ext (e1.trans (by show 0 * 2048 + 1 * k.val = k.val; omega))))
  rw [e]
  exact flat_apply (argX m c) _ _ k p q h

theorem blk_g (t : Fin cfg0.N) (k : Fin 2048) : (iblk m c 1 t : S1x2048.Idx → EReal) (ix2 (0 : Fin 1) k) = argG m c (ix1 k) := by
  show (V m c main_v1 : S1x2048.Idx → EReal) (((cfg0.win 1).blk t).view.emb (ix2 (0 : Fin 1) k)) = _
  have e0 : ((((cfg0.win 1).blk t).view.emb (ix2 (0 : Fin 1) k)) 0).val = win0_1.index t 0 * 1 + 1 * 0 := rfl
  have e1 : ((((cfg0.win 1).blk t).view.emb (ix2 (0 : Fin 1) k)) 1).val = win0_1.index t 1 * 2048 + 1 * k.val := rfl
  rw [(idx_in t).2.1] at e0 e1
  have e : ((cfg0.win 1).blk t).view.emb (ix2 (0 : Fin 1) k) = (ix2 (0 : Fin 1) k : S1x2048.Idx) :=
    (eq_ix2 _).trans (congrArg₂ ix2 (Fin.ext (e0.trans (by show 0 * 1 + 1 * 0 = 0; omega)))
      (Fin.ext (e1.trans (by show 0 * 2048 + 1 * k.val = k.val; omega))))
  rw [e, V_v1]
  refine (shapeCast_addUnit_apply ![2048] (argG m c) _ (ix2 (0 : Fin 1) k)).trans (congrArg (argG m c) ?_)
  funext a
  match a with
  | ⟨0, _⟩ => rfl

theorem blk_wq (t : Fin cfg0.N) (j : Fin 2048) (k : Fin 512) : (iblk m c 2 t : S2048x512.Idx → EReal) (ix2 j k) = argWq m c (ix2 j k) := by
  show (V m c main_v2 : S2048x512.Idx → EReal) (((cfg0.win 2).blk t).view.emb (ix2 j k)) = _
  rw [V_v2]
  refine congrArg (argWq m c) (eq_ix2 _ |>.trans ?_)
  have e0 : ((((cfg0.win 2).blk t).view.emb (ix2 j k)) 0).val = win0_2.index t 0 * 2048 + 1 * j.val := rfl
  have e1 : ((((cfg0.win 2).blk t).view.emb (ix2 j k)) 1).val = win0_2.index t 1 * 512 + 1 * k.val := rfl
  rw [(idx_in t).2.2.1] at e0 e1
  refine congrArg₂ ix2 (Fin.ext ?_) (Fin.ext ?_)
  · exact e0.trans (by show 0 * 2048 + 1 * j.val = j.val; omega)
  · exact e1.trans (by show 0 * 512 + 1 * k.val = k.val; omega)

theorem blk_qg (t : Fin cfg0.N) (k : Fin 128) : (iblk m c 3 t : S1x128.Idx → EReal) (ix2 (0 : Fin 1) k) = argQg m c (ix1 k) := by
  show (V m c main_v3 : S1x128.Idx → EReal) (((cfg0.win 3).blk t).view.emb (ix2 (0 : Fin 1) k)) = _
  have e0 : ((((cfg0.win 3).blk t).view.emb (ix2 (0 : Fin 1) k)) 0).val = win0_3.index t 0 * 1 + 1 * 0 := rfl
  have e1 : ((((cfg0.win 3).blk t).view.emb (ix2 (0 : Fin 1) k)) 1).val = win0_3.index t 1 * 128 + 1 * k.val := rfl
  rw [(idx_in t).2.2.2.1] at e0 e1
  have e : ((cfg0.win 3).blk t).view.emb (ix2 (0 : Fin 1) k) = (ix2 (0 : Fin 1) k : S1x128.Idx) :=
    (eq_ix2 _).trans (congrArg₂ ix2 (Fin.ext (e0.trans (by show 0 * 1 + 1 * 0 = 0; omega)))
      (Fin.ext (e1.trans (by show 0 * 128 + 1 * k.val = k.val; omega))))
  rw [e, V_v3]
  refine (shapeCast_addUnit_apply ![128] (argQg m c) _ (ix2 (0 : Fin 1) k)).trans (congrArg (argQg m c) ?_)
  funext a
  match a with
  | ⟨0, _⟩ => rfl

theorem blk_k (t : Fin cfg0.N) (n : Fin 256) (l : Fin 512) (p : Fin 8) (h : t.val / 4 = p.val) :
    (iblk m c 4 t : S1x256x512.Idx → EReal) (ix3 (0 : Fin 1) n l) = memRow (argK m c) p n l := by
  show (V m c main_v4 : S8x256x512.Idx → EReal) (((cfg0.win 4).blk t).view.emb (ix3 (0 : Fin 1) n l)) = _
  have e0 : ((((cfg0.win 4).blk t).view.emb (ix3 (0 : Fin 1) n l)) 0).val = win0_4.index t 0 * 1 + 1 * 0 := rfl
  have e1 : ((((cfg0.win 4).blk t).view.emb (ix3 (0 : Fin 1) n l)) 1).val = win0_4.index t 1 * 256 + 1 * n.val := rfl
  have e2 : ((((cfg0.win 4).blk t).view.emb (ix3 (0 : Fin 1) n l)) 2).val = win0_4.index t 2 * 512 + 1 * l.val := rfl
  rw [(idx_in t).2.2.2.2.1] at e0 e1 e2
  have e : ((cfg0.win 4).blk t).view.emb (ix3 (0 : Fin 1) n l) = (ix3 p n l : S8x256x512.Idx) :=
    (eq_ix3 _).trans (congr (congrArg₂ ix3 (Fin.ext (e0.trans (by show t.val / 4 * 1 + 1 * 0 = p.val; omega)))
      (Fin.ext (e1.trans (by show 0 * 256 + 1 * n.val = n.val; omega)))) (Fin.ext (e2.trans (by show 0 * 512 + 1 * l.val = l.val; omega))))
  rw [e, V_v4]
  exact join_apply (argK m c) _ p n l

theorem blk_v (t : Fin cfg0.N) (n : Fin 256) (l : Fin 512) (p : Fin 8) (h : t.val / 4 = p.val) :
    (iblk m c 5 t : S1x256x512.Idx → EReal) (ix3 (0 : Fin 1) n l) = memRow (argV m c) p n l := by
  show (V m c main_v5 : S8x256x512.Idx → EReal) (((cfg0.win 5).blk t).view.emb (ix3 (0 : Fin 1) n l)) = _
  have e0 : ((((cfg0.win 5).blk t).view.emb (ix3 (0 : Fin 1) n l)) 0).val = win0_5.index t 0 * 1 + 1 * 0 := rfl
  have e1 : ((((cfg0.win 5).blk t).view.emb (ix3 (0 : Fin 1) n l)) 1).val = win0_5.index t 1 * 256 + 1 * n.val := rfl
  have e2 : ((((cfg0.win 5).blk t).view.emb (ix3 (0 : Fin 1) n l)) 2).val = win0_5.index t 2 * 512 + 1 * l.val := rfl
  rw [(idx_in t).2.2.2.2.2.1] at e0 e1 e2
  have e : ((cfg0.win 5).blk t).view.emb (ix3 (0 : Fin 1) n l) = (ix3 p n l : S8x256x512.Idx) :=
    (eq_ix3 _).trans (congr (congrArg₂ ix3 (Fin.ext (e0.trans (by show t.val / 4 * 1 + 1 * 0 = p.val; omega)))
      (Fin.ext (e1.trans (by show 0 * 256 + 1 * n.val = n.val; omega)))) (Fin.ext (e2.trans (by show 0 * 512 + 1 * l.val = l.val; omega))))
  rw [e, V_v5]
  exact join_apply (argV m c) _ p n l

theorem blk_wo (t : Fin cfg0.N) (l : Fin 512) (j : Fin 2048) : (iblk m c 6 t : S512x2048.Idx → EReal) (ix2 l j) = argWo m c (ix2 l j) := by
  show (V m c main_v6 : S512x2048.Idx → EReal) (((cfg0.win 6).blk t).view.emb (ix2 l j)) = _
  rw [V_v6]
  refine congrArg (argWo m c) (eq_ix2 _ |>.trans ?_)
  have e0 : ((((cfg0.win 6).blk t).view.emb (ix2 l j)) 0).val = win0_6.index t 0 * 512 + 1 * l.val := rfl
  have e1 : ((((cfg0.win 6).blk t).view.emb (ix2 l j)) 1).val = win0_6.index t 1 * 2048 + 1 * j.val := rfl
  rw [(idx_in t).2.2.2.2.2.2.1] at e0 e1
  refine congrArg₂ ix2 (Fin.ext ?_) (Fin.ext ?_)
  · exact e0.trans (by show 0 * 512 + 1 * l.val = l.val; omega)
  · exact e1.trans (by show 0 * 2048 + 1 * j.val = j.val; omega)

theorem emb7 (t : Fin cfg0.N) (r : Fin 1024) (j : Fin 2048) (R : Fin 32768) (h : R.val = 1024 * t.val + r.val) :
    ((cfg0.win 7).blk t).view.emb (ix2 r j) = (ix2 R j : S32768x2048.Idx) := by
  have e0 : ((((cfg0.win 7).blk t).view.emb (ix2 r j)) 0).val = win0_7.index t 0 * 1024 + 1 * r.val := rfl
  have e1 : ((((cfg0.win 7).blk t).view.emb (ix2 r j)) 1).val = win0_7.index t 1 * 2048 + 1 * j.val := rfl
  rw [(idx_in t).2.2.2.2.2.2.2] at e0 e1
  exact (eq_ix2 _).trans (congrArg₂ ix2 (Fin.ext (e0.trans (by show t.val * 1024 + 1 * r.val = R.val; omega)))
    (Fin.ext (e1.trans (by show 0 * 2048 + 1 * j.val = j.val; omega))))

theorem att_blk (t : Fin cfg0.N) (r : Fin 1024) (l : Fin 512) (p : Fin 8) (q : Fin 4096) (h : 1024 * t.val + r.val = p.val * 4096 + q.val) :
    attBlk (queryBlk (iblk m c 0 t : S1024x2048.Idx → EReal) (iblk m c 1 t : S1x2048.Idx → EReal) (iblk m c 2 t : S2048x512.Idx → EReal)
        (iblk m c 3 t : S1x128.Idx → EReal)) (iblk m c 4 t : S1x256x512.Idx → EReal) (iblk m c 5 t : S1x256x512.Idx → EReal) (ix2 r l)
      = rowAtt (argX m c) (argG m c) (argWq m c) (argQg m c) (argK m c) (argV m c) p q l := by
  have hp : t.val / 4 = p.val := by omega
  have eq : (fun c' : Fin 512 => queryBlk (iblk m c 0 t : S1024x2048.Idx → EReal) (iblk m c 1 t : S1x2048.Idx → EReal)
      (iblk m c 2 t : S2048x512.Idx → EReal) (iblk m c 3 t : S1x128.Idx → EReal) (ix2 r c'))
      = rowQuery (argX m c) (argG m c) (argWq m c) (argQg m c) p q := by
    funext c'
    show query _ _ _ _ c' = query _ _ _ _ c'
    exact congr (congr (congr (congr (congrArg query (funext fun k => blk_x m c t r k p q h)) (funext fun k => blk_g m c t k))
      (funext fun j => funext fun k => blk_wq m c t j k)) (funext fun k => blk_qg m c t k)) rfl
  have ek : (fun (n : Fin 256) (c' : Fin 512) => (iblk m c 4 t : S1x256x512.Idx → EReal) (ix3 (0 : Fin 1) n c')) = memRow (argK m c) p :=
    funext fun n => funext fun c' => blk_k m c t n c' p hp
  unfold attBlk rowAtt
  exact congrArg₂ lastDiv (congr (congrArg₂ scores eq ek) rfl) (funext fun n => blk_v m c t n l p hp)

/-- The result: each row plus its attention over its memory, times the output weights. -/
theorem result_eq (R : Fin 32768) (j : Fin 2048) (p : Fin 8) (q : Fin 4096) (h : R.val = p.val * 4096 + q.val) :
    ((dats m 0 c).arrAt 7 cfg0.N : S32768x2048.Idx → EReal) (ix2 R j)
      = argX m c (ix3 p q j)
        + ∑ l : Fin 512, rowAtt (argX m c) (argG m c) (argWq m c) (argQg m c) (argK m c) (argV m c) p q l * argWo m c (ix2 l j) := by
  have hR := R.isLt
  let t : Fin cfg0.N := ⟨R.val / 1024, lt_of_lt_of_eq (by omega) N_0.symm⟩
  let r : Fin 1024 := ⟨R.val % 1024, Nat.mod_lt _ (by decide)⟩
  have hr : R.val = 1024 * t.val + r.val := by show R.val = 1024 * (R.val / 1024) + R.val % 1024; omega
  have hb := congrFun (blocks7 (F := Ideal) m c t (flush_out t)) (ix2 r j)
  rw [flushed7_A] at hb
  rw [← emb7 t r j R hr]
  refine Eq.trans hb (Eq.trans (out_apply _ _ _ _ _ _ _ _ _ _ _ _ _ _ _ _ _ _ _ _ _ _ _ _ _ _ _ _ _ r j) ?_)
  exact congrArg₂ (· + ·) (blk_x m c t r j p q (by omega))
    (Finset.sum_congr rfl fun l _ => congrArg₂ (· * ·) (att_blk m c t r l p q (by omega)) (blk_wo m c t l j))

end Cert.Memattn

end
-- ==== Proof.MemattnRef.lean ====
/-
  The reference of the cross attention to the memory tokens, read at an index, and that the call's result is the
  reference's where the heads' gains and the keys are real numbers.
-/
module

public import proofs.«01_k».proof.Proof.MemattnValue
public import proofs.«01_k».proof.Proof.AttnFinite
public import proofs.«01_k».proof.Proof.Gen.MemattnRefIdeal.Read
public import proofs.«01_k».proof.Proof.Gen.Pre_finite_memory_scores

@[expose] public section

set_option maxRecDepth 16384

noncomputable section

open scoped BigOperators

namespace Cert.Memattn

open Cert.MemattnRefIdeal Cert.MemattnRefIdeal.Read Cert.Rows Cert.Attn Idealize.ShloMosaic Idealize.ShloMosaic.ValueIdx

variable (x0 : (⟨S8x4096x2048, .f32⟩ : BufTy).Contents (Elt Ideal)) (x1 : (⟨S2048, .f32⟩ : BufTy).Contents (Elt Ideal))
  (x2 : (⟨S2048x512, .f32⟩ : BufTy).Contents (Elt Ideal)) (x3 : (⟨S128, .f32⟩ : BufTy).Contents (Elt Ideal))
  (x4 x5 : (⟨S8x256x4x128, .f32⟩ : BufTy).Contents (Elt Ideal)) (x6 : (⟨S512x2048, .f32⟩ : BufTy).Contents (Elt Ideal))

/-! ## The queries -/

theorem ref_norm (p : Fin 8) (q : Fin 4096) (j : Fin 2048) : val_main_v12 (F := Ideal) x0 x1 (ix3 p q j)
    = rms 0x45000000#32 (fun k : Fin 2048 => x0 (ix3 p q k)) (fun k => x1 (ix1 k)) j := by
  rw [val_main_v12_apply, val_main_v9_apply, val_main_v8_apply, show idx_main_v8 (ix3 p q j) = ix3 p q (0 : Fin 1) from eq_ix3 _,
    val_main_v7_apply, val_main_v6_apply, val_main_v4_apply, val_main_v2_apply,
    show idx_main_v2 (ix3 p q (0 : Fin 1)) = ix2 p q from eq_ix2 _, val_main_v1_apply, val_main_v3_apply, val_main_v5_apply,
    val_main_v11_apply, show idx_main_v11 (ix3 p q j) = ix3 (0 : Fin 1) (0 : Fin 1) j from eq_ix3 _, val_main_v10_apply,
    show idx_main_v10 (ix3 (0 : Fin 1) (0 : Fin 1) j) = ix1 j from eq_ix1 _]
  have e : ∀ k : Fin 2048, val_main_v0 (F := Ideal) x0 (idx_main_v1 (ix2 p q) k) = x0 (ix3 p q k) * x0 (ix3 p q k) := fun k => by
    rw [show idx_main_v1 (ix2 p q) k = ix3 p q k from eq_ix3 _, val_main_v0_apply]
    rfl
  simp only [e]
  rw [show (val_main_cst (F := Ideal)) (Shape.Idx.first Gen.h_S_) = 0 from Ideal.ofBits_zero_f32, zero_add]
  rfl

/-- Row `q` of sequence `p`, normed and projected. -/
abbrev rowProj (p : Fin 8) (q : Fin 4096) : Fin 512 → EReal :=
  proj (fun k => x0 (ix3 p q k)) (fun k => x1 (ix1 k)) (fun j c => x2 (ix2 j c))

theorem ref_proj (p : Fin 8) (q : Fin 4096) (k : Fin 512) : val_main_v13 (F := Ideal) x0 x1 x2 (ix3 p q k) = rowProj x0 x1 x2 p q k := by
  rw [val_main_v13_apply]
  refine Finset.sum_congr rfl fun j _ => ?_
  rw [show lidx_main_v13 (ix3 p q k) j = ix3 p q j from eq_ix3 _, show ridx_main_v13 (ix3 p q k) j = ix2 j k from eq_ix2 _, ref_norm]

theorem ref_split (p : Fin 8) (q : Fin 4096) (h : Fin 4) (d : Fin 128) :
    val_main_v14 (F := Ideal) x0 x1 x2 (ix4 p q h d) = rowProj x0 x1 x2 p q (col h d) := by
  rw [val_main_v14_apply, show idx_main_v14 (ix4 p q h d) = ix3 p q (col h d) from
    (eq_ix3 _).trans (by
      have hp := p.isLt; have hq := q.isLt; have hh := h.isLt; have hd := d.isLt
      refine congr (congrArg₂ ix3 (Fin.ext ?_) (Fin.ext ?_)) (Fin.ext ?_)
      · show (((p.val * 4096 + q.val) * 4 + h.val) * 128 + d.val) / 2097152 = p.val; omega
      · show (((p.val * 4096 + q.val) * 4 + h.val) * 128 + d.val) / 512 % 4096 = q.val; omega
      · show (((p.val * 4096 + q.val) * 4 + h.val) * 128 + d.val) % 512 = 128 * h.val + d.val; omega), ref_proj]

theorem ref_query (p : Fin 8) (q : Fin 4096) (h : Fin 4) (d : Fin 128) :
    val_main_v27 (F := Ideal) x0 x1 x2 x3 (ix4 p q h d) = rowQuery x0 x1 x2 x3 p q (col h d) := by
  rw [val_main_v27_apply, val_main_v24_apply, ref_split, val_main_v23_apply,
    show idx_main_v23 (ix4 p q h d) = ix4 p q h (0 : Fin 1) from eq_ix4 _,
    val_main_v22_apply, val_main_v21_apply, val_main_v19_apply, val_main_v17_apply,
    show idx_main_v17 (ix4 p q h (0 : Fin 1)) = ix3 p q h from eq_ix3 _, val_main_v16_apply, val_main_v18_apply, val_main_v20_apply,
    val_main_v26_apply, show idx_main_v26 (ix4 p q h d) = ix4 (0 : Fin 1) (0 : Fin 1) (0 : Fin 1) d from eq_ix4 _, val_main_v25_apply,
    show idx_main_v25 (ix4 (0 : Fin 1) (0 : Fin 1) (0 : Fin 1) d) = ix1 d from eq_ix1 _]
  have e : ∀ k : Fin 128, val_main_v15 (F := Ideal) x0 x1 x2 (idx_main_v16 (ix3 p q h) k)
      = rowProj x0 x1 x2 p q (col h k) * rowProj x0 x1 x2 p q (col h k) := fun k => by
    rw [show idx_main_v16 (ix3 p q h) k = ix4 p q h k from eq_ix4 _, val_main_v15_apply, ref_split]
    rfl
  simp only [e]
  rw [show (val_main_cst_2 (F := Ideal)) (Shape.Idx.first Gen.h_S_) = 0 from Ideal.ofBits_zero_f32, zero_add]
  unfold rowQuery query headRms
  have ec : ∀ k : Fin 128, inHead (by decide : 128 ∣ 512) (col h d) k = col h k := fun k =>
    Fin.ext (by show 128 * ((128 * h.val + d.val) / 128) + k.val = 128 * h.val + k.val; omega)
  have ed : (⟨(col h d).val % 128, Nat.mod_lt _ (by decide)⟩ : Fin 128) = d := Fin.ext (by show (128 * h.val + d.val) % 128 = d.val; omega)
  simp only [ec, ed]
  rfl

/-! ## The attention -/

theorem memRow_col (k : S8x256x4x128.Idx → EReal) (p : Fin 8) (n : Fin 256) (h : Fin 4) (d : Fin 128) :
    memRow k p n (col h d) = k (ix4 p n h d) := by
  refine congrArg k (congrArg₂ (ix4 p n) (Fin.ext ?_) (Fin.ext ?_))
  · show (128 * h.val + d.val) / 128 = h.val; omega
  · show (128 * h.val + d.val) % 128 = d.val; omega

/-- The reference's scores. -/
abbrev refScores (p : Fin 8) (h : Fin 4) (q : Fin 4096) : Fin 256 → EReal := scores (rowQuery x0 x1 x2 x3 p q) (memRow x4 p) h

theorem ref_score (p : Fin 8) (h : Fin 4) (q : Fin 4096) (n : Fin 256) :
    val_main_v30 (F := Ideal) x0 x1 x2 x3 x4 (ix4 p h q n) = refScores x0 x1 x2 x3 x4 p h q n := by
  rw [val_main_v30_apply, val_main_v28_apply, val_main_v29_apply]
  refine congrArg (· * Ideal.ofBits .f32 0x3DB504F3#32) (Finset.sum_congr rfl fun d _ => ?_)
  rw [show lidx_main_v28 (ix4 p h q n) d = ix4 p q h d from eq_ix4 _, show ridx_main_v28 (ix4 p h q n) d = ix4 p n h d from eq_ix4 _,
    ref_query, memRow_col]

theorem ref_top (p : Fin 8) (h : Fin 4) (q : Fin 4096) :
    val_main_v33 (F := Ideal) x0 x1 x2 x3 x4 (ix3 p h q) = top (refScores x0 x1 x2 x3 x4 p h q) := by
  rw [val_main_v33_apply, val_main_v32_apply]
  have hm : val_main_v31 (F := Ideal) x0 x1 x2 x3 x4 (ix3 p h q) = top (refScores x0 x1 x2 x3 x4 p h q) := by
    unfold val_main_v31
    have hr : S8x4x4096x256.Reduces [3] S8x4x4096 := by decide
    refine (Host.reduce_eq_fold_single (α := Ideal .f32) FloatOps.maximumf (val_main_v30 (F := Ideal) x0 x1 x2 x3 x4)
      (val_main_cst_6 (F := Ideal)) Gen.reducesTo_S8x4x4096x256_S8x4x4096_d3 hr Gen.h_S_ (ix3 p h q)).trans ?_
    unfold top
    refine congrArg₂ (fun z f => Finset.fold max z f (Finset.univ : Finset (Fin 256))) ofBits_ninf ?_
    funext n
    refine Eq.trans (congrArg (val_main_v30 (F := Ideal) x0 x1 x2 x3 x4) ?_) (ref_score x0 x1 x2 x3 x4 p h q n)
    exact funext fun a => Fin.ext (by match a with | ⟨0, _⟩ => rfl | ⟨1, _⟩ => rfl | ⟨2, _⟩ => rfl | ⟨3, _⟩ => rfl)
  rw [hm]
  show max (FloatOps.ofBits (F := Ideal) .f32 0xFF800000#32) _ = _
  rw [ofBits_ninf]
  exact max_eq_right bot_le

theorem ref_num (p : Fin 8) (h : Fin 4) (q : Fin 4096) (n : Fin 256) :
    val_main_v37 (F := Ideal) x0 x1 x2 x3 x4 (ix4 p h q n) = num (refScores x0 x1 x2 x3 x4 p h q) n := by
  rw [val_main_v37_apply, val_main_v36_apply, val_main_v35_apply, val_main_v34_apply,
    show idx_main_v34 (idx_main_v35 (ix4 p h q n)) = ix3 p h q from eq_ix3 _, ref_top, ref_score]
  rfl

theorem ref_sum (p : Fin 8) (h : Fin 4) (q : Fin 4096) :
    val_main_v38 (F := Ideal) x0 x1 x2 x3 x4 (ix3 p h q) = ∑ n, num (refScores x0 x1 x2 x3 x4 p h q) n := by
  rw [val_main_v38_apply]
  refine (congrArg₂ (· + ·) (Ideal.ofBits_zero_f32) (Finset.sum_congr rfl fun n _ => ?_)).trans (zero_add _)
  rw [show idx_main_v38 (ix3 p h q) n = ix4 p h q n from eq_ix4 _, ref_num]

/-- The reference's attention, each weight divided before the weighted sum. -/
theorem ref_att (p : Fin 8) (q : Fin 4096) (l : Fin 512) :
    val_main_v44 (F := Ideal) x0 x1 x2 x3 x4 x5 (ix3 p q l)
      = firstDiv (refScores x0 x1 x2 x3 x4 p (⟨l.val / 128, by omega⟩ : Fin 4) q) (fun n => memRow x5 p n l) := by
  rw [val_main_v44_apply, val_main_v43_apply]
  have e : idx_main_v43 (idx_main_v44 (ix3 p q l)) = ix4 p (⟨l.val / 128, by omega⟩ : Fin 4) (⟨l.val % 128, by omega⟩ : Fin 128) q := by
    have hp := p.isLt; have hq := q.isLt; have hl := l.isLt
    refine (eq_ix4 _).trans ?_
    have e0 : ((p.val * 4096 + q.val) * 512 + l.val) / 2097152 = p.val := by omega
    have e1 : ((p.val * 4096 + q.val) * 512 + l.val) / 512 % 4096 = q.val := by omega
    have e2 : ((p.val * 4096 + q.val) * 512 + l.val) / 128 % 4 = l.val / 128 := by omega
    have e3 : ((p.val * 4096 + q.val) * 512 + l.val) % 128 = l.val % 128 := by omega
    exact congr (congr (congr (congrArg ix4 (Fin.ext e0)) (Fin.ext e2)) (Fin.ext e3)) (Fin.ext e1)
  rw [e, val_main_v42_apply]
  unfold firstDiv
  refine Finset.sum_congr rfl fun n _ => ?_
  rw [show lidx_main_v42 (ix4 p (⟨l.val / 128, by omega⟩ : Fin 4) (⟨l.val % 128, by omega⟩ : Fin 128) q) n
      = ix4 p n (⟨l.val / 128, by omega⟩ : Fin 4) (⟨l.val % 128, by omega⟩ : Fin 128) from eq_ix4 _,
    show ridx_main_v42 (ix4 p (⟨l.val / 128, by omega⟩ : Fin 4) (⟨l.val % 128, by omega⟩ : Fin 128) q) n
      = ix4 p (⟨l.val / 128, by omega⟩ : Fin 4) q n from eq_ix4 _, val_main_v41_apply, ref_num, val_main_v40_apply, val_main_v39_apply,
    show idx_main_v39 (idx_main_v40 (ix4 p (⟨l.val / 128, by omega⟩ : Fin 4) q n)) = ix3 p (⟨l.val / 128, by omega⟩ : Fin 4) q from eq_ix3 _, ref_sum]
  rfl

theorem ref_result (R : Fin 32768) (j : Fin 2048) (p : Fin 8) (q : Fin 4096) (h : R.val = p.val * 4096 + q.val) :
    val_main_v47 (F := Ideal) x0 x1 x2 x3 x4 x5 x6 (ix2 R j)
      = x0 (ix3 p q j) + ∑ l : Fin 512, val_main_v44 (F := Ideal) x0 x1 x2 x3 x4 x5 (ix3 p q l) * x6 (ix2 l j) := by
  have hR := R.isLt; have hj := j.isLt; have hp := p.isLt; have hq := q.isLt
  rw [val_main_v47_apply, show idx_main_v47 (ix2 R j) = ix3 p q j from (eq_ix3 _).trans (by
    refine congr (congrArg₂ ix3 (Fin.ext ?_) (Fin.ext ?_)) (Fin.ext ?_)
    · show (R.val * 2048 + j.val) / 8388608 = p.val; omega
    · show (R.val * 2048 + j.val) / 2048 % 4096 = q.val; omega
    · show (R.val * 2048 + j.val) % 2048 = j.val; omega), val_main_v46_apply, val_main_v45_apply]
  refine congrArg (x0 (ix3 p q j) + ·) (Finset.sum_congr rfl fun l _ => ?_)
  rw [show lidx_main_v45 (ix3 p q j) l = ix3 p q l from eq_ix3 _, show ridx_main_v45 (ix3 p q j) l = ix2 l j from eq_ix2 _]

/-! ## The precondition, and the two orders of division -/

/-- The precondition's two parts. -/
theorem pre_parts (hp : Cert.Pre_finite_memory_scores.fn (F := Ideal) x0 x1 x2 x3 x4 x5 x6 = fun _ => 1#1) :
    (∀ i, IsReal (x3 i)) ∧ (∀ i, IsReal (x4 i)) := by
  have j : Cert.Pre_finite_memory_scores.S_.Idx := fun a => a.elim0
  haveI : Subsingleton Cert.Pre_finite_memory_scores.S_.Idx := ⟨fun a b => funext fun z => z.elim0⟩
  obtain ⟨k3, k4⟩ := IntOp.andi_eq_one.1 (congrFun hp j)
  exact ⟨fun i => real_of_abs_lt _ (Host.reduce_andi_all _ _ _ _ j k3 i), fun i => real_of_abs_lt _ (Host.reduce_andi_all _ _ _ _ j k4 i)⟩

theorem att_eq (hp : Cert.Pre_finite_memory_scores.fn (F := Ideal) x0 x1 x2 x3 x4 x5 x6 = fun _ => 1#1) (p : Fin 8) (q : Fin 4096) (l : Fin 512) :
    rowAtt x0 x1 x2 x3 x4 x5 p q l = val_main_v44 (F := Ideal) x0 x1 x2 x3 x4 x5 (ix3 p q l) := by
  obtain ⟨h3, h4⟩ := pre_parts x0 x1 x2 x3 x4 x5 x6 hp
  rw [ref_att]
  exact order_eq (rowQuery x0 x1 x2 x3 p q) (memRow x4 p)
    (fun c => isReal_query _ _ _ _ (fun _ => h3 _) c) (fun _ _ => h4 _) _ _

section
variable (m : (ℓ : Loc nD τ Cert.MemattnIdeal.sig) → Buf (Elt Ideal) ℓ) (c : Dev nD)

/-- The call's result is the reference's. -/
theorem value_eq (hp : Cert.Pre_finite_memory_scores.fn (F := Ideal) (argX m c) (argG m c) (argWq m c) (argQg m c) (argK m c) (argV m c) (argWo m c)
      = fun _ => 1#1) :
    ((Cert.MemattnIdeal.Gen.dats m 0 c).arrAt 7 Cert.MemattnIdeal.cfg0.N : S32768x2048.Idx → EReal)
      = val_main_v47 (F := Ideal) (argX m c) (argG m c) (argWq m c) (argQg m c) (argK m c) (argV m c) (argWo m c) := by
  funext y
  obtain ⟨R, j, rfl⟩ : ∃ (R : Fin 32768) (j : Fin 2048), y = ix2 R j := ⟨y 0, y 1, eq_ix2 y⟩
  have hR := R.isLt
  have h : R.val = (⟨R.val / 4096, by omega⟩ : Fin 8).val * 4096 + (⟨R.val % 4096, by omega⟩ : Fin 4096).val := by
    show R.val = R.val / 4096 * 4096 + R.val % 4096; omega
  rw [ref_result _ _ _ _ _ _ _ R j _ _ h, result_eq m c R j _ _ h]
  exact congrArg (_ + ·) (Finset.sum_congr rfl fun l _ => congrArg (· * _) (att_eq _ _ _ _ _ _ _ hp _ _ l))

end

end Cert.Memattn

end
-- ==== Proof.lean ====
/-
  The proof of `Cert.Claim`: the frames are the generated runs and, for the projecting call, the run written here; and the value claims put the generated runs of kernel and
  reference beside the theorems of the modules imported here that say their results agree.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn1Ideal.Value
public import proofs.«01_k».proof.Proof.Gen.Ffn1RefIdeal
public import proofs.«01_k».proof.Proof.Gen.Ffn1RefIdeal.Run
public import proofs.«01_k».proof.Proof.Gen.Ffn1RefIdeal.Read
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn2Ideal.Value
public import proofs.«01_k».proof.Proof.Gen.Ffn2RefIdeal
public import proofs.«01_k».proof.Proof.Gen.Ffn2RefIdeal.Run
public import proofs.«01_k».proof.Proof.Gen.Ffn2RefIdeal.Read
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvIdeal.Value
public import proofs.«01_k».proof.Proof.Gen.MemkvRefIdeal
public import proofs.«01_k».proof.Proof.Gen.MemkvRefIdeal.Run
public import proofs.«01_k».proof.Proof.Gen.MemkvRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Memattn
public import proofs.«01_k».proof.Proof.Gen.Memattn.Skeleton
public import proofs.«01_k».proof.Proof.Gen.Memattn.Launch
public import proofs.«01_k».proof.Proof.Gen.Memattn.Points
public import proofs.«01_k».proof.Proof.Gen.Memattn.Frame
public import proofs.«01_k».proof.Proof.Gen.MemattnIdeal
public import proofs.«01_k».proof.Proof.Gen.MemattnIdeal.Skeleton
public import proofs.«01_k».proof.Proof.Gen.MemattnIdeal.Launch
public import proofs.«01_k».proof.Proof.Gen.MemattnIdeal.Points
public import proofs.«01_k».proof.Proof.Gen.MemattnIdeal.Frame
public import proofs.«01_k».proof.Proof.Gen.MemattnIdeal.Value
public import proofs.«01_k».proof.Proof.Gen.MemattnRefIdeal
public import proofs.«01_k».proof.Proof.Gen.MemattnRefIdeal.Run
public import proofs.«01_k».proof.Proof.Gen.MemattnRefIdeal.Read
public import proofs.«01_k».proof.Proof.Gen.Pre_finite_memory_scores
public import proofs.«01_k».proof.Proof.AttnClaim
public import proofs.«01_k».proof.Proof.Ffn1Ref
public import proofs.«01_k».proof.Proof.Ffn2Ref
public import proofs.«01_k».proof.Proof.MemkvRef
public import proofs.«01_k».proof.Proof.MergeRef
public import proofs.«01_k».proof.Proof.InprojRef
public import proofs.«01_k».proof.Proof.MemattnRef
public import Idealize.ShloMosaic.Adequacy
public import Idealize.ShloMosaic.Init

@[expose] public section

set_option maxRecDepth 16384

noncomputable section

namespace Cert.Proof

open Idealize.ShloMosaic Idealize.SL.Sem

/-- The attention reference runs, keeps its arguments and holds no semaphore. -/
theorem frame_attn_reference : Cert.quiescent_ReferenceIdeal := fun m ρ _ =>
  (θ_run Cert.ReferenceIdeal.defs _ _).mono (fun r h => And.intro (fun c => (h c).2)
    (Idealize.ShloMosaic.sem_eq_zero_of_no_sems (by decide) r.2)) (Cert.ReferenceIdeal.Value.run (F := Ideal) m ρ)

theorem attn_preserves : Cert.preserves_Kernel_KernelIdeal :=
  ⟨IdealRules.named_const.statement Cert.KernelIdeal.κ "mask" .f32 0xF149F2CA#32 ⊥ rfl,
    IdealRules.named_const.statement Cert.KernelIdeal.κ "scale" .f32 0x3DB504F3#32 (((Real.sqrt 128)⁻¹ : ℝ) : EReal) rfl⟩

/-- The attention kernel and its reference compute the same array over the extended reals. -/
theorem attn_algebraic : Cert.algebraic_KernelIdeal_ReferenceIdeal_pre_finite_scores := by
  intro m g m' g' hp hag
  refine ⟨fun c => Cert.KernelIdeal.Value.G5 m c, Cert.KernelIdeal.Value.run m g, ?_⟩
  refine (θ_run Cert.ReferenceIdeal.defs _ _).mono (fun r h c => ⟨(h c).1.trans ?_, (h c).2⟩)
    (Cert.ReferenceIdeal.Value.run (F := Ideal) m' g')
  obtain ⟨h0, h1, h2⟩ := hag c
  rw [Cert.ReferenceIdeal.Read.val_main_v51_eq, h0, h1, h2]
  exact Cert.Attn.results_agree m c (hp c)

/-- The reference of the first feed-forward call runs, keeps its arguments and holds no semaphore. -/
theorem frame_ffn1_reference : Cert.quiescent_Ffn1RefIdeal := fun m ρ _ =>
  (θ_run Cert.Ffn1RefIdeal.defs _ _).mono (fun r h => And.intro (fun c => (h c).2)
    (Idealize.ShloMosaic.sem_eq_zero_of_no_sems (by decide) r.2)) (Cert.Ffn1RefIdeal.Value.run (F := Ideal) m ρ)

/-- The first feed-forward call and its reference compute the same array over the extended reals. -/
theorem ffn1_algebraic : Cert.algebraic_Ffn1Ideal_Ffn1RefIdeal := by
  intro m g m' g' _ hag
  refine ⟨fun c => Cert.Ffn1Ideal.Value.G5 m c, Cert.Ffn1Ideal.Value.run m g, ?_⟩
  refine (θ_run Cert.Ffn1RefIdeal.defs _ _).mono (fun r h c => ⟨(h c).1.trans ?_, (h c).2⟩)
    (Cert.Ffn1RefIdeal.Value.run (F := Ideal) m' g')
  obtain ⟨h0, h1, h2, h3, h4⟩ := hag c
  rw [Cert.Ffn1RefIdeal.Read.val_main_v20_eq, h0, h1, h2, h3, h4]
  exact (Cert.Ffn1.value_eq m c).symm

/-- The reference of the second feed-forward call runs, keeps its arguments and holds no semaphore. -/
theorem frame_ffn2_reference : Cert.quiescent_Ffn2RefIdeal := fun m ρ _ =>
  (θ_run Cert.Ffn2RefIdeal.defs _ _).mono (fun r h => And.intro (fun c => (h c).2)
    (Idealize.ShloMosaic.sem_eq_zero_of_no_sems (by decide) r.2)) (Cert.Ffn2RefIdeal.Value.run (F := Ideal) m ρ)

/-- The second feed-forward call and its reference compute the same array over the extended reals. -/
theorem ffn2_algebraic : Cert.algebraic_Ffn2Ideal_Ffn2RefIdeal := by
  intro m g m' g' _ hag
  refine ⟨fun c => Cert.Ffn2Ideal.Value.G6 m c, Cert.Ffn2Ideal.Value.run m g, ?_⟩
  refine (θ_run Cert.Ffn2RefIdeal.defs _ _).mono (fun r h c => ⟨(h c).1.trans ?_, (h c).2⟩)
    (Cert.Ffn2RefIdeal.Value.run (F := Ideal) m' g')
  obtain ⟨h0, h1, h2, h3, h4, h5⟩ := hag c
  rw [Cert.Ffn2RefIdeal.Read.val_main_v33_eq, h0, h1, h2, h3, h4, h5]
  exact (Cert.Ffn2.value_eq m c).symm

/-- The reference of the memory's keys and values runs, keeps its arguments and holds no semaphore. -/
theorem frame_memkv_reference : Cert.quiescent_MemkvRefIdeal := fun m ρ _ =>
  (θ_run Cert.MemkvRefIdeal.defs _ _).mono (fun r h => And.intro (fun c => (h c).2.2)
    (Idealize.ShloMosaic.sem_eq_zero_of_no_sems (by decide) r.2)) (Cert.MemkvRefIdeal.Value.run (F := Ideal) m ρ)

/-- The call that makes the memory's keys and values and its reference compute the same two arrays over the extended reals. -/
theorem memkv_algebraic : Cert.algebraic_MemkvIdeal_MemkvRefIdeal := by
  intro m g m' g' _ hag
  refine ⟨fun c => (Cert.MemkvIdeal.Gen.dats m 0 c).arrAt 5 Cert.MemkvIdeal.cfg0.N,
    fun c => (Cert.MemkvIdeal.Gen.dats m 0 c).arrAt 6 Cert.MemkvIdeal.cfg0.N, Cert.MemkvIdeal.Value.run_blocks m g, ?_⟩
  refine (θ_run Cert.MemkvRefIdeal.defs _ _).mono (fun r h c => ⟨(h c).1.trans ?_, (h c).2.1.trans ?_, (h c).2.2⟩)
    (Cert.MemkvRefIdeal.Value.run (F := Ideal) m' g')
  · obtain ⟨h0, h1, h2, h3, h4⟩ := hag c
    rw [Cert.MemkvRefIdeal.Read.val_main_v30_eq, h0, h1, h2, h4]
    exact (Cert.Memkv.keys_value m c).symm
  · obtain ⟨h0, h1, h2, h3, h4⟩ := hag c
    rw [Cert.MemkvRefIdeal.Read.val_main_v31_eq, h0, h1, h3]
    exact (Cert.Memkv.values_value m c).symm

/-- The reference of the gated merge runs, keeps its arguments and holds no semaphore. -/
theorem frame_merge_reference : Cert.quiescent_MergeRefIdeal := fun m ρ _ =>
  (θ_run Cert.MergeRefIdeal.defs _ _).mono (fun r h => And.intro (fun c => (h c).2)
    (Idealize.ShloMosaic.sem_eq_zero_of_no_sems (by decide) r.2)) (Cert.MergeRefIdeal.Value.run (F := Ideal) m ρ)

/-- The gated merge and its reference compute the same array over the extended reals. -/
theorem merge_algebraic : Cert.algebraic_MergeIdeal_MergeRefIdeal := by
  intro m g m' g' _ hag
  refine ⟨fun c => Cert.MergeIdeal.Value.G9 m c, Cert.MergeIdeal.Value.run m g, ?_⟩
  refine (θ_run Cert.MergeRefIdeal.defs _ _).mono (fun r h c => ⟨(h c).1.trans ?_, (h c).2⟩)
    (Cert.MergeRefIdeal.Value.run (F := Ideal) m' g')
  obtain ⟨h0, h1, h2, h3, h4, h5, h6, h7⟩ := hag c
  rw [Cert.MergeRefIdeal.Read.val_main_v26_eq, h0, h1, h2, h3, h4, h5, h6, h7]
  exact (Cert.Merge.value_eq m c).symm

/-- The projecting call runs, keeps its arguments and leaves every counter at zero, over the extended reals. -/
theorem frame_inproj_ideal : Cert.quiescent_InprojIdeal := fun m ρ _ =>
  (θ_run Cert.InprojIdeal.defs _ _).mono (fun r h => And.intro (Cert.Inproj.args_kept m r h.1) h.2) (Cert.Inproj.run_main (F := Ideal) m ρ)

/-- Over the bits its text is the same. -/
theorem inproj_same_text : Cert.Inproj.defs (F := Bits) = Cert.InprojIdeal.defs (F := Bits) := by
  have e : Cert.Inproj.defs₀ (F := Bits) = Cert.InprojIdeal.defs₀ (F := Bits) :=
    congrArg Defs.onTc (funext fun l => match l with | ⟨0, _⟩ => funext fun _ => rfl)
  exact congrArg (Pipeline.defs (Cert.InprojIdeal.pcfgs (F := Bits))) e

/-- So the same run serves over the bits. -/
theorem frame_inproj : Cert.quiescent_Inproj := fun m ρ _ => by
  rw [inproj_same_text]
  exact (θ_run Cert.InprojIdeal.defs _ _).mono (fun _ h => And.intro (Cert.Inproj.args_kept m _ h.1) h.2) (Cert.Inproj.run_main (F := Bits) m ρ)

/-- Its reference runs, keeps its arguments and holds no semaphore. -/
theorem frame_inproj_reference : Cert.quiescent_InprojRefIdeal := fun m ρ _ =>
  (θ_run Cert.InprojRefIdeal.defs _ _).mono (fun r h => And.intro (fun c => (h c).2.2.2)
    (Idealize.ShloMosaic.sem_eq_zero_of_no_sems (by decide) r.2)) (Cert.InprojRefIdeal.Value.run (F := Ideal) m ρ)

/-- The projecting call and its reference compute the same three arrays over the extended reals. -/
theorem inproj_algebraic : Cert.algebraic_InprojIdeal_InprojRefIdeal := by
  intro m g m' g' _ hag
  refine ⟨fun c => (Cert.Inproj.dats m 0 c).arrAt 5 Cert.InprojIdeal.cfg0.N, fun c => (Cert.Inproj.dats m 0 c).arrAt 6 Cert.InprojIdeal.cfg0.N,
    fun c => (Cert.Inproj.dats m 0 c).arrAt 7 Cert.InprojIdeal.cfg0.N, ?_, ?_⟩
  · exact (θ_run Cert.InprojIdeal.defs _ _).mono
      (fun r h c => ⟨(h.1 c).1 5, (h.1 c).1 6, (h.1 c).1 7, Cert.Inproj.args_kept m r h.1 c⟩) (Cert.Inproj.run_main (F := Ideal) m g)
  refine (θ_run Cert.InprojRefIdeal.defs _ _).mono
    (fun r h c => ⟨(h c).1.trans ?_, (h c).2.1.trans ?_, (h c).2.2.1.trans ?_, (h c).2.2.2⟩) (Cert.InprojRefIdeal.Value.run (F := Ideal) m' g')
  · obtain ⟨h0, h1, h2, h3, h4⟩ := hag c
    rw [Cert.InprojRefIdeal.Read.val_main_v47_eq, h0, h1, h2, h3]
    exact (Cert.Inproj.queries_value m c).symm
  · obtain ⟨h0, h1, h2, h3, h4⟩ := hag c
    rw [Cert.InprojRefIdeal.Read.val_main_v50_eq, h0, h1, h2, h4]
    exact (Cert.Inproj.columns_value m c).symm
  · obtain ⟨h0, h1, h2, h3, h4⟩ := hag c
    rw [Cert.InprojRefIdeal.Read.val_main_v52_eq, h0, h1]
    exact (Cert.Inproj.normed_value m c).symm

/-- The reference of the cross attention to the memory tokens runs, keeps its arguments and holds no semaphore. -/
theorem frame_memattn_reference : Cert.quiescent_MemattnRefIdeal := fun m ρ _ =>
  (θ_run Cert.MemattnRefIdeal.defs _ _).mono (fun r h => And.intro (fun c => (h c).2)
    (Idealize.ShloMosaic.sem_eq_zero_of_no_sems (by decide) r.2)) (Cert.MemattnRefIdeal.Value.run (F := Ideal) m ρ)

/-- The cross attention to the memory tokens and its reference compute the same array over the extended reals, where the
    queries' gains and the memory's keys are finite. -/
theorem memattn_algebraic : Cert.algebraic_MemattnIdeal_MemattnRefIdeal_pre_finite_memory_scores := by
  intro m g m' g' hp hag
  refine ⟨fun c => (Cert.MemattnIdeal.Gen.dats m 0 c).arrAt 7 Cert.MemattnIdeal.cfg0.N, Cert.MemattnIdeal.Value.run_blocks m g, ?_⟩
  refine (θ_run Cert.MemattnRefIdeal.defs _ _).mono (fun r h c => ⟨(h c).1.trans ?_, (h c).2⟩)
    (Cert.MemattnRefIdeal.Value.run (F := Ideal) m' g')
  obtain ⟨h0, h1, h2, h3, h4, h5, h6⟩ := hag c
  rw [Cert.MemattnRefIdeal.Read.val_main_v47_eq, h0, h1, h2, h3, h4, h5, h6]
  exact (Cert.Memattn.value_eq m c (hp c)).symm

theorem claim : Cert.Claim :=
  ⟨Cert.Kernel.Gen.facts, Cert.KernelIdeal.Gen.facts, Cert.ReferenceIdeal.Gen.facts,
    Cert.Ffn1.Gen.facts, Cert.Ffn1Ideal.Gen.facts, Cert.Ffn1RefIdeal.Gen.facts,
    Cert.Ffn2.Gen.facts, Cert.Ffn2Ideal.Gen.facts, Cert.Ffn2RefIdeal.Gen.facts,
    Cert.Memkv.Gen.facts, Cert.MemkvIdeal.Gen.facts, Cert.MemkvRefIdeal.Gen.facts,
    Cert.Merge.Gen.facts, Cert.MergeIdeal.Gen.facts, Cert.MergeRefIdeal.Gen.facts,
    Cert.Inproj.Gen.facts, Cert.InprojIdeal.Gen.facts, Cert.InprojRefIdeal.Gen.facts,
    Cert.Memattn.Gen.facts, Cert.MemattnIdeal.Gen.facts, Cert.MemattnRefIdeal.Gen.facts,
    Cert.Pre_finite_scores.Gen.facts, Cert.Pre_finite_memory_scores.Gen.facts,
    fun m ρ _ => Cert.Kernel.Gen.frame m ρ,
    fun m ρ _ => Cert.KernelIdeal.Gen.frame m ρ,
    fun m ρ _ => Cert.KernelIdeal.Gen.frame m ρ,
    frame_attn_reference,
    fun m ρ _ => frame_attn_reference m ρ trivial,
    fun m ρ _ => Cert.Ffn1.Gen.frame m ρ,
    fun m ρ _ => Cert.Ffn1Ideal.Gen.frame m ρ,
    frame_ffn1_reference,
    fun m ρ _ => Cert.Ffn2.Gen.frame m ρ,
    fun m ρ _ => Cert.Ffn2Ideal.Gen.frame m ρ,
    frame_ffn2_reference,
    fun m ρ _ => Cert.Memkv.Gen.frame m ρ,
    fun m ρ _ => Cert.MemkvIdeal.Gen.frame m ρ,
    frame_memkv_reference,
    fun m ρ _ => Cert.Merge.Gen.frame m ρ,
    fun m ρ _ => Cert.MergeIdeal.Gen.frame m ρ,
    frame_merge_reference,
    frame_inproj,
    frame_inproj_ideal,
    frame_inproj_reference,
    fun m ρ _ => Cert.Memattn.Gen.frame m ρ,
    fun m ρ _ => Cert.MemattnIdeal.Gen.frame m ρ,
    fun m ρ _ => Cert.MemattnIdeal.Gen.frame m ρ,
    frame_memattn_reference,
    fun m ρ _ => frame_memattn_reference m ρ trivial,
    attn_preserves,
    attn_algebraic,
    trivial,
    ffn1_algebraic,
    trivial,
    ffn2_algebraic,
    trivial,
    memkv_algebraic,
    trivial,
    merge_algebraic,
    trivial,
    inproj_algebraic,
    trivial,
    memattn_algebraic⟩

end Cert.Proof

end
